-- ==== Defs.lean ====
def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_Fc1 (m : (ℓ : Loc Cert.Fc1.nD Cert.Fc1.τ Cert.Fc1.sig) → Buf (Elt Bits) ℓ) : Prop :=
  True

def Pre_Fc1Ideal (m : (ℓ : Loc Cert.Fc1Ideal.nD Cert.Fc1Ideal.τ Cert.Fc1Ideal.sig) → Buf (Elt Ideal) ℓ) : Prop :=
  True

def Pre_Fc1RefIdeal (m : (ℓ : Loc Cert.Fc1RefIdeal.nD Cert.Fc1RefIdeal.τ Cert.Fc1RefIdeal.sig) → Buf (Elt Ideal) ℓ) : Prop :=
  True

def Pre_Fc2 (m : (ℓ : Loc Cert.Fc2.nD Cert.Fc2.τ Cert.Fc2.sig) → Buf (Elt Bits) ℓ) : Prop :=
  True

def Pre_Fc2Ideal (m : (ℓ : Loc Cert.Fc2Ideal.nD Cert.Fc2Ideal.τ Cert.Fc2Ideal.sig) → Buf (Elt Ideal) ℓ) : Prop :=
  True

def Pre_Fc2RefIdeal (m : (ℓ : Loc Cert.Fc2RefIdeal.nD Cert.Fc2RefIdeal.τ Cert.Fc2RefIdeal.sig) → Buf (Elt Ideal) ℓ) : Prop :=
  True

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2))
      ∧ r.2.sem = fun _ => 0)

def quiescent_Fc1 [hFc1 : Cert.Fc1.Facts] : Prop :=
  ∀ (m : (ℓ : Loc Cert.Fc1.nD Cert.Fc1.τ Cert.Fc1.sig) → Buf (Elt Bits) ℓ) (g : Dev Cert.Fc1.nD → PrngReg), Pre_Fc1 m →
    θ_run (Cert.Fc1.defs (F := Bits)) (onTc (τ := Cert.Fc1.τ) (Cert.Fc1.main (F := Bits))) ⟨m, fun _ => 0, g⟩ (fun r => (∀ c : Dev Cert.Fc1.nD,
      r.2.mem ((c.tc : Thread Cert.Fc1.nD Cert.Fc1.τ).loc Cert.Fc1.main_arg0) = m ((c.tc : Thread Cert.Fc1.nD Cert.Fc1.τ).loc Cert.Fc1.main_arg0)
      ∧ r.2.mem ((c.tc : Thread Cert.Fc1.nD Cert.Fc1.τ).loc Cert.Fc1.main_arg1) = m ((c.tc : Thread Cert.Fc1.nD Cert.Fc1.τ).loc Cert.Fc1.main_arg1)
      ∧ r.2.mem ((c.tc : Thread Cert.Fc1.nD Cert.Fc1.τ).loc Cert.Fc1.main_arg2) = m ((c.tc : Thread Cert.Fc1.nD Cert.Fc1.τ).loc Cert.Fc1.main_arg2)
      ∧ r.2.mem ((c.tc : Thread Cert.Fc1.nD Cert.Fc1.τ).loc Cert.Fc1.main_arg3) = m ((c.tc : Thread Cert.Fc1.nD Cert.Fc1.τ).loc Cert.Fc1.main_arg3)
      ∧ r.2.mem ((c.tc : Thread Cert.Fc1.nD Cert.Fc1.τ).loc Cert.Fc1.main_arg4) = m ((c.tc : Thread Cert.Fc1.nD Cert.Fc1.τ).loc Cert.Fc1.main_arg4))
      ∧ r.2.sem = fun _ => 0)

def quiescent_Fc1Ideal [hFc1Ideal : Cert.Fc1Ideal.Facts] : Prop :=
  ∀ (m : (ℓ : Loc Cert.Fc1Ideal.nD Cert.Fc1Ideal.τ Cert.Fc1Ideal.sig) → Buf (Elt Ideal) ℓ) (g : Dev Cert.Fc1Ideal.nD → PrngReg), Pre_Fc1Ideal m →
    θ_run (Cert.Fc1Ideal.defs (F := Ideal)) (onTc (τ := Cert.Fc1Ideal.τ) (Cert.Fc1Ideal.main (F := Ideal))) ⟨m, fun _ => 0, g⟩ (fun r => (∀ c : Dev Cert.Fc1Ideal.nD,
      r.2.mem ((c.tc : Thread Cert.Fc1Ideal.nD Cert.Fc1Ideal.τ).loc Cert.Fc1Ideal.main_arg0) = m ((c.tc : Thread Cert.Fc1Ideal.nD Cert.Fc1Ideal.τ).loc Cert.Fc1Ideal.main_arg0)
      ∧ r.2.mem ((c.tc : Thread Cert.Fc1Ideal.nD Cert.Fc1Ideal.τ).loc Cert.Fc1Ideal.main_arg1) = m ((c.tc : Thread Cert.Fc1Ideal.nD Cert.Fc1Ideal.τ).loc Cert.Fc1Ideal.main_arg1)
      ∧ r.2.mem ((c.tc : Thread Cert.Fc1Ideal.nD Cert.Fc1Ideal.τ).loc Cert.Fc1Ideal.main_arg2) = m ((c.tc : Thread Cert.Fc1Ideal.nD Cert.Fc1Ideal.τ).loc Cert.Fc1Ideal.main_arg2)
      ∧ r.2.mem ((c.tc : Thread Cert.Fc1Ideal.nD Cert.Fc1Ideal.τ).loc Cert.Fc1Ideal.main_arg3) = m ((c.tc : Thread Cert.Fc1Ideal.nD Cert.Fc1Ideal.τ).loc Cert.Fc1Ideal.main_arg3)
      ∧ r.2.mem ((c.tc : Thread Cert.Fc1Ideal.nD Cert.Fc1Ideal.τ).loc Cert.Fc1Ideal.main_arg4) = m ((c.tc : Thread Cert.Fc1Ideal.nD Cert.Fc1Ideal.τ).loc Cert.Fc1Ideal.main_arg4))
      ∧ r.2.sem = fun _ => 0)

def quiescent_Fc1RefIdeal [hFc1RefIdeal : Cert.Fc1RefIdeal.Facts] : Prop :=
  ∀ (m : (ℓ : Loc Cert.Fc1RefIdeal.nD Cert.Fc1RefIdeal.τ Cert.Fc1RefIdeal.sig) → Buf (Elt Ideal) ℓ) (g : Dev Cert.Fc1RefIdeal.nD → PrngReg), Pre_Fc1RefIdeal m →
    θ_run (Cert.Fc1RefIdeal.defs (F := Ideal)) (onTc (τ := Cert.Fc1RefIdeal.τ) (Cert.Fc1RefIdeal.main (F := Ideal))) ⟨m, fun _ => 0, g⟩ (fun r => (∀ c : Dev Cert.Fc1RefIdeal.nD,
      r.2.mem ((c.tc : Thread Cert.Fc1RefIdeal.nD Cert.Fc1RefIdeal.τ).loc Cert.Fc1RefIdeal.main_arg0) = m ((c.tc : Thread Cert.Fc1RefIdeal.nD Cert.Fc1RefIdeal.τ).loc Cert.Fc1RefIdeal.main_arg0)
      ∧ r.2.mem ((c.tc : Thread Cert.Fc1RefIdeal.nD Cert.Fc1RefIdeal.τ).loc Cert.Fc1RefIdeal.main_arg1) = m ((c.tc : Thread Cert.Fc1RefIdeal.nD Cert.Fc1RefIdeal.τ).loc Cert.Fc1RefIdeal.main_arg1)
      ∧ r.2.mem ((c.tc : Thread Cert.Fc1RefIdeal.nD Cert.Fc1RefIdeal.τ).loc Cert.Fc1RefIdeal.main_arg2) = m ((c.tc : Thread Cert.Fc1RefIdeal.nD Cert.Fc1RefIdeal.τ).loc Cert.Fc1RefIdeal.main_arg2)
      ∧ r.2.mem ((c.tc : Thread Cert.Fc1RefIdeal.nD Cert.Fc1RefIdeal.τ).loc Cert.Fc1RefIdeal.main_arg3) = m ((c.tc : Thread Cert.Fc1RefIdeal.nD Cert.Fc1RefIdeal.τ).loc Cert.Fc1RefIdeal.main_arg3)
      ∧ r.2.mem ((c.tc : Thread Cert.Fc1RefIdeal.nD Cert.Fc1RefIdeal.τ).loc Cert.Fc1RefIdeal.main_arg4) = m ((c.tc : Thread Cert.Fc1RefIdeal.nD Cert.Fc1RefIdeal.τ).loc Cert.Fc1RefIdeal.main_arg4))
      ∧ r.2.sem = fun _ => 0)

def quiescent_Fc2 [hFc2 : Cert.Fc2.Facts] : Prop :=
  ∀ (m : (ℓ : Loc Cert.Fc2.nD Cert.Fc2.τ Cert.Fc2.sig) → Buf (Elt Bits) ℓ) (g : Dev Cert.Fc2.nD → PrngReg), Pre_Fc2 m →
    θ_run (Cert.Fc2.defs (F := Bits)) (onTc (τ := Cert.Fc2.τ) (Cert.Fc2.main (F := Bits))) ⟨m, fun _ => 0, g⟩ (fun r => (∀ c : Dev Cert.Fc2.nD,
      r.2.mem ((c.tc : Thread Cert.Fc2.nD Cert.Fc2.τ).loc Cert.Fc2.main_arg0) = m ((c.tc : Thread Cert.Fc2.nD Cert.Fc2.τ).loc Cert.Fc2.main_arg0)
      ∧ r.2.mem ((c.tc : Thread Cert.Fc2.nD Cert.Fc2.τ).loc Cert.Fc2.main_arg1) = m ((c.tc : Thread Cert.Fc2.nD Cert.Fc2.τ).loc Cert.Fc2.main_arg1)
      ∧ r.2.mem ((c.tc : Thread Cert.Fc2.nD Cert.Fc2.τ).loc Cert.Fc2.main_arg2) = m ((c.tc : Thread Cert.Fc2.nD Cert.Fc2.τ).loc Cert.Fc2.main_arg2)
      ∧ r.2.mem ((c.tc : Thread Cert.Fc2.nD Cert.Fc2.τ).loc Cert.Fc2.main_arg3) = m ((c.tc : Thread Cert.Fc2.nD Cert.Fc2.τ).loc Cert.Fc2.main_arg3)
      ∧ r.2.mem ((c.tc : Thread Cert.Fc2.nD Cert.Fc2.τ).loc Cert.Fc2.main_arg4) = m ((c.tc : Thread Cert.Fc2.nD Cert.Fc2.τ).loc Cert.Fc2.main_arg4))
      ∧ r.2.sem = fun _ => 0)

def quiescent_Fc2Ideal [hFc2Ideal : Cert.Fc2Ideal.Facts] : Prop :=
  ∀ (m : (ℓ : Loc Cert.Fc2Ideal.nD Cert.Fc2Ideal.τ Cert.Fc2Ideal.sig) → Buf (Elt Ideal) ℓ) (g : Dev Cert.Fc2Ideal.nD → PrngReg), Pre_Fc2Ideal m →
    θ_run (Cert.Fc2Ideal.defs (F := Ideal)) (onTc (τ := Cert.Fc2Ideal.τ) (Cert.Fc2Ideal.main (F := Ideal))) ⟨m, fun _ => 0, g⟩ (fun r => (∀ c : Dev Cert.Fc2Ideal.nD,
      r.2.mem ((c.tc : Thread Cert.Fc2Ideal.nD Cert.Fc2Ideal.τ).loc Cert.Fc2Ideal.main_arg0) = m ((c.tc : Thread Cert.Fc2Ideal.nD Cert.Fc2Ideal.τ).loc Cert.Fc2Ideal.main_arg0)
      ∧ r.2.mem ((c.tc : Thread Cert.Fc2Ideal.nD Cert.Fc2Ideal.τ).loc Cert.Fc2Ideal.main_arg1) = m ((c.tc : Thread Cert.Fc2Ideal.nD Cert.Fc2Ideal.τ).loc Cert.Fc2Ideal.main_arg1)
      ∧ r.2.mem ((c.tc : Thread Cert.Fc2Ideal.nD Cert.Fc2Ideal.τ).loc Cert.Fc2Ideal.main_arg2) = m ((c.tc : Thread Cert.Fc2Ideal.nD Cert.Fc2Ideal.τ).loc Cert.Fc2Ideal.main_arg2)
      ∧ r.2.mem ((c.tc : Thread Cert.Fc2Ideal.nD Cert.Fc2Ideal.τ).loc Cert.Fc2Ideal.main_arg3) = m ((c.tc : Thread Cert.Fc2Ideal.nD Cert.Fc2Ideal.τ).loc Cert.Fc2Ideal.main_arg3)
      ∧ r.2.mem ((c.tc : Thread Cert.Fc2Ideal.nD Cert.Fc2Ideal.τ).loc Cert.Fc2Ideal.main_arg4) = m ((c.tc : Thread Cert.Fc2Ideal.nD Cert.Fc2Ideal.τ).loc Cert.Fc2Ideal.main_arg4))
      ∧ r.2.sem = fun _ => 0)

def quiescent_Fc2RefIdeal [hFc2RefIdeal : Cert.Fc2RefIdeal.Facts] : Prop :=
  ∀ (m : (ℓ : Loc Cert.Fc2RefIdeal.nD Cert.Fc2RefIdeal.τ Cert.Fc2RefIdeal.sig) → Buf (Elt Ideal) ℓ) (g : Dev Cert.Fc2RefIdeal.nD → PrngReg), Pre_Fc2RefIdeal m →
    θ_run (Cert.Fc2RefIdeal.defs (F := Ideal)) (onTc (τ := Cert.Fc2RefIdeal.τ) (Cert.Fc2RefIdeal.main (F := Ideal))) ⟨m, fun _ => 0, g⟩ (fun r => (∀ c : Dev Cert.Fc2RefIdeal.nD,
      r.2.mem ((c.tc : Thread Cert.Fc2RefIdeal.nD Cert.Fc2RefIdeal.τ).loc Cert.Fc2RefIdeal.main_arg0) = m ((c.tc : Thread Cert.Fc2RefIdeal.nD Cert.Fc2RefIdeal.τ).loc Cert.Fc2RefIdeal.main_arg0)
      ∧ r.2.mem ((c.tc : Thread Cert.Fc2RefIdeal.nD Cert.Fc2RefIdeal.τ).loc Cert.Fc2RefIdeal.main_arg1) = m ((c.tc : Thread Cert.Fc2RefIdeal.nD Cert.Fc2RefIdeal.τ).loc Cert.Fc2RefIdeal.main_arg1)
      ∧ r.2.mem ((c.tc : Thread Cert.Fc2RefIdeal.nD Cert.Fc2RefIdeal.τ).loc Cert.Fc2RefIdeal.main_arg2) = m ((c.tc : Thread Cert.Fc2RefIdeal.nD Cert.Fc2RefIdeal.τ).loc Cert.Fc2RefIdeal.main_arg2)
      ∧ r.2.mem ((c.tc : Thread Cert.Fc2RefIdeal.nD Cert.Fc2RefIdeal.τ).loc Cert.Fc2RefIdeal.main_arg3) = m ((c.tc : Thread Cert.Fc2RefIdeal.nD Cert.Fc2RefIdeal.τ).loc Cert.Fc2RefIdeal.main_arg3)
      ∧ r.2.mem ((c.tc : Thread Cert.Fc2RefIdeal.nD Cert.Fc2RefIdeal.τ).loc Cert.Fc2RefIdeal.main_arg4) = m ((c.tc : Thread Cert.Fc2RefIdeal.nD Cert.Fc2RefIdeal.τ).loc Cert.Fc2RefIdeal.main_arg4))
      ∧ r.2.sem = fun _ => 0)

def preserves_Ln_LnIdeal : Prop :=
  IdealRules.bf16_pair.BufferStatement Cert.LnIdeal.S50x136x2x128 Cert.LnIdeal.S50x136x1x128
  ∧ IdealRules.bf16_pair.Statement Cert.LnIdeal.S1x1x16x128 Cert.LnIdeal.S1x1x8x128
  ∧ IdealRules.bf16_pair.Statement Cert.LnIdeal.S8x2x128 Cert.LnIdeal.S8x1x128
  ∧ IdealRules.bf16_pair.Statement Cert.LnIdeal.S16x128 Cert.LnIdeal.S8x128
  ∧ IdealRules.named_const.Statement Cert.LnIdeal.κ "inv_k" .f32 0x38A3D70A#32 ((1 / 12800 : ℝ) : EReal)

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)) →
    ∃ (v0 : (c : Dev Cert.LnIdeal.nD) → Buf (Elt Ideal) ((c.tc : Thread Cert.LnIdeal.nD Cert.LnIdeal.τ).loc Cert.LnIdeal.main_v2_0)) (v1 : (c : Dev Cert.LnIdeal.nD) → Buf (Elt Ideal) ((c.tc : Thread Cert.LnIdeal.nD Cert.LnIdeal.τ).loc Cert.LnIdeal.main_v2_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v2_0) = v0 c
          ∧ r.2.mem ((c.tc : Thread Cert.LnIdeal.nD Cert.LnIdeal.τ).loc Cert.LnIdeal.main_v2_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v6_0) = v0 c
          ∧ r.2.mem ((c.tc : Thread Cert.LnRefIdeal.nD Cert.LnRefIdeal.τ).loc Cert.LnRefIdeal.main_v6_1) = v1 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2))

def preserves_Fc1_Fc1Ideal : Prop :=
  True

def algebraic_Fc1Ideal_Fc1RefIdeal [hFc1Ideal : Cert.Fc1Ideal.Facts] [hFc1RefIdeal : Cert.Fc1RefIdeal.Facts] : Prop :=
  ∀ (m : (ℓ : Loc Cert.Fc1Ideal.nD Cert.Fc1Ideal.τ Cert.Fc1Ideal.sig) → Buf (Elt Ideal) ℓ) (g : Dev Cert.Fc1Ideal.nD → PrngReg)
    (m' : (ℓ : Loc Cert.Fc1RefIdeal.nD Cert.Fc1RefIdeal.τ Cert.Fc1RefIdeal.sig) → Buf (Elt Ideal) ℓ) (g' : Dev Cert.Fc1RefIdeal.nD → PrngReg), Pre_Fc1Ideal m →
    (∀ c : Dev Cert.Fc1Ideal.nD,
      m' ((c.tc : Thread Cert.Fc1RefIdeal.nD Cert.Fc1RefIdeal.τ).loc Cert.Fc1RefIdeal.main_arg0) = m ((c.tc : Thread Cert.Fc1Ideal.nD Cert.Fc1Ideal.τ).loc Cert.Fc1Ideal.main_arg0)
      ∧ m' ((c.tc : Thread Cert.Fc1RefIdeal.nD Cert.Fc1RefIdeal.τ).loc Cert.Fc1RefIdeal.main_arg1) = m ((c.tc : Thread Cert.Fc1Ideal.nD Cert.Fc1Ideal.τ).loc Cert.Fc1Ideal.main_arg1)
      ∧ m' ((c.tc : Thread Cert.Fc1RefIdeal.nD Cert.Fc1RefIdeal.τ).loc Cert.Fc1RefIdeal.main_arg2) = m ((c.tc : Thread Cert.Fc1Ideal.nD Cert.Fc1Ideal.τ).loc Cert.Fc1Ideal.main_arg2)
      ∧ m' ((c.tc : Thread Cert.Fc1RefIdeal.nD Cert.Fc1RefIdeal.τ).loc Cert.Fc1RefIdeal.main_arg3) = m ((c.tc : Thread Cert.Fc1Ideal.nD Cert.Fc1Ideal.τ).loc Cert.Fc1Ideal.main_arg3)
      ∧ m' ((c.tc : Thread Cert.Fc1RefIdeal.nD Cert.Fc1RefIdeal.τ).loc Cert.Fc1RefIdeal.main_arg4) = m ((c.tc : Thread Cert.Fc1Ideal.nD Cert.Fc1Ideal.τ).loc Cert.Fc1Ideal.main_arg4)) →
    ∃ (v0 : (c : Dev Cert.Fc1Ideal.nD) → Buf (Elt Ideal) ((c.tc : Thread Cert.Fc1Ideal.nD Cert.Fc1Ideal.τ).loc Cert.Fc1Ideal.main_v2_0)) (v1 : (c : Dev Cert.Fc1Ideal.nD) → Buf (Elt Ideal) ((c.tc : Thread Cert.Fc1Ideal.nD Cert.Fc1Ideal.τ).loc Cert.Fc1Ideal.main_v2_1)),
      θ_run (Cert.Fc1Ideal.defs (F := Ideal)) (onTc (τ := Cert.Fc1Ideal.τ) (Cert.Fc1Ideal.main (F := Ideal))) ⟨m, fun _ => 0, g⟩ (fun r => ∀ c : Dev Cert.Fc1Ideal.nD,
          r.2.mem ((c.tc : Thread Cert.Fc1Ideal.nD Cert.Fc1Ideal.τ).loc Cert.Fc1Ideal.main_v2_0) = v0 c
          ∧ r.2.mem ((c.tc : Thread Cert.Fc1Ideal.nD Cert.Fc1Ideal.τ).loc Cert.Fc1Ideal.main_v2_1) = v1 c
          ∧ r.2.mem ((c.tc : Thread Cert.Fc1Ideal.nD Cert.Fc1Ideal.τ).loc Cert.Fc1Ideal.main_arg0) = m ((c.tc : Thread Cert.Fc1Ideal.nD Cert.Fc1Ideal.τ).loc Cert.Fc1Ideal.main_arg0)
          ∧ r.2.mem ((c.tc : Thread Cert.Fc1Ideal.nD Cert.Fc1Ideal.τ).loc Cert.Fc1Ideal.main_arg1) = m ((c.tc : Thread Cert.Fc1Ideal.nD Cert.Fc1Ideal.τ).loc Cert.Fc1Ideal.main_arg1)
          ∧ r.2.mem ((c.tc : Thread Cert.Fc1Ideal.nD Cert.Fc1Ideal.τ).loc Cert.Fc1Ideal.main_arg2) = m ((c.tc : Thread Cert.Fc1Ideal.nD Cert.Fc1Ideal.τ).loc Cert.Fc1Ideal.main_arg2)
          ∧ r.2.mem ((c.tc : Thread Cert.Fc1Ideal.nD Cert.Fc1Ideal.τ).loc Cert.Fc1Ideal.main_arg3) = m ((c.tc : Thread Cert.Fc1Ideal.nD Cert.Fc1Ideal.τ).loc Cert.Fc1Ideal.main_arg3)
          ∧ r.2.mem ((c.tc : Thread Cert.Fc1Ideal.nD Cert.Fc1Ideal.τ).loc Cert.Fc1Ideal.main_arg4) = m ((c.tc : Thread Cert.Fc1Ideal.nD Cert.Fc1Ideal.τ).loc Cert.Fc1Ideal.main_arg4))
      ∧ θ_run (Cert.Fc1RefIdeal.defs (F := Ideal)) (onTc (τ := Cert.Fc1RefIdeal.τ) (Cert.Fc1RefIdeal.main (F := Ideal))) ⟨m', fun _ => 0, g'⟩ (fun r => ∀ c : Dev Cert.Fc1RefIdeal.nD,
          r.2.mem ((c.tc : Thread Cert.Fc1RefIdeal.nD Cert.Fc1RefIdeal.τ).loc Cert.Fc1RefIdeal.main_v3_0) = v0 c
          ∧ r.2.mem ((c.tc : Thread Cert.Fc1RefIdeal.nD Cert.Fc1RefIdeal.τ).loc Cert.Fc1RefIdeal.main_v3_1) = v1 c
          ∧ r.2.mem ((c.tc : Thread Cert.Fc1RefIdeal.nD Cert.Fc1RefIdeal.τ).loc Cert.Fc1RefIdeal.main_arg0) = m' ((c.tc : Thread Cert.Fc1RefIdeal.nD Cert.Fc1RefIdeal.τ).loc Cert.Fc1RefIdeal.main_arg0)
          ∧ r.2.mem ((c.tc : Thread Cert.Fc1RefIdeal.nD Cert.Fc1RefIdeal.τ).loc Cert.Fc1RefIdeal.main_arg1) = m' ((c.tc : Thread Cert.Fc1RefIdeal.nD Cert.Fc1RefIdeal.τ).loc Cert.Fc1RefIdeal.main_arg1)
          ∧ r.2.mem ((c.tc : Thread Cert.Fc1RefIdeal.nD Cert.Fc1RefIdeal.τ).loc Cert.Fc1RefIdeal.main_arg2) = m' ((c.tc : Thread Cert.Fc1RefIdeal.nD Cert.Fc1RefIdeal.τ).loc Cert.Fc1RefIdeal.main_arg2)
          ∧ r.2.mem ((c.tc : Thread Cert.Fc1RefIdeal.nD Cert.Fc1RefIdeal.τ).loc Cert.Fc1RefIdeal.main_arg3) = m' ((c.tc : Thread Cert.Fc1RefIdeal.nD Cert.Fc1RefIdeal.τ).loc Cert.Fc1RefIdeal.main_arg3)
          ∧ r.2.mem ((c.tc : Thread Cert.Fc1RefIdeal.nD Cert.Fc1RefIdeal.τ).loc Cert.Fc1RefIdeal.main_arg4) = m' ((c.tc : Thread Cert.Fc1RefIdeal.nD Cert.Fc1RefIdeal.τ).loc Cert.Fc1RefIdeal.main_arg4))

def preserves_Fc2_Fc2Ideal : Prop :=
  True

def algebraic_Fc2Ideal_Fc2RefIdeal [hFc2Ideal : Cert.Fc2Ideal.Facts] [hFc2RefIdeal : Cert.Fc2RefIdeal.Facts] : Prop :=
  ∀ (m : (ℓ : Loc Cert.Fc2Ideal.nD Cert.Fc2Ideal.τ Cert.Fc2Ideal.sig) → Buf (Elt Ideal) ℓ) (g : Dev Cert.Fc2Ideal.nD → PrngReg)
    (m' : (ℓ : Loc Cert.Fc2RefIdeal.nD Cert.Fc2RefIdeal.τ Cert.Fc2RefIdeal.sig) → Buf (Elt Ideal) ℓ) (g' : Dev Cert.Fc2RefIdeal.nD → PrngReg), Pre_Fc2Ideal m →
    (∀ c : Dev Cert.Fc2Ideal.nD,
      m' ((c.tc : Thread Cert.Fc2RefIdeal.nD Cert.Fc2RefIdeal.τ).loc Cert.Fc2RefIdeal.main_arg0) = m ((c.tc : Thread Cert.Fc2Ideal.nD Cert.Fc2Ideal.τ).loc Cert.Fc2Ideal.main_arg0)
      ∧ m' ((c.tc : Thread Cert.Fc2RefIdeal.nD Cert.Fc2RefIdeal.τ).loc Cert.Fc2RefIdeal.main_arg1) = m ((c.tc : Thread Cert.Fc2Ideal.nD Cert.Fc2Ideal.τ).loc Cert.Fc2Ideal.main_arg1)
      ∧ m' ((c.tc : Thread Cert.Fc2RefIdeal.nD Cert.Fc2RefIdeal.τ).loc Cert.Fc2RefIdeal.main_arg2) = m ((c.tc : Thread Cert.Fc2Ideal.nD Cert.Fc2Ideal.τ).loc Cert.Fc2Ideal.main_arg2)
      ∧ m' ((c.tc : Thread Cert.Fc2RefIdeal.nD Cert.Fc2RefIdeal.τ).loc Cert.Fc2RefIdeal.main_arg3) = m ((c.tc : Thread Cert.Fc2Ideal.nD Cert.Fc2Ideal.τ).loc Cert.Fc2Ideal.main_arg3)
      ∧ m' ((c.tc : Thread Cert.Fc2RefIdeal.nD Cert.Fc2RefIdeal.τ).loc Cert.Fc2RefIdeal.main_arg4) = m ((c.tc : Thread Cert.Fc2Ideal.nD Cert.Fc2Ideal.τ).loc Cert.Fc2Ideal.main_arg4)) →
    ∃ (v0 : (c : Dev Cert.Fc2Ideal.nD) → Buf (Elt Ideal) ((c.tc : Thread Cert.Fc2Ideal.nD Cert.Fc2Ideal.τ).loc Cert.Fc2Ideal.main_v2)),
      θ_run (Cert.Fc2Ideal.defs (F := Ideal)) (onTc (τ := Cert.Fc2Ideal.τ) (Cert.Fc2Ideal.main (F := Ideal))) ⟨m, fun _ => 0, g⟩ (fun r => ∀ c : Dev Cert.Fc2Ideal.nD,
          r.2.mem ((c.tc : Thread Cert.Fc2Ideal.nD Cert.Fc2Ideal.τ).loc Cert.Fc2Ideal.main_v2) = v0 c
          ∧ r.2.mem ((c.tc : Thread Cert.Fc2Ideal.nD Cert.Fc2Ideal.τ).loc Cert.Fc2Ideal.main_arg0) = m ((c.tc : Thread Cert.Fc2Ideal.nD Cert.Fc2Ideal.τ).loc Cert.Fc2Ideal.main_arg0)
          ∧ r.2.mem ((c.tc : Thread Cert.Fc2Ideal.nD Cert.Fc2Ideal.τ).loc Cert.Fc2Ideal.main_arg1) = m ((c.tc : Thread Cert.Fc2Ideal.nD Cert.Fc2Ideal.τ).loc Cert.Fc2Ideal.main_arg1)
          ∧ r.2.mem ((c.tc : Thread Cert.Fc2Ideal.nD Cert.Fc2Ideal.τ).loc Cert.Fc2Ideal.main_arg2) = m ((c.tc : Thread Cert.Fc2Ideal.nD Cert.Fc2Ideal.τ).loc Cert.Fc2Ideal.main_arg2)
          ∧ r.2.mem ((c.tc : Thread Cert.Fc2Ideal.nD Cert.Fc2Ideal.τ).loc Cert.Fc2Ideal.main_arg3) = m ((c.tc : Thread Cert.Fc2Ideal.nD Cert.Fc2Ideal.τ).loc Cert.Fc2Ideal.main_arg3)
          ∧ r.2.mem ((c.tc : Thread Cert.Fc2Ideal.nD Cert.Fc2Ideal.τ).loc Cert.Fc2Ideal.main_arg4) = m ((c.tc : Thread Cert.Fc2Ideal.nD Cert.Fc2Ideal.τ).loc Cert.Fc2Ideal.main_arg4))
      ∧ θ_run (Cert.Fc2RefIdeal.defs (F := Ideal)) (onTc (τ := Cert.Fc2RefIdeal.τ) (Cert.Fc2RefIdeal.main (F := Ideal))) ⟨m', fun _ => 0, g'⟩ (fun r => ∀ c : Dev Cert.Fc2RefIdeal.nD,
          r.2.mem ((c.tc : Thread Cert.Fc2RefIdeal.nD Cert.Fc2RefIdeal.τ).loc Cert.Fc2RefIdeal.main_v3) = v0 c
          ∧ r.2.mem ((c.tc : Thread Cert.Fc2RefIdeal.nD Cert.Fc2RefIdeal.τ).loc Cert.Fc2RefIdeal.main_arg0) = m' ((c.tc : Thread Cert.Fc2RefIdeal.nD Cert.Fc2RefIdeal.τ).loc Cert.Fc2RefIdeal.main_arg0)
          ∧ r.2.mem ((c.tc : Thread Cert.Fc2RefIdeal.nD Cert.Fc2RefIdeal.τ).loc Cert.Fc2RefIdeal.main_arg1) = m' ((c.tc : Thread Cert.Fc2RefIdeal.nD Cert.Fc2RefIdeal.τ).loc Cert.Fc2RefIdeal.main_arg1)
          ∧ r.2.mem ((c.tc : Thread Cert.Fc2RefIdeal.nD Cert.Fc2RefIdeal.τ).loc Cert.Fc2RefIdeal.main_arg2) = m' ((c.tc : Thread Cert.Fc2RefIdeal.nD Cert.Fc2RefIdeal.τ).loc Cert.Fc2RefIdeal.main_arg2)
          ∧ r.2.mem ((c.tc : Thread Cert.Fc2RefIdeal.nD Cert.Fc2RefIdeal.τ).loc Cert.Fc2RefIdeal.main_arg3) = m' ((c.tc : Thread Cert.Fc2RefIdeal.nD Cert.Fc2RefIdeal.τ).loc Cert.Fc2RefIdeal.main_arg3)
          ∧ r.2.mem ((c.tc : Thread Cert.Fc2RefIdeal.nD Cert.Fc2RefIdeal.τ).loc Cert.Fc2RefIdeal.main_arg4) = m' ((c.tc : Thread Cert.Fc2RefIdeal.nD Cert.Fc2RefIdeal.τ).loc Cert.Fc2RefIdeal.main_arg4))

def Claim : Prop :=
  ∃ (hLn : Cert.Ln.Facts) (hLnIdeal : Cert.LnIdeal.Facts) (hLnRefIdeal : Cert.LnRefIdeal.Facts) (hFc1 : Cert.Fc1.Facts) (hFc1Ideal : Cert.Fc1Ideal.Facts) (hFc1RefIdeal : Cert.Fc1RefIdeal.Facts) (hFc2 : Cert.Fc2.Facts) (hFc2Ideal : Cert.Fc2Ideal.Facts) (hFc2RefIdeal : Cert.Fc2RefIdeal.Facts),
    quiescent_Ln (hLn := hLn)
    ∧ quiescent_LnIdeal (hLnIdeal := hLnIdeal)
    ∧ quiescent_LnRefIdeal (hLnRefIdeal := hLnRefIdeal)
    ∧ quiescent_Fc1 (hFc1 := hFc1)
    ∧ quiescent_Fc1Ideal (hFc1Ideal := hFc1Ideal)
    ∧ quiescent_Fc1RefIdeal (hFc1RefIdeal := hFc1RefIdeal)
    ∧ quiescent_Fc2 (hFc2 := hFc2)
    ∧ quiescent_Fc2Ideal (hFc2Ideal := hFc2Ideal)
    ∧ quiescent_Fc2RefIdeal (hFc2RefIdeal := hFc2RefIdeal)
    ∧ preserves_Ln_LnIdeal
    ∧ algebraic_LnIdeal_LnRefIdeal (hLnIdeal := hLnIdeal) (hLnRefIdeal := hLnRefIdeal)
    ∧ preserves_Fc1_Fc1Ideal
    ∧ algebraic_Fc1Ideal_Fc1RefIdeal (hFc1Ideal := hFc1Ideal) (hFc1RefIdeal := hFc1RefIdeal)
    ∧ preserves_Fc2_Fc2Ideal
    ∧ algebraic_Fc2Ideal_Fc2RefIdeal (hFc2Ideal := hFc2Ideal) (hFc2RefIdeal := hFc2RefIdeal)
-- ==== Ln.lean ====
abbrev S13x32x32x3200 : Shape := ⟨4, ![13, 32, 32, 3200]⟩
abbrev S12800 : Shape := ⟨1, ![12800]⟩
abbrev S1x12800 : Shape := ⟨2, ![1, 12800]⟩
abbrev S13x256x12800 : Shape := ⟨3, ![13, 256, 12800]⟩
abbrev S13x256x128 : Shape := ⟨3, ![13, 256, 128]⟩
abbrev S1x32x16x3200 : Shape := ⟨4, ![1, 32, 16, 3200]⟩
abbrev S1x128x12800 : Shape := ⟨3, ![1, 128, 12800]⟩
abbrev S1x128x128 : Shape := ⟨3, ![1, 128, 128]⟩
abbrev S50x136x128 : Shape := ⟨3, ![50, 136, 128]⟩
abbrev S128x12800 : Shape := ⟨2, ![128, 12800]⟩
abbrev S1x32x8x3200 : Shape := ⟨4, ![1, 32, 8, 3200]⟩
abbrev S1x1x8x128 : Shape := ⟨4, ![1, 1, 8, 128]⟩
abbrev S1x1x16x128 : Shape := ⟨4, ![1, 1, 16, 128]⟩
abbrev S8x128 : Shape := ⟨2, ![8, 128]⟩
abbrev S1x136x128 : Shape := ⟨3, ![1, 136, 128]⟩
abbrev S136x128 : Shape := ⟨2, ![136, 128]⟩
abbrev S8 : Shape := ⟨1, ![8]⟩
abbrev S8x1 : Shape := ⟨2, ![8, 1]⟩
abbrev S1x128 : Shape := ⟨2, ![1, 128]⟩
abbrev S1x8x128 : Shape := ⟨3, ![1, 8, 128]⟩
abbrev S128x128 : Shape := ⟨2, ![128, 128]⟩

abbrev nBuf : Space → Nat
  | .hbm => 7
  | .vmem => 10
  | .smem => 0
  | _ => 0

abbrev bufTy : (tb : Table) → Fin (tcTables nBuf tb) → BufTy
  | .hbm, ⟨0, _⟩ => ⟨S13x32x32x3200, .bf16⟩
  | .hbm, ⟨1, _⟩ => ⟨S12800, .f32⟩
  | .hbm, ⟨2, _⟩ => ⟨S12800, .f32⟩
  | .hbm, ⟨3, _⟩ => ⟨S1x12800, .f32⟩
  | .hbm, ⟨4, _⟩ => ⟨S1x12800, .f32⟩
  | .hbm, ⟨5, _⟩ => ⟨S13x256x12800, .fp8e4m3⟩
  | .hbm, ⟨6, _⟩ => ⟨S13x256x128, .f32⟩
  | .local _ .vmem, ⟨0, _⟩ => ⟨S1x32x16x3200, .bf16⟩
  | .local _ .vmem, ⟨1, _⟩ => ⟨S1x32x16x3200, .bf16⟩
  | .local _ .vmem, ⟨2, _⟩ => ⟨S1x12800, .f32⟩
  | .local _ .vmem, ⟨3, _⟩ => ⟨S1x12800, .f32⟩
  | .local _ .vmem, ⟨4, _⟩ => ⟨S1x128x12800, .fp8e4m3⟩
  | .local _ .vmem, ⟨5, _⟩ => ⟨S1x128x12800, .fp8e4m3⟩
  | .local _ .vmem, ⟨6, _⟩ => ⟨S1x128x128, .f32⟩
  | .local _ .vmem, ⟨7, _⟩ => ⟨S1x128x128, .f32⟩
  | .local _ .vmem, ⟨8, _⟩ => ⟨S50x136x128, .i32⟩
  | .local _ .vmem, ⟨9, _⟩ => ⟨S128x12800, .f32⟩
  | _, _ => ⟨S13x32x32x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨2, ![13, 2], ![false, false]⟩

@[reducible] def k0_t1_loop : Scf.Loop 32 :=
  let c0_i32 : BitVec 32 := 0#32
  let c25_i32 : BitVec 32 := 25#32
  let v0 : BitVec 32 := Scalar.addi c0_i32 c25_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  v1482
def k0_off1 (k0_t1 : Fin k0_t1_loop.trips) : Fin 4 → Nat :=
  let c0_483 : Index := 0#32
  let c0_484 : Index := 0#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1486 : Index := Scalar.indexCast v1483
  ![0, 0, 0, v1486.toNat]
def k0_off2 (k0_t1 : Fin k0_t1_loop.trips) (c0_i32_482 : BitVec 32) : Fin 3 → Nat :=
  let c0_i32 : BitVec 32 := 0#32
  let c1_i32 : BitVec 32 := 1#32
  let arg9 : BitVec 32 := Scf.iv c0_i32 c1_i32 k0_t1
  let v1484 : BitVec 32 := Scalar.addi c0_i32_482 arg9
  let c0_i32_486 : BitVec 32 := 0#32
  let c0_i32_487 : BitVec 32 := 0#32
  ![v1484.toNat, 0, 0]
def k0_off3 (k0_t1 : Fin k0_t1_loop.trips) : Fin 4 → Nat :=
  let c0_490 : Index := 0#32
  let c2 : Index := 2#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1495 : Index := Scalar.indexCast v1483
  ![0, 2, 0, v1495.toNat]
def k0_off4 (k0_t1 : Fin k0_t1_loop.trips) : Fin 4 → Nat :=
  let c0_495 : Index := 0#32
  let c4 : Index := 4#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1504 : Index := Scalar.indexCast v1483
  ![0, 4, 0, v1504.toNat]
def k0_off5 (k0_t1 : Fin k0_t1_loop.trips) : Fin 4 → Nat :=
  let c0_501 : Index := 0#32
  let c6 : Index := 6#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1513 : Index := Scalar.indexCast v1483
  ![0, 6, 0, v1513.toNat]
def k0_off6 (k0_t1 : Fin k0_t1_loop.trips) : Fin 4 → Nat :=
  let c0_506 : Index := 0#32
  let c8_507 : Index := 8#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1522 : Index := Scalar.indexCast v1483
  ![0, 8, 0, v1522.toNat]
def k0_off7 (k0_t1 : Fin k0_t1_loop.trips) : Fin 4 → Nat :=
  let c0_513 : Index := 0#32
  let c10 : Index := 10#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1531 : Index := Scalar.indexCast v1483
  ![0, 10, 0, v1531.toNat]
def k0_off8 (k0_t1 : Fin k0_t1_loop.trips) : Fin 4 → Nat :=
  let c0_518 : Index := 0#32
  let c12 : Index := 12#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1540 : Index := Scalar.indexCast v1483
  ![0, 12, 0, v1540.toNat]
def k0_off9 (k0_t1 : Fin k0_t1_loop.trips) : Fin 4 → Nat :=
  let c0_524 : Index := 0#32
  let c14 : Index := 14#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1549 : Index := Scalar.indexCast v1483
  ![0, 14, 0, v1549.toNat]
def k0_off10 (k0_t1 : Fin k0_t1_loop.trips) : Fin 4 → Nat :=
  let c0_529 : Index := 0#32
  let c16_530 : Index := 16#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1558 : Index := Scalar.indexCast v1483
  ![0, 16, 0, v1558.toNat]
def k0_off11 (k0_t1 : Fin k0_t1_loop.trips) : Fin 4 → Nat :=
  let c0_536 : Index := 0#32
  let c18 : Index := 18#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1567 : Index := Scalar.indexCast v1483
  ![0, 18, 0, v1567.toNat]
def k0_off12 (k0_t1 : Fin k0_t1_loop.trips) : Fin 4 → Nat :=
  let c0_541 : Index := 0#32
  let c20 : Index := 20#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1576 : Index := Scalar.indexCast v1483
  ![0, 20, 0, v1576.toNat]
def k0_off13 (k0_t1 : Fin k0_t1_loop.trips) : Fin 4 → Nat :=
  let c0_547 : Index := 0#32
  let c22 : Index := 22#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1585 : Index := Scalar.indexCast v1483
  ![0, 22, 0, v1585.toNat]
def k0_off14 (k0_t1 : Fin k0_t1_loop.trips) : Fin 4 → Nat :=
  let c0_552 : Index := 0#32
  let c24_553 : Index := 24#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1594 : Index := Scalar.indexCast v1483
  ![0, 24, 0, v1594.toNat]
def k0_off15 (k0_t1 : Fin k0_t1_loop.trips) : Fin 4 → Nat :=
  let c0_559 : Index := 0#32
  let c26 : Index := 26#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1603 : Index := Scalar.indexCast v1483
  ![0, 26, 0, v1603.toNat]
def k0_off16 (k0_t1 : Fin k0_t1_loop.trips) : Fin 4 → Nat :=
  let c0_564 : Index := 0#32
  let c28 : Index := 28#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1612 : Index := Scalar.indexCast v1483
  ![0, 28, 0, v1612.toNat]
def k0_off17 (k0_t1 : Fin k0_t1_loop.trips) : Fin 4 → Nat :=
  let c0_570 : Index := 0#32
  let c30 : Index := 30#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1621 : Index := Scalar.indexCast v1483
  ![0, 30, 0, v1621.toNat]
def k0_off18 (k0_t1 : Fin k0_t1_loop.trips) : Fin 4 → Nat :=
  let c0_576 : Index := 0#32
  let c1_577 : Index := 1#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1631 : Index := Scalar.indexCast v1483
  ![0, 1, 0, v1631.toNat]
def k0_off19 (k0_t1 : Fin k0_t1_loop.trips) : Fin 4 → Nat :=
  let c0_583 : Index := 0#32
  let c3_584 : Index := 3#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1640 : Index := Scalar.indexCast v1483
  ![0, 3, 0, v1640.toNat]
def k0_off20 (k0_t1 : Fin k0_t1_loop.trips) : Fin 4 → Nat :=
  let c0_590 : Index := 0#32
  let c5_591 : Index := 5#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1649 : Index := Scalar.indexCast v1483
  ![0, 5, 0, v1649.toNat]
def k0_off21 (k0_t1 : Fin k0_t1_loop.trips) : Fin 4 → Nat :=
  let c0_597 : Index := 0#32
  let c7_598 : Index := 7#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1658 : Index := Scalar.indexCast v1483
  ![0, 7, 0, v1658.toNat]
def k0_off22 (k0_t1 : Fin k0_t1_loop.trips) : Fin 4 → Nat :=
  let c0_604 : Index := 0#32
  let c9_605 : Index := 9#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1667 : Index := Scalar.indexCast v1483
  ![0, 9, 0, v1667.toNat]
def k0_off23 (k0_t1 : Fin k0_t1_loop.trips) : Fin 4 → Nat :=
  let c0_611 : Index := 0#32
  let c11_612 : Index := 11#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1676 : Index := Scalar.indexCast v1483
  ![0, 11, 0, v1676.toNat]
def k0_off24 (k0_t1 : Fin k0_t1_loop.trips) : Fin 4 → Nat :=
  let c0_618 : Index := 0#32
  let c13_619 : Index := 13#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1685 : Index := Scalar.indexCast v1483
  ![0, 13, 0, v1685.toNat]
def k0_off25 (k0_t1 : Fin k0_t1_loop.trips) : Fin 4 → Nat :=
  let c0_625 : Index := 0#32
  let c15_626 : Index := 15#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1694 : Index := Scalar.indexCast v1483
  ![0, 15, 0, v1694.toNat]
def k0_off26 (k0_t1 : Fin k0_t1_loop.trips) : Fin 4 → Nat :=
  let c0_632 : Index := 0#32
  let c17 : Index := 17#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1703 : Index := Scalar.indexCast v1483
  ![0, 17, 0, v1703.toNat]
def k0_off27 (k0_t1 : Fin k0_t1_loop.trips) : Fin 4 → Nat :=
  let c0_638 : Index := 0#32
  let c19 : Index := 19#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1712 : Index := Scalar.indexCast v1483
  ![0, 19, 0, v1712.toNat]
def k0_off28 (k0_t1 : Fin k0_t1_loop.trips) : Fin 4 → Nat :=
  let c0_644 : Index := 0#32
  let c21 : Index := 21#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1721 : Index := Scalar.indexCast v1483
  ![0, 21, 0, v1721.toNat]
def k0_off29 (k0_t1 : Fin k0_t1_loop.trips) : Fin 4 → Nat :=
  let c0_650 : Index := 0#32
  let c23 : Index := 23#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1730 : Index := Scalar.indexCast v1483
  ![0, 23, 0, v1730.toNat]
def k0_off30 (k0_t1 : Fin k0_t1_loop.trips) : Fin 4 → Nat :=
  let c0_656 : Index := 0#32
  let c25 : Index := 25#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1739 : Index := Scalar.indexCast v1483
  ![0, 25, 0, v1739.toNat]
def k0_off31 (k0_t1 : Fin k0_t1_loop.trips) : Fin 4 → Nat :=
  let c0_662 : Index := 0#32
  let c27 : Index := 27#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1748 : Index := Scalar.indexCast v1483
  ![0, 27, 0, v1748.toNat]
def k0_off32 (k0_t1 : Fin k0_t1_loop.trips) : Fin 4 → Nat :=
  let c0_668 : Index := 0#32
  let c29 : Index := 29#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1757 : Index := Scalar.indexCast v1483
  ![0, 29, 0, v1757.toNat]
def k0_off33 (k0_t1 : Fin k0_t1_loop.trips) : Fin 4 → Nat :=
  let c0_674 : Index := 0#32
  let c31 : Index := 31#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1766 : Index := Scalar.indexCast v1483
  ![0, 31, 0, v1766.toNat]
@[reducible] def k0_t2_loop : Scf.Loop 32 :=
  let c0_i32_1 : BitVec 32 := 0#32
  let c50_i32 : BitVec 32 := 50#32
  let v2 : BitVec 32 := Scalar.addi c0_i32_1 c50_i32
  let c1_i32_2 : BitVec 32 := 1#32
  ⟨c0_i32_1, v2, c1_i32_2⟩
def k0_off34 (k0_t2 : Fin k0_t2_loop.trips) : Fin 3 → Nat :=
  let c0_i32_1 : BitVec 32 := 0#32
  let c1_i32_2 : BitVec 32 := 1#32
  let arg9 : BitVec 32 := Scf.iv c0_i32_1 c1_i32_2 k0_t2
  let c0_i32_482 : BitVec 32 := 0#32
  let c0_i32_483 : BitVec 32 := 0#32
  ![arg9.toNat, 0, 0]
@[reducible] def k0_t3_loop : Scf.Loop 32 :=
  let c0_i32_36 : BitVec 32 := 0#32
  let c50_i32_37 : BitVec 32 := 50#32
  let v100 : BitVec 32 := Scalar.addi c0_i32_36 c50_i32_37
  let c1_i32_38 : BitVec 32 := 1#32
  ⟨c0_i32_36, v100, c1_i32_38⟩
def k0_off35 (k0_t3 : Fin k0_t3_loop.trips) : Fin 3 → Nat :=
  let c0_i32_36 : BitVec 32 := 0#32
  let c1_i32_38 : BitVec 32 := 1#32
  let arg9 : BitVec 32 := Scf.iv c0_i32_36 c1_i32_38 k0_t3
  let c0_i32_482 : BitVec 32 := 0#32
  let c0_i32_483 : BitVec 32 := 0#32
  ![arg9.toNat, 0, 0]
@[reducible] def k0_t4_loop : Scf.Loop 32 :=
  let c0_i32_88 : BitVec 32 := 0#32
  let c50_i32_89 : BitVec 32 := 50#32
  let v246 : BitVec 32 := Scalar.addi c0_i32_88 c50_i32_89
  let c1_i32_90 : BitVec 32 := 1#32
  ⟨c0_i32_88, v246, c1_i32_90⟩
def k0_off36 (k0_t4 : Fin k0_t4_loop.trips) : Fin 3 → Nat :=
  let c0_i32_88 : BitVec 32 := 0#32
  let c1_i32_90 : BitVec 32 := 1#32
  let arg9 : BitVec 32 := Scf.iv c0_i32_88 c1_i32_90 k0_t4
  let c0_i32_482 : BitVec 32 := 0#32
  let c0_i32_483 : BitVec 32 := 0#32
  ![arg9.toNat, 0, 0]
def k0_mult2 (k0_t4 : Fin k0_t4_loop.trips) : BitVec 32 :=
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let c0_i32_539 : BitVec 32 := 0#32
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  v1553
def k0_off37 (k0_t4 : Fin k0_t4_loop.trips) (c0_i32_539 : BitVec 32) : Fin 2 → Nat :=
  let c0_541 : Index := 0#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1555 : Index := Scalar.indexCast v1554
  ![0, v1555.toNat]
def k0_off38 (k0_t4 : Fin k0_t4_loop.trips) (c0_i32_539 : BitVec 32) : Fin 2 → Nat :=
  let c0_543 : Index := 0#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1570 : Index := Scalar.indexCast v1554
  ![0, v1570.toNat]
def k0_off39 (k0_t4 : Fin k0_t4_loop.trips) (c0_i32_539 : BitVec 32) : Fin 2 → Nat :=
  let c8_545 : Index := 8#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1585 : Index := Scalar.indexCast v1554
  ![8, v1585.toNat]
def k0_off40 (k0_t4 : Fin k0_t4_loop.trips) (c0_i32_539 : BitVec 32) : Fin 2 → Nat :=
  let c16_547 : Index := 16#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1600 : Index := Scalar.indexCast v1554
  ![16, v1600.toNat]
def k0_off41 (k0_t4 : Fin k0_t4_loop.trips) (c0_i32_539 : BitVec 32) : Fin 2 → Nat :=
  let c24_549 : Index := 24#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1615 : Index := Scalar.indexCast v1554
  ![24, v1615.toNat]
def k0_off42 (k0_t4 : Fin k0_t4_loop.trips) (c0_i32_539 : BitVec 32) : Fin 2 → Nat :=
  let c32_551 : Index := 32#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1630 : Index := Scalar.indexCast v1554
  ![32, v1630.toNat]
def k0_off43 (k0_t4 : Fin k0_t4_loop.trips) (c0_i32_539 : BitVec 32) : Fin 2 → Nat :=
  let c40_553 : Index := 40#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1645 : Index := Scalar.indexCast v1554
  ![40, v1645.toNat]
def k0_off44 (k0_t4 : Fin k0_t4_loop.trips) (c0_i32_539 : BitVec 32) : Fin 2 → Nat :=
  let c48_555 : Index := 48#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1660 : Index := Scalar.indexCast v1554
  ![48, v1660.toNat]
def k0_off45 (k0_t4 : Fin k0_t4_loop.trips) (c0_i32_539 : BitVec 32) : Fin 2 → Nat :=
  let c56_557 : Index := 56#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1675 : Index := Scalar.indexCast v1554
  ![56, v1675.toNat]
def k0_off46 (k0_t4 : Fin k0_t4_loop.trips) (c0_i32_539 : BitVec 32) : Fin 2 → Nat :=
  let c64_559 : Index := 64#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1690 : Index := Scalar.indexCast v1554
  ![64, v1690.toNat]
def k0_off47 (k0_t4 : Fin k0_t4_loop.trips) (c0_i32_539 : BitVec 32) : Fin 2 → Nat :=
  let c72_561 : Index := 72#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1705 : Index := Scalar.indexCast v1554
  ![72, v1705.toNat]
def k0_off48 (k0_t4 : Fin k0_t4_loop.trips) (c0_i32_539 : BitVec 32) : Fin 2 → Nat :=
  let c80_563 : Index := 80#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1720 : Index := Scalar.indexCast v1554
  ![80, v1720.toNat]
def k0_off49 (k0_t4 : Fin k0_t4_loop.trips) (c0_i32_539 : BitVec 32) : Fin 2 → Nat :=
  let c88_565 : Index := 88#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1735 : Index := Scalar.indexCast v1554
  ![88, v1735.toNat]
def k0_off50 (k0_t4 : Fin k0_t4_loop.trips) (c0_i32_539 : BitVec 32) : Fin 2 → Nat :=
  let c96_567 : Index := 96#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1750 : Index := Scalar.indexCast v1554
  ![96, v1750.toNat]
def k0_off51 (k0_t4 : Fin k0_t4_loop.trips) (c0_i32_539 : BitVec 32) : Fin 2 → Nat :=
  let c104_569 : Index := 104#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1765 : Index := Scalar.indexCast v1554
  ![104, v1765.toNat]
def k0_off52 (k0_t4 : Fin k0_t4_loop.trips) (c0_i32_539 : BitVec 32) : Fin 2 → Nat :=
  let c112_571 : Index := 112#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1780 : Index := Scalar.indexCast v1554
  ![112, v1780.toNat]
def k0_off53 (k0_t4 : Fin k0_t4_loop.trips) (c0_i32_539 : BitVec 32) : Fin 2 → Nat :=
  let c120_573 : Index := 120#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1795 : Index := Scalar.indexCast v1554
  ![120, v1795.toNat]
def k0_mult3 (k0_t4 : Fin k0_t4_loop.trips) : BitVec 32 :=
  let c2_i32_581 : BitVec 32 := 2#32
  let c0_i32_88 : BitVec 32 := 0#32
  let c1_i32_90 : BitVec 32 := 1#32
  let arg9 : BitVec 32 := Scf.iv c0_i32_88 c1_i32_90 k0_t4
  let c0_i32_575 : BitVec 32 := 0#32
  let v1802 : BitVec 1 := Scalar.cmpi .sgt arg9 c0_i32_575
  let v1803 : BitVec 32 := Scalar.extui v1802
  let c0_i32_576 : BitVec 32 := 0#32
  let v1804 : BitVec 1 := Scalar.cmpi .slt arg9 c0_i32_576
  let v1805 : BitVec 32 := Scalar.extui v1804
  let v1806 : BitVec 32 := Scalar.subi v1803 v1805
  let c25_i32_574 : BitVec 32 := 25#32
  let c0_i32_577 : BitVec 32 := 0#32
  let v1807 : BitVec 1 := Scalar.cmpi .sgt c25_i32_574 c0_i32_577
  let v1808 : BitVec 32 := Scalar.extui v1807
  let c0_i32_578 : BitVec 32 := 0#32
  let v1809 : BitVec 1 := Scalar.cmpi .slt c25_i32_574 c0_i32_578
  let v1810 : BitVec 32 := Scalar.extui v1809
  let v1811 : BitVec 32 := Scalar.subi v1808 v1810
  let v1812 : BitVec 1 := Scalar.cmpi .ne v1806 v1811
  let v1813 : BitVec 32 := Scalar.remsi arg9 c25_i32_574
  let c0_i32_579 : BitVec 32 := 0#32
  let v1814 : BitVec 1 := Scalar.cmpi .ne v1813 c0_i32_579
  let v1815 : BitVec 1 := Scalar.andi v1812 v1814
  let v1801 : BitVec 32 := Scalar.divsi arg9 c25_i32_574
  let c1_i32_580 : BitVec 32 := 1#32
  let v1816 : BitVec 32 := Scalar.subi v1801 c1_i32_580
  let v1817 : BitVec 32 := Scalar.select v1815 v1816 v1801
  let v1818 : BitVec 32 := Scalar.muli c2_i32_581 v1817
  let c1_i32_582 : BitVec 32 := 1#32
  let v1819 : BitVec 32 := Scalar.addi v1818 c1_i32_582
  let c3200_i32_583 : BitVec 32 := 3200#32
  let v1820 : BitVec 32 := Scalar.muli v1819 c3200_i32_583
  let c25_i32_584 : BitVec 32 := 25#32
  let v1821 : BitVec 32 := Scalar.muli v1817 c25_i32_584
  let v1822 : BitVec 32 := Scalar.subi arg9 v1821
  let c128_i32_585 : BitVec 32 := 128#32
  let v1823 : BitVec 32 := Scalar.muli v1822 c128_i32_585
  let v1824 : BitVec 32 := Scalar.addi v1820 v1823
  v1824
@[reducible] def k0_t5_loop : Scf.Loop 32 :=
  let c0_i32_479 : BitVec 32 := 0#32
  let c100_i32 : BitVec 32 := 100#32
  let v1481 : BitVec 32 := Scalar.addi c0_i32_479 c100_i32
  let c1_i32_480 : BitVec 32 := 1#32
  ⟨c0_i32_479, v1481, c1_i32_480⟩
def k0_mult4 (k0_t5 : Fin k0_t5_loop.trips) : BitVec 32 :=
  let c0_i32_479 : BitVec 32 := 0#32
  let c1_i32_480 : BitVec 32 := 1#32
  let arg9 : BitVec 32 := Scf.iv c0_i32_479 c1_i32_480 k0_t5
  let c128_i32 : BitVec 32 := 128#32
  let v1482 : BitVec 32 := Scalar.muli arg9 c128_i32
  v1482
def k0_off54 (k0_t5 : Fin k0_t5_loop.trips) : Fin 2 → Nat :=
  let c0_482 : Index := 0#32
  let c0_i32_479 : BitVec 32 := 0#32
  let c1_i32_480 : BitVec 32 := 1#32
  let arg9 : BitVec 32 := Scf.iv c0_i32_479 c1_i32_480 k0_t5
  let c128_i32 : BitVec 32 := 128#32
  let v1482 : BitVec 32 := Scalar.muli arg9 c128_i32
  let v1483 : BitVec 32 := v1482
  let v1484 : Index := Scalar.indexCast v1483
  ![0, v1484.toNat]
def k0_off55 (k0_t5 : Fin k0_t5_loop.trips) : Fin 3 → Nat :=
  let c0_485 : Index := 0#32
  let c0_486 : Index := 0#32
  let c0_i32_479 : BitVec 32 := 0#32
  let c1_i32_480 : BitVec 32 := 1#32
  let arg9 : BitVec 32 := Scf.iv c0_i32_479 c1_i32_480 k0_t5
  let c128_i32 : BitVec 32 := 128#32
  let v1482 : BitVec 32 := Scalar.muli arg9 c128_i32
  let v1483 : BitVec 32 := v1482
  let v1492 : Index := Scalar.indexCast v1483
  ![0, 0, v1492.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x16x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x12800 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x12800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x12800 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== LnIdeal.lean ====
abbrev S13x32x32x3200 : Shape := ⟨4, ![13, 32, 32, 3200]⟩
abbrev S12800 : Shape := ⟨1, ![12800]⟩
abbrev S1x12800 : Shape := ⟨2, ![1, 12800]⟩
abbrev S13x256x12800 : Shape := ⟨3, ![13, 256, 12800]⟩
abbrev S13x256x128 : Shape := ⟨3, ![13, 256, 128]⟩
abbrev S1x32x16x3200 : Shape := ⟨4, ![1, 32, 16, 3200]⟩
abbrev S1x128x12800 : Shape := ⟨3, ![1, 128, 12800]⟩
abbrev S1x128x128 : Shape := ⟨3, ![1, 128, 128]⟩
abbrev S50x136x128 : Shape := ⟨3, ![50, 136, 128]⟩
abbrev S50x136x2x128 : Shape := ⟨4, ![50, 136, 2, 128]⟩
abbrev S50x136x1x128 : Shape := ⟨4, ![50, 136, 1, 128]⟩
abbrev S128x12800 : Shape := ⟨2, ![128, 12800]⟩
abbrev S1x32x8x3200 : Shape := ⟨4, ![1, 32, 8, 3200]⟩
abbrev S1x1x8x128 : Shape := ⟨4, ![1, 1, 8, 128]⟩
abbrev S1x1x16x128 : Shape := ⟨4, ![1, 1, 16, 128]⟩
abbrev S8x128 : Shape := ⟨2, ![8, 128]⟩
abbrev S1x136x2x128 : Shape := ⟨4, ![1, 136, 2, 128]⟩
abbrev S136x2x128 : Shape := ⟨3, ![136, 2, 128]⟩
abbrev S8x2x128 : Shape := ⟨3, ![8, 2, 128]⟩
abbrev S8x1x128 : Shape := ⟨3, ![8, 1, 128]⟩
abbrev S16x128 : Shape := ⟨2, ![16, 128]⟩
abbrev S8 : Shape := ⟨1, ![8]⟩
abbrev S8x1 : Shape := ⟨2, ![8, 1]⟩
abbrev S1x128 : Shape := ⟨2, ![1, 128]⟩
abbrev S1x8x128 : Shape := ⟨3, ![1, 8, 128]⟩
abbrev S128x128 : Shape := ⟨2, ![128, 128]⟩

abbrev nBuf : Space → Nat
  | .hbm => 7
  | .vmem => 10
  | .smem => 0
  | _ => 0

abbrev bufTy : (tb : Table) → Fin (tcTables nBuf tb) → BufTy
  | .hbm, ⟨0, _⟩ => ⟨S13x32x32x3200, .bf16⟩
  | .hbm, ⟨1, _⟩ => ⟨S12800, .f32⟩
  | .hbm, ⟨2, _⟩ => ⟨S12800, .f32⟩
  | .hbm, ⟨3, _⟩ => ⟨S1x12800, .f32⟩
  | .hbm, ⟨4, _⟩ => ⟨S1x12800, .f32⟩
  | .hbm, ⟨5, _⟩ => ⟨S13x256x12800, .fp8e4m3⟩
  | .hbm, ⟨6, _⟩ => ⟨S13x256x128, .f32⟩
  | .local _ .vmem, ⟨0, _⟩ => ⟨S1x32x16x3200, .bf16⟩
  | .local _ .vmem, ⟨1, _⟩ => ⟨S1x32x16x3200, .bf16⟩
  | .local _ .vmem, ⟨2, _⟩ => ⟨S1x12800, .f32⟩
  | .local _ .vmem, ⟨3, _⟩ => ⟨S1x12800, .f32⟩
  | .local _ .vmem, ⟨4, _⟩ => ⟨S1x128x12800, .fp8e4m3⟩
  | .local _ .vmem, ⟨5, _⟩ => ⟨S1x128x12800, .fp8e4m3⟩
  | .local _ .vmem, ⟨6, _⟩ => ⟨S1x128x128, .f32⟩
  | .local _ .vmem, ⟨7, _⟩ => ⟨S1x128x128, .f32⟩
  | .local _ .vmem, ⟨8, _⟩ => ⟨S50x136x2x128, .bf16⟩
  | .local _ .vmem, ⟨9, _⟩ => ⟨S128x12800, .f32⟩
  | _, _ => ⟨S13x32x32x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F] [Named F]

def κ : String → Option EReal := fun
  | "inv_k" => some ((1 / 12800 : ℝ) : EReal)
  | _ => none

abbrev grid0 : Pipeline.Grid := ⟨2, ![13, 2], ![false, false]⟩

@[reducible] def k0_t1_loop : Scf.Loop 32 :=
  let c0_i32 : BitVec 32 := 0#32
  let c25_i32 : BitVec 32 := 25#32
  let v0 : BitVec 32 := Scalar.addi c0_i32 c25_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  v1482
def k0_off1 (k0_t1 : Fin k0_t1_loop.trips) : Fin 4 → Nat :=
  let c0_483 : Index := 0#32
  let c0_484 : Index := 0#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1486 : Index := Scalar.indexCast v1483
  ![0, 0, 0, v1486.toNat]
def k0_off2 (k0_t1 : Fin k0_t1_loop.trips) (c0_i32_482 : BitVec 32) : Fin 4 → Nat :=
  let c0_i32 : BitVec 32 := 0#32
  let c1_i32 : BitVec 32 := 1#32
  let arg9 : BitVec 32 := Scf.iv c0_i32 c1_i32 k0_t1
  let v1484 : BitVec 32 := Scalar.addi c0_i32_482 arg9
  let c0_i32_486 : BitVec 32 := 0#32
  let c0_i32_487 : BitVec 32 := 0#32
  ![v1484.toNat, 0, 0, 0]
def k0_off3 (k0_t1 : Fin k0_t1_loop.trips) : Fin 4 → Nat :=
  let c0_490 : Index := 0#32
  let c2 : Index := 2#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1495 : Index := Scalar.indexCast v1483
  ![0, 2, 0, v1495.toNat]
def k0_off4 (k0_t1 : Fin k0_t1_loop.trips) : Fin 4 → Nat :=
  let c0_495 : Index := 0#32
  let c4 : Index := 4#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1504 : Index := Scalar.indexCast v1483
  ![0, 4, 0, v1504.toNat]
def k0_off5 (k0_t1 : Fin k0_t1_loop.trips) : Fin 4 → Nat :=
  let c0_501 : Index := 0#32
  let c6 : Index := 6#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1513 : Index := Scalar.indexCast v1483
  ![0, 6, 0, v1513.toNat]
def k0_off6 (k0_t1 : Fin k0_t1_loop.trips) : Fin 4 → Nat :=
  let c0_506 : Index := 0#32
  let c8_507 : Index := 8#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1522 : Index := Scalar.indexCast v1483
  ![0, 8, 0, v1522.toNat]
def k0_off7 (k0_t1 : Fin k0_t1_loop.trips) : Fin 4 → Nat :=
  let c0_513 : Index := 0#32
  let c10 : Index := 10#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1531 : Index := Scalar.indexCast v1483
  ![0, 10, 0, v1531.toNat]
def k0_off8 (k0_t1 : Fin k0_t1_loop.trips) : Fin 4 → Nat :=
  let c0_518 : Index := 0#32
  let c12 : Index := 12#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1540 : Index := Scalar.indexCast v1483
  ![0, 12, 0, v1540.toNat]
def k0_off9 (k0_t1 : Fin k0_t1_loop.trips) : Fin 4 → Nat :=
  let c0_524 : Index := 0#32
  let c14 : Index := 14#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1549 : Index := Scalar.indexCast v1483
  ![0, 14, 0, v1549.toNat]
def k0_off10 (k0_t1 : Fin k0_t1_loop.trips) : Fin 4 → Nat :=
  let c0_529 : Index := 0#32
  let c16_530 : Index := 16#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1558 : Index := Scalar.indexCast v1483
  ![0, 16, 0, v1558.toNat]
def k0_off11 (k0_t1 : Fin k0_t1_loop.trips) : Fin 4 → Nat :=
  let c0_536 : Index := 0#32
  let c18 : Index := 18#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1567 : Index := Scalar.indexCast v1483
  ![0, 18, 0, v1567.toNat]
def k0_off12 (k0_t1 : Fin k0_t1_loop.trips) : Fin 4 → Nat :=
  let c0_541 : Index := 0#32
  let c20 : Index := 20#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1576 : Index := Scalar.indexCast v1483
  ![0, 20, 0, v1576.toNat]
def k0_off13 (k0_t1 : Fin k0_t1_loop.trips) : Fin 4 → Nat :=
  let c0_547 : Index := 0#32
  let c22 : Index := 22#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1585 : Index := Scalar.indexCast v1483
  ![0, 22, 0, v1585.toNat]
def k0_off14 (k0_t1 : Fin k0_t1_loop.trips) : Fin 4 → Nat :=
  let c0_552 : Index := 0#32
  let c24_553 : Index := 24#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1594 : Index := Scalar.indexCast v1483
  ![0, 24, 0, v1594.toNat]
def k0_off15 (k0_t1 : Fin k0_t1_loop.trips) : Fin 4 → Nat :=
  let c0_559 : Index := 0#32
  let c26 : Index := 26#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1603 : Index := Scalar.indexCast v1483
  ![0, 26, 0, v1603.toNat]
def k0_off16 (k0_t1 : Fin k0_t1_loop.trips) : Fin 4 → Nat :=
  let c0_564 : Index := 0#32
  let c28 : Index := 28#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1612 : Index := Scalar.indexCast v1483
  ![0, 28, 0, v1612.toNat]
def k0_off17 (k0_t1 : Fin k0_t1_loop.trips) : Fin 4 → Nat :=
  let c0_570 : Index := 0#32
  let c30 : Index := 30#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1621 : Index := Scalar.indexCast v1483
  ![0, 30, 0, v1621.toNat]
def k0_off18 (k0_t1 : Fin k0_t1_loop.trips) : Fin 4 → Nat :=
  let c0_576 : Index := 0#32
  let c1_577 : Index := 1#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1631 : Index := Scalar.indexCast v1483
  ![0, 1, 0, v1631.toNat]
def k0_off19 (k0_t1 : Fin k0_t1_loop.trips) : Fin 4 → Nat :=
  let c0_583 : Index := 0#32
  let c3_584 : Index := 3#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1640 : Index := Scalar.indexCast v1483
  ![0, 3, 0, v1640.toNat]
def k0_off20 (k0_t1 : Fin k0_t1_loop.trips) : Fin 4 → Nat :=
  let c0_590 : Index := 0#32
  let c5_591 : Index := 5#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1649 : Index := Scalar.indexCast v1483
  ![0, 5, 0, v1649.toNat]
def k0_off21 (k0_t1 : Fin k0_t1_loop.trips) : Fin 4 → Nat :=
  let c0_597 : Index := 0#32
  let c7_598 : Index := 7#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1658 : Index := Scalar.indexCast v1483
  ![0, 7, 0, v1658.toNat]
def k0_off22 (k0_t1 : Fin k0_t1_loop.trips) : Fin 4 → Nat :=
  let c0_604 : Index := 0#32
  let c9_605 : Index := 9#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1667 : Index := Scalar.indexCast v1483
  ![0, 9, 0, v1667.toNat]
def k0_off23 (k0_t1 : Fin k0_t1_loop.trips) : Fin 4 → Nat :=
  let c0_611 : Index := 0#32
  let c11_612 : Index := 11#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1676 : Index := Scalar.indexCast v1483
  ![0, 11, 0, v1676.toNat]
def k0_off24 (k0_t1 : Fin k0_t1_loop.trips) : Fin 4 → Nat :=
  let c0_618 : Index := 0#32
  let c13_619 : Index := 13#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1685 : Index := Scalar.indexCast v1483
  ![0, 13, 0, v1685.toNat]
def k0_off25 (k0_t1 : Fin k0_t1_loop.trips) : Fin 4 → Nat :=
  let c0_625 : Index := 0#32
  let c15_626 : Index := 15#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1694 : Index := Scalar.indexCast v1483
  ![0, 15, 0, v1694.toNat]
def k0_off26 (k0_t1 : Fin k0_t1_loop.trips) : Fin 4 → Nat :=
  let c0_632 : Index := 0#32
  let c17 : Index := 17#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1703 : Index := Scalar.indexCast v1483
  ![0, 17, 0, v1703.toNat]
def k0_off27 (k0_t1 : Fin k0_t1_loop.trips) : Fin 4 → Nat :=
  let c0_638 : Index := 0#32
  let c19 : Index := 19#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1712 : Index := Scalar.indexCast v1483
  ![0, 19, 0, v1712.toNat]
def k0_off28 (k0_t1 : Fin k0_t1_loop.trips) : Fin 4 → Nat :=
  let c0_644 : Index := 0#32
  let c21 : Index := 21#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1721 : Index := Scalar.indexCast v1483
  ![0, 21, 0, v1721.toNat]
def k0_off29 (k0_t1 : Fin k0_t1_loop.trips) : Fin 4 → Nat :=
  let c0_650 : Index := 0#32
  let c23 : Index := 23#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1730 : Index := Scalar.indexCast v1483
  ![0, 23, 0, v1730.toNat]
def k0_off30 (k0_t1 : Fin k0_t1_loop.trips) : Fin 4 → Nat :=
  let c0_656 : Index := 0#32
  let c25 : Index := 25#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1739 : Index := Scalar.indexCast v1483
  ![0, 25, 0, v1739.toNat]
def k0_off31 (k0_t1 : Fin k0_t1_loop.trips) : Fin 4 → Nat :=
  let c0_662 : Index := 0#32
  let c27 : Index := 27#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1748 : Index := Scalar.indexCast v1483
  ![0, 27, 0, v1748.toNat]
def k0_off32 (k0_t1 : Fin k0_t1_loop.trips) : Fin 4 → Nat :=
  let c0_668 : Index := 0#32
  let c29 : Index := 29#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1757 : Index := Scalar.indexCast v1483
  ![0, 29, 0, v1757.toNat]
def k0_off33 (k0_t1 : Fin k0_t1_loop.trips) : Fin 4 → Nat :=
  let c0_674 : Index := 0#32
  let c31 : Index := 31#32
  let c0_i32 : BitVec 32 := 0#32
  let c1_i32 : BitVec 32 := 1#32
  let arg9 : BitVec 32 := Scf.iv c0_i32 c1_i32 k0_t1
  let c128_i32 : BitVec 32 := 128#32
  let v1482 : BitVec 32 := Scalar.muli arg9 c128_i32
  let v1483 : BitVec 32 := v1482
  let v1766 : Index := Scalar.indexCast v1483
  ![0, 31, 0, v1766.toNat]
@[reducible] def k0_t2_loop : Scf.Loop 32 :=
  let c0_i32_1 : BitVec 32 := 0#32
  let c50_i32 : BitVec 32 := 50#32
  let v2 : BitVec 32 := Scalar.addi c0_i32_1 c50_i32
  let c1_i32_2 : BitVec 32 := 1#32
  ⟨c0_i32_1, v2, c1_i32_2⟩
def k0_off34 (k0_t2 : Fin k0_t2_loop.trips) : Fin 4 → Nat :=
  let c0_i32_1 : BitVec 32 := 0#32
  let c1_i32_2 : BitVec 32 := 1#32
  let arg9 : BitVec 32 := Scf.iv c0_i32_1 c1_i32_2 k0_t2
  let c0_i32_482 : BitVec 32 := 0#32
  let c0_i32_483 : BitVec 32 := 0#32
  ![arg9.toNat, 0, 0, 0]
@[reducible] def k0_t3_loop : Scf.Loop 32 :=
  let c0_i32_36 : BitVec 32 := 0#32
  let c50_i32_37 : BitVec 32 := 50#32
  let v100 : BitVec 32 := Scalar.addi c0_i32_36 c50_i32_37
  let c1_i32_38 : BitVec 32 := 1#32
  ⟨c0_i32_36, v100, c1_i32_38⟩
def k0_off35 (k0_t3 : Fin k0_t3_loop.trips) : Fin 4 → Nat :=
  let c0_i32_36 : BitVec 32 := 0#32
  let c1_i32_38 : BitVec 32 := 1#32
  let arg9 : BitVec 32 := Scf.iv c0_i32_36 c1_i32_38 k0_t3
  let c0_i32_482 : BitVec 32 := 0#32
  let c0_i32_483 : BitVec 32 := 0#32
  ![arg9.toNat, 0, 0, 0]
@[reducible] def k0_t4_loop : Scf.Loop 32 :=
  let c0_i32_88 : BitVec 32 := 0#32
  let c50_i32_89 : BitVec 32 := 50#32
  let v246 : BitVec 32 := Scalar.addi c0_i32_88 c50_i32_89
  let c1_i32_90 : BitVec 32 := 1#32
  ⟨c0_i32_88, v246, c1_i32_90⟩
def k0_off36 (k0_t4 : Fin k0_t4_loop.trips) : Fin 4 → Nat :=
  let c0_i32_88 : BitVec 32 := 0#32
  let c1_i32_90 : BitVec 32 := 1#32
  let arg9 : BitVec 32 := Scf.iv c0_i32_88 c1_i32_90 k0_t4
  let c0_i32_482 : BitVec 32 := 0#32
  let c0_i32_483 : BitVec 32 := 0#32
  ![arg9.toNat, 0, 0, 0]
def k0_mult2 (k0_t4 : Fin k0_t4_loop.trips) : BitVec 32 :=
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let c0_i32_539 : BitVec 32 := 0#32
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  v1553
def k0_off37 (k0_t4 : Fin k0_t4_loop.trips) (c0_i32_539 : BitVec 32) : Fin 2 → Nat :=
  let c0_541 : Index := 0#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1555 : Index := Scalar.indexCast v1554
  ![0, v1555.toNat]
def k0_off38 (k0_t4 : Fin k0_t4_loop.trips) (c0_i32_539 : BitVec 32) : Fin 2 → Nat :=
  let c0_543 : Index := 0#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1570 : Index := Scalar.indexCast v1554
  ![0, v1570.toNat]
def k0_off39 (k0_t4 : Fin k0_t4_loop.trips) (c0_i32_539 : BitVec 32) : Fin 2 → Nat :=
  let c8_545 : Index := 8#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1585 : Index := Scalar.indexCast v1554
  ![8, v1585.toNat]
def k0_off40 (k0_t4 : Fin k0_t4_loop.trips) (c0_i32_539 : BitVec 32) : Fin 2 → Nat :=
  let c16_547 : Index := 16#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1600 : Index := Scalar.indexCast v1554
  ![16, v1600.toNat]
def k0_off41 (k0_t4 : Fin k0_t4_loop.trips) (c0_i32_539 : BitVec 32) : Fin 2 → Nat :=
  let c24_549 : Index := 24#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1615 : Index := Scalar.indexCast v1554
  ![24, v1615.toNat]
def k0_off42 (k0_t4 : Fin k0_t4_loop.trips) (c0_i32_539 : BitVec 32) : Fin 2 → Nat :=
  let c32_551 : Index := 32#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1630 : Index := Scalar.indexCast v1554
  ![32, v1630.toNat]
def k0_off43 (k0_t4 : Fin k0_t4_loop.trips) (c0_i32_539 : BitVec 32) : Fin 2 → Nat :=
  let c40_553 : Index := 40#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1645 : Index := Scalar.indexCast v1554
  ![40, v1645.toNat]
def k0_off44 (k0_t4 : Fin k0_t4_loop.trips) (c0_i32_539 : BitVec 32) : Fin 2 → Nat :=
  let c48_555 : Index := 48#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1660 : Index := Scalar.indexCast v1554
  ![48, v1660.toNat]
def k0_off45 (k0_t4 : Fin k0_t4_loop.trips) (c0_i32_539 : BitVec 32) : Fin 2 → Nat :=
  let c56_557 : Index := 56#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1675 : Index := Scalar.indexCast v1554
  ![56, v1675.toNat]
def k0_off46 (k0_t4 : Fin k0_t4_loop.trips) (c0_i32_539 : BitVec 32) : Fin 2 → Nat :=
  let c64_559 : Index := 64#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1690 : Index := Scalar.indexCast v1554
  ![64, v1690.toNat]
def k0_off47 (k0_t4 : Fin k0_t4_loop.trips) (c0_i32_539 : BitVec 32) : Fin 2 → Nat :=
  let c72_561 : Index := 72#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1705 : Index := Scalar.indexCast v1554
  ![72, v1705.toNat]
def k0_off48 (k0_t4 : Fin k0_t4_loop.trips) (c0_i32_539 : BitVec 32) : Fin 2 → Nat :=
  let c80_563 : Index := 80#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1720 : Index := Scalar.indexCast v1554
  ![80, v1720.toNat]
def k0_off49 (k0_t4 : Fin k0_t4_loop.trips) (c0_i32_539 : BitVec 32) : Fin 2 → Nat :=
  let c88_565 : Index := 88#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1735 : Index := Scalar.indexCast v1554
  ![88, v1735.toNat]
def k0_off50 (k0_t4 : Fin k0_t4_loop.trips) (c0_i32_539 : BitVec 32) : Fin 2 → Nat :=
  let c96_567 : Index := 96#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1750 : Index := Scalar.indexCast v1554
  ![96, v1750.toNat]
def k0_off51 (k0_t4 : Fin k0_t4_loop.trips) (c0_i32_539 : BitVec 32) : Fin 2 → Nat :=
  let c104_569 : Index := 104#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1765 : Index := Scalar.indexCast v1554
  ![104, v1765.toNat]
def k0_off52 (k0_t4 : Fin k0_t4_loop.trips) (c0_i32_539 : BitVec 32) : Fin 2 → Nat :=
  let c112_571 : Index := 112#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1780 : Index := Scalar.indexCast v1554
  ![112, v1780.toNat]
def k0_off53 (k0_t4 : Fin k0_t4_loop.trips) (c0_i32_539 : BitVec 32) : Fin 2 → Nat :=
  let c120_573 : Index := 120#32
  let c2_i32 : BitVec 32 := 2#32
  let c0_i32_88 : BitVec 32 := 0#32
  let c1_i32_90 : BitVec 32 := 1#32
  let arg9 : BitVec 32 := Scf.iv c0_i32_88 c1_i32_90 k0_t4
  let c0_i32_533 : BitVec 32 := 0#32
  let v1531 : BitVec 1 := Scalar.cmpi .sgt arg9 c0_i32_533
  let v1532 : BitVec 32 := Scalar.extui v1531
  let c0_i32_534 : BitVec 32 := 0#32
  let v1533 : BitVec 1 := Scalar.cmpi .slt arg9 c0_i32_534
  let v1534 : BitVec 32 := Scalar.extui v1533
  let v1535 : BitVec 32 := Scalar.subi v1532 v1534
  let c25_i32_532 : BitVec 32 := 25#32
  let c0_i32_535 : BitVec 32 := 0#32
  let v1536 : BitVec 1 := Scalar.cmpi .sgt c25_i32_532 c0_i32_535
  let v1537 : BitVec 32 := Scalar.extui v1536
  let c0_i32_536 : BitVec 32 := 0#32
  let v1538 : BitVec 1 := Scalar.cmpi .slt c25_i32_532 c0_i32_536
  let v1539 : BitVec 32 := Scalar.extui v1538
  let v1540 : BitVec 32 := Scalar.subi v1537 v1539
  let v1541 : BitVec 1 := Scalar.cmpi .ne v1535 v1540
  let v1542 : BitVec 32 := Scalar.remsi arg9 c25_i32_532
  let c0_i32_537 : BitVec 32 := 0#32
  let v1543 : BitVec 1 := Scalar.cmpi .ne v1542 c0_i32_537
  let v1544 : BitVec 1 := Scalar.andi v1541 v1543
  let v1530 : BitVec 32 := Scalar.divsi arg9 c25_i32_532
  let c1_i32_538 : BitVec 32 := 1#32
  let v1545 : BitVec 32 := Scalar.subi v1530 c1_i32_538
  let v1546 : BitVec 32 := Scalar.select v1544 v1545 v1530
  let v1547 : BitVec 32 := Scalar.muli c2_i32 v1546
  let v1548 : BitVec 32 := Scalar.addi v1547 c0_i32_539
  let c3200_i32 : BitVec 32 := 3200#32
  let v1549 : BitVec 32 := Scalar.muli v1548 c3200_i32
  let c25_i32_540 : BitVec 32 := 25#32
  let v1550 : BitVec 32 := Scalar.muli v1546 c25_i32_540
  let v1551 : BitVec 32 := Scalar.subi arg9 v1550
  let c128_i32 : BitVec 32 := 128#32
  let v1552 : BitVec 32 := Scalar.muli v1551 c128_i32
  let v1553 : BitVec 32 := Scalar.addi v1549 v1552
  let v1554 : BitVec 32 := v1553
  let v1795 : Index := Scalar.indexCast v1554
  ![120, v1795.toNat]
def k0_mult3 (k0_t4 : Fin k0_t4_loop.trips) : BitVec 32 :=
  let c2_i32_581 : BitVec 32 := 2#32
  let c0_i32_88 : BitVec 32 := 0#32
  let c1_i32_90 : BitVec 32 := 1#32
  let arg9 : BitVec 32 := Scf.iv c0_i32_88 c1_i32_90 k0_t4
  let c0_i32_575 : BitVec 32 := 0#32
  let v1802 : BitVec 1 := Scalar.cmpi .sgt arg9 c0_i32_575
  let v1803 : BitVec 32 := Scalar.extui v1802
  let c0_i32_576 : BitVec 32 := 0#32
  let v1804 : BitVec 1 := Scalar.cmpi .slt arg9 c0_i32_576
  let v1805 : BitVec 32 := Scalar.extui v1804
  let v1806 : BitVec 32 := Scalar.subi v1803 v1805
  let c25_i32_574 : BitVec 32 := 25#32
  let c0_i32_577 : BitVec 32 := 0#32
  let v1807 : BitVec 1 := Scalar.cmpi .sgt c25_i32_574 c0_i32_577
  let v1808 : BitVec 32 := Scalar.extui v1807
  let c0_i32_578 : BitVec 32 := 0#32
  let v1809 : BitVec 1 := Scalar.cmpi .slt c25_i32_574 c0_i32_578
  let v1810 : BitVec 32 := Scalar.extui v1809
  let v1811 : BitVec 32 := Scalar.subi v1808 v1810
  let v1812 : BitVec 1 := Scalar.cmpi .ne v1806 v1811
  let v1813 : BitVec 32 := Scalar.remsi arg9 c25_i32_574
  let c0_i32_579 : BitVec 32 := 0#32
  let v1814 : BitVec 1 := Scalar.cmpi .ne v1813 c0_i32_579
  let v1815 : BitVec 1 := Scalar.andi v1812 v1814
  let v1801 : BitVec 32 := Scalar.divsi arg9 c25_i32_574
  let c1_i32_580 : BitVec 32 := 1#32
  let v1816 : BitVec 32 := Scalar.subi v1801 c1_i32_580
  let v1817 : BitVec 32 := Scalar.select v1815 v1816 v1801
  let v1818 : BitVec 32 := Scalar.muli c2_i32_581 v1817
  let c1_i32_582 : BitVec 32 := 1#32
  let v1819 : BitVec 32 := Scalar.addi v1818 c1_i32_582
  let c3200_i32_583 : BitVec 32 := 3200#32
  let v1820 : BitVec 32 := Scalar.muli v1819 c3200_i32_583
  let c25_i32_584 : BitVec 32 := 25#32
  let v1821 : BitVec 32 := Scalar.muli v1817 c25_i32_584
  let v1822 : BitVec 32 := Scalar.subi arg9 v1821
  let c128_i32_585 : BitVec 32 := 128#32
  let v1823 : BitVec 32 := Scalar.muli v1822 c128_i32_585
  let v1824 : BitVec 32 := Scalar.addi v1820 v1823
  v1824
@[reducible] def k0_t5_loop : Scf.Loop 32 :=
  let c0_i32_479 : BitVec 32 := 0#32
  let c100_i32 : BitVec 32 := 100#32
  let v1481 : BitVec 32 := Scalar.addi c0_i32_479 c100_i32
  let c1_i32_480 : BitVec 32 := 1#32
  ⟨c0_i32_479, v1481, c1_i32_480⟩
def k0_mult4 (k0_t5 : Fin k0_t5_loop.trips) : BitVec 32 :=
  let c0_i32_479 : BitVec 32 := 0#32
  let c1_i32_480 : BitVec 32 := 1#32
  let arg9 : BitVec 32 := Scf.iv c0_i32_479 c1_i32_480 k0_t5
  let c128_i32 : BitVec 32 := 128#32
  let v1482 : BitVec 32 := Scalar.muli arg9 c128_i32
  v1482
def k0_off54 (k0_t5 : Fin k0_t5_loop.trips) : Fin 2 → Nat :=
  let c0_482 : Index := 0#32
  let c0_i32_479 : BitVec 32 := 0#32
  let c1_i32_480 : BitVec 32 := 1#32
  let arg9 : BitVec 32 := Scf.iv c0_i32_479 c1_i32_480 k0_t5
  let c128_i32 : BitVec 32 := 128#32
  let v1482 : BitVec 32 := Scalar.muli arg9 c128_i32
  let v1483 : BitVec 32 := v1482
  let v1484 : Index := Scalar.indexCast v1483
  ![0, v1484.toNat]
def k0_off55 (k0_t5 : Fin k0_t5_loop.trips) : Fin 3 → Nat :=
  let c0_485 : Index := 0#32
  let c0_486 : Index := 0#32
  let c0_i32_479 : BitVec 32 := 0#32
  let c1_i32_480 : BitVec 32 := 1#32
  let arg9 : BitVec 32 := Scf.iv c0_i32_479 c1_i32_480 k0_t5
  let c128_i32 : BitVec 32 := 128#32
  let v1482 : BitVec 32 := Scalar.muli arg9 c128_i32
  let v1483 : BitVec 32 := v1482
  let v1492 : Index := Scalar.indexCast v1483
  ![0, 0, v1492.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x16x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x12800 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x12800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x12800 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== LnRefIdeal.lean ====
abbrev S13x32x32x3200 : Shape := ⟨4, ![13, 32, 32, 3200]⟩
abbrev S12800 : Shape := ⟨1, ![12800]⟩
abbrev S13x16x2x16x2x3200 : Shape := ⟨6, ![13, 16, 2, 16, 2, 3200]⟩
abbrev S13x16x16x2x2x3200 : Shape := ⟨6, ![13, 16, 16, 2, 2, 3200]⟩
abbrev S13x256x12800 : Shape := ⟨3, ![13, 256, 12800]⟩
abbrev S1x1x12800 : Shape := ⟨3, ![1, 1, 12800]⟩
abbrev S13x256x128 : Shape := ⟨3, ![13, 256, 128]⟩
abbrev S13x256 : Shape := ⟨2, ![13, 256]⟩
abbrev S13x256x1 : Shape := ⟨3, ![13, 256, 1]⟩

abbrev nBuf : Space → Nat
  | .hbm => 11
  | .vmem => 5
  | .smem => 0
  | _ => 0

abbrev bufTy : (tb : Table) → Fin (tcTables nBuf tb) → BufTy
  | .hbm, ⟨0, _⟩ => ⟨S13x32x32x3200, .bf16⟩
  | .hbm, ⟨1, _⟩ => ⟨S12800, .f32⟩
  | .hbm, ⟨2, _⟩ => ⟨S12800, .f32⟩
  | .hbm, ⟨3, _⟩ => ⟨S13x16x2x16x2x3200, .bf16⟩
  | .hbm, ⟨4, _⟩ => ⟨S13x16x16x2x2x3200, .bf16⟩
  | .hbm, ⟨5, _⟩ => ⟨S13x256x12800, .bf16⟩
  | .hbm, ⟨6, _⟩ => ⟨S13x256x12800, .f32⟩
  | .hbm, ⟨7, _⟩ => ⟨S1x1x12800, .f32⟩
  | .hbm, ⟨8, _⟩ => ⟨S1x1x12800, .f32⟩
  | .hbm, ⟨9, _⟩ => ⟨S13x256x12800, .fp8e4m3⟩
  | .hbm, ⟨10, _⟩ => ⟨S13x256x128, .f32⟩
  | .local _ .vmem, ⟨0, _⟩ => ⟨S13x256x12800, .f32⟩
  | .local _ .vmem, ⟨1, _⟩ => ⟨S1x1x12800, .f32⟩
  | .local _ .vmem, ⟨2, _⟩ => ⟨S1x1x12800, .f32⟩
  | .local _ .vmem, ⟨3, _⟩ => ⟨S13x256x12800, .fp8e4m3⟩
  | .local _ .vmem, ⟨4, _⟩ => ⟨S13x256x128, .f32⟩
  | _, _ => ⟨S13x32x32x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S13x256x12800 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x12800 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x12800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S13x256x12800 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S13x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Fc1.lean ====
abbrev S3328x12800 : Shape := ⟨2, ![3328, 12800]⟩
abbrev S3328x128 : Shape := ⟨2, ![3328, 128]⟩
abbrev S12800x8192 : Shape := ⟨2, ![12800, 8192]⟩
abbrev S8192 : Shape := ⟨1, ![8192]⟩
abbrev S1x8192 : Shape := ⟨2, ![1, 8192]⟩
abbrev S3328x8192 : Shape := ⟨2, ![3328, 8192]⟩
abbrev S416x12800 : Shape := ⟨2, ![416, 12800]⟩
abbrev S416x128 : Shape := ⟨2, ![416, 128]⟩
abbrev S12800x512 : Shape := ⟨2, ![12800, 512]⟩
abbrev S1x512 : Shape := ⟨2, ![1, 512]⟩
abbrev S416x8192 : Shape := ⟨2, ![416, 8192]⟩
abbrev S416x512 : Shape := ⟨2, ![416, 512]⟩
abbrev S416x1 : Shape := ⟨2, ![416, 1]⟩
abbrev S416 : Shape := ⟨1, ![416]⟩

abbrev nBuf : Space → Nat
  | .hbm => 9
  | .vmem => 16
  | .smem => 0
  | _ => 0

abbrev bufTy : (tb : Table) → Fin (tcTables nBuf tb) → BufTy
  | .hbm, ⟨0, _⟩ => ⟨S3328x12800, .fp8e4m3⟩
  | .hbm, ⟨1, _⟩ => ⟨S3328x128, .f32⟩
  | .hbm, ⟨2, _⟩ => ⟨S12800x8192, .fp8e4m3⟩
  | .hbm, ⟨3, _⟩ => ⟨S8192, .f32⟩
  | .hbm, ⟨4, _⟩ => ⟨S8192, .f32⟩
  | .hbm, ⟨5, _⟩ => ⟨S1x8192, .f32⟩
  | .hbm, ⟨6, _⟩ => ⟨S1x8192, .f32⟩
  | .hbm, ⟨7, _⟩ => ⟨S3328x8192, .fp8e4m3⟩
  | .hbm, ⟨8, _⟩ => ⟨S3328x128, .f32⟩
  | .local _ .vmem, ⟨0, _⟩ => ⟨S416x12800, .fp8e4m3⟩
  | .local _ .vmem, ⟨1, _⟩ => ⟨S416x12800, .fp8e4m3⟩
  | .local _ .vmem, ⟨2, _⟩ => ⟨S416x128, .f32⟩
  | .local _ .vmem, ⟨3, _⟩ => ⟨S416x128, .f32⟩
  | .local _ .vmem, ⟨4, _⟩ => ⟨S12800x512, .fp8e4m3⟩
  | .local _ .vmem, ⟨5, _⟩ => ⟨S12800x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S416x8192, .fp8e4m3⟩
  | .local _ .vmem, ⟨11, _⟩ => ⟨S416x8192, .fp8e4m3⟩
  | .local _ .vmem, ⟨12, _⟩ => ⟨S416x128, .f32⟩
  | .local _ .vmem, ⟨13, _⟩ => ⟨S416x128, .f32⟩
  | .local _ .vmem, ⟨14, _⟩ => ⟨S416x8192, .f32⟩
  | .local _ .vmem, ⟨15, _⟩ => ⟨S416x128, .f32⟩
  | _, _ => ⟨S3328x12800, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v22 : BitVec 32 := Scalar.muli arg1 c512_i32
  v22
def k0_off1 (i : grid0.Coords) : Fin 2 → Nat :=
  let c0_12 : Index := 0#32
  let arg1 : BitVec 32 := BitVec.ofNat 32 (i 1).val
  let c512_i32 : BitVec 32 := 512#32
  let v22 : BitVec 32 := Scalar.muli arg1 c512_i32
  let v23 : BitVec 32 := v22
  let v24 : Index := Scalar.indexCast v23
  ![0, v24.toNat]
def k0_cond1 (i : grid0.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_17 : BitVec 32 := 0#32
  let v45 : BitVec 1 := Scalar.cmpi .ne v44 c0_i32_17
  v45

@[reducible] def k0_t1_loop : Scf.Loop 32 :=
  let c0_i32_34 : BitVec 32 := 0#32
  let c64_i32 : BitVec 32 := 64#32
  let v125 : BitVec 32 := Scalar.addi c0_i32_34 c64_i32
  let c1_i32 : BitVec 32 := 1#32
  ⟨c0_i32_34, v125, c1_i32⟩
def k0_mult2 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c128_i32 : BitVec 32 := 128#32
  let v126 : BitVec 32 := Scalar.muli arg11 c128_i32
  v126
def k0_off2 (k0_t1 : Fin k0_t1_loop.trips) : Fin 2 → Nat :=
  let c0_36 : Index := 0#32
  let c0_i32_34 : BitVec 32 := 0#32
  let c1_i32 : BitVec 32 := 1#32
  let arg11 : BitVec 32 := Scf.iv c0_i32_34 c1_i32 k0_t1
  let c128_i32 : BitVec 32 := 128#32
  let v126 : BitVec 32 := Scalar.muli arg11 c128_i32
  let v127 : BitVec 32 := v126
  let v128 : Index := Scalar.indexCast v127
  ![0, v128.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S416x12800 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S416x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S12800x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S416x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S416x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Fc1RefIdeal.lean ====
abbrev S3328x12800 : Shape := ⟨2, ![3328, 12800]⟩
abbrev S3328x128 : Shape := ⟨2, ![3328, 128]⟩
abbrev S12800x8192 : Shape := ⟨2, ![12800, 8192]⟩
abbrev S8192 : Shape := ⟨1, ![8192]⟩
abbrev S3328x1 : Shape := ⟨2, ![3328, 1]⟩
abbrev S1x8192 : Shape := ⟨2, ![1, 8192]⟩
abbrev S3328x8192 : Shape := ⟨2, ![3328, 8192]⟩
abbrev S3328 : Shape := ⟨1, ![3328]⟩

abbrev nBuf : Space → Nat
  | .hbm => 10
  | .vmem => 7
  | .smem => 0
  | _ => 0

abbrev bufTy : (tb : Table) → Fin (tcTables nBuf tb) → BufTy
  | .hbm, ⟨0, _⟩ => ⟨S3328x12800, .fp8e4m3⟩
  | .hbm, ⟨1, _⟩ => ⟨S3328x128, .f32⟩
  | .hbm, ⟨2, _⟩ => ⟨S12800x8192, .fp8e4m3⟩
  | .hbm, ⟨3, _⟩ => ⟨S8192, .f32⟩
  | .hbm, ⟨4, _⟩ => ⟨S8192, .f32⟩
  | .hbm, ⟨5, _⟩ => ⟨S3328x1, .f32⟩
  | .hbm, ⟨6, _⟩ => ⟨S1x8192, .f32⟩
  | .hbm, ⟨7, _⟩ => ⟨S1x8192, .f32⟩
  | .hbm, ⟨8, _⟩ => ⟨S3328x8192, .fp8e4m3⟩
  | .hbm, ⟨9, _⟩ => ⟨S3328x128, .f32⟩
  | .local _ .vmem, ⟨0, _⟩ => ⟨S3328x12800, .fp8e4m3⟩
  | .local _ .vmem, ⟨1, _⟩ => ⟨S3328x1, .f32⟩
  | .local _ .vmem, ⟨2, _⟩ => ⟨S12800x8192, .fp8e4m3⟩
  | .local _ .vmem, ⟨3, _⟩ => ⟨S1x8192, .f32⟩
  | .local _ .vmem, ⟨4, _⟩ => ⟨S1x8192, .f32⟩
  | .local _ .vmem, ⟨5, _⟩ => ⟨S3328x8192, .fp8e4m3⟩
  | .local _ .vmem, ⟨6, _⟩ => ⟨S3328x128, .f32⟩
  | _, _ => ⟨S3328x12800, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S3328x12800 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3328x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12800x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3328x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3328x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Fc2.lean ====
abbrev S3328x8192 : Shape := ⟨2, ![3328, 8192]⟩
abbrev S3328x128 : Shape := ⟨2, ![3328, 128]⟩
abbrev S8192x8192 : Shape := ⟨2, ![8192, 8192]⟩
abbrev S8192 : Shape := ⟨1, ![8192]⟩
abbrev S1x8192 : Shape := ⟨2, ![1, 8192]⟩
abbrev S832x8192 : Shape := ⟨2, ![832, 8192]⟩
abbrev S832x128 : Shape := ⟨2, ![832, 128]⟩
abbrev S8192x512 : Shape := ⟨2, ![8192, 512]⟩
abbrev S1x512 : Shape := ⟨2, ![1, 512]⟩
abbrev S832x512 : Shape := ⟨2, ![832, 512]⟩
abbrev S832x1 : Shape := ⟨2, ![832, 1]⟩

abbrev nBuf : Space → Nat
  | .hbm => 8
  | .vmem => 12
  | .smem => 0
  | _ => 0

abbrev bufTy : (tb : Table) → Fin (tcTables nBuf tb) → BufTy
  | .hbm, ⟨0, _⟩ => ⟨S3328x8192, .fp8e4m3⟩
  | .hbm, ⟨1, _⟩ => ⟨S3328x128, .f32⟩
  | .hbm, ⟨2, _⟩ => ⟨S8192x8192, .fp8e4m3⟩
  | .hbm, ⟨3, _⟩ => ⟨S8192, .f32⟩
  | .hbm, ⟨4, _⟩ => ⟨S8192, .f32⟩
  | .hbm, ⟨5, _⟩ => ⟨S1x8192, .f32⟩
  | .hbm, ⟨6, _⟩ => ⟨S1x8192, .f32⟩
  | .hbm, ⟨7, _⟩ => ⟨S3328x8192, .bf16⟩
  | .local _ .vmem, ⟨0, _⟩ => ⟨S832x8192, .fp8e4m3⟩
  | .local _ .vmem, ⟨1, _⟩ => ⟨S832x8192, .fp8e4m3⟩
  | .local _ .vmem, ⟨2, _⟩ => ⟨S832x128, .f32⟩
  | .local _ .vmem, ⟨3, _⟩ => ⟨S832x128, .f32⟩
  | .local _ .vmem, ⟨4, _⟩ => ⟨S8192x512, .fp8e4m3⟩
  | .local _ .vmem, ⟨5, _⟩ => ⟨S8192x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S832x512, .bf16⟩
  | .local _ .vmem, ⟨11, _⟩ => ⟨S832x512, .bf16⟩
  | _, _ => ⟨S3328x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S832x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S832x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S832x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Fc2RefIdeal.lean ====
abbrev S3328x8192 : Shape := ⟨2, ![3328, 8192]⟩
abbrev S3328x128 : Shape := ⟨2, ![3328, 128]⟩
abbrev S8192x8192 : Shape := ⟨2, ![8192, 8192]⟩
abbrev S8192 : Shape := ⟨1, ![8192]⟩
abbrev S3328x1 : Shape := ⟨2, ![3328, 1]⟩
abbrev S1x8192 : Shape := ⟨2, ![1, 8192]⟩

abbrev nBuf : Space → Nat
  | .hbm => 9
  | .vmem => 6
  | .smem => 0
  | _ => 0

abbrev bufTy : (tb : Table) → Fin (tcTables nBuf tb) → BufTy
  | .hbm, ⟨0, _⟩ => ⟨S3328x8192, .fp8e4m3⟩
  | .hbm, ⟨1, _⟩ => ⟨S3328x128, .f32⟩
  | .hbm, ⟨2, _⟩ => ⟨S8192x8192, .fp8e4m3⟩
  | .hbm, ⟨3, _⟩ => ⟨S8192, .f32⟩
  | .hbm, ⟨4, _⟩ => ⟨S8192, .f32⟩
  | .hbm, ⟨5, _⟩ => ⟨S3328x1, .f32⟩
  | .hbm, ⟨6, _⟩ => ⟨S1x8192, .f32⟩
  | .hbm, ⟨7, _⟩ => ⟨S1x8192, .f32⟩
  | .hbm, ⟨8, _⟩ => ⟨S3328x8192, .bf16⟩
  | .local _ .vmem, ⟨0, _⟩ => ⟨S3328x8192, .fp8e4m3⟩
  | .local _ .vmem, ⟨1, _⟩ => ⟨S3328x1, .f32⟩
  | .local _ .vmem, ⟨2, _⟩ => ⟨S8192x8192, .fp8e4m3⟩
  | .local _ .vmem, ⟨3, _⟩ => ⟨S1x8192, .f32⟩
  | .local _ .vmem, ⟨4, _⟩ => ⟨S1x8192, .f32⟩
  | .local _ .vmem, ⟨5, _⟩ => ⟨S3328x8192, .bf16⟩
  | _, _ => ⟨S3328x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3328x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3328x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3328x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Fc2Kernel.lean ====
/- The second product's kernel, read after its run: every element of its result is the dot product of a row of codes
   with a column of codes, times the row's scale, times the column's scale, plus the bias. -/
module

public import proofs.«01_k».proof.Proof.Gen.Fc2Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Fc2Spec

/-- The second product with its scales and its bias, at an index: codes `g`, row scales `gs` (one per row, repeated
    along the lanes), weight codes `w`, weight scales `ws`, bias `b`. -/
def out (g : FVec Ideal Cert.Fc2Ideal.S3328x8192 .fp8e4m3) (gs : FVec Ideal Cert.Fc2Ideal.S3328x128 .f32)
    (w : FVec Ideal Cert.Fc2Ideal.S8192x8192 .fp8e4m3) (ws b : FVec Ideal Cert.Fc2Ideal.S8192 .f32) :
    FVec Ideal Cert.Fc2Ideal.S3328x8192 .bf16 := fun i =>
  (show EReal from ∑ k : Fin 8192, (show EReal from g (ix2 (i 0) k)) * (show EReal from w (ix2 k (i 1))))
      * (show EReal from gs (ix2 (i 0) (0 : Fin 128))) * (show EReal from ws (ix1 (i 1)))
    + (show EReal from b (ix1 (i 1)))

end Cert.Fc2Spec

namespace Cert.Fc2Ideal.Final

open Cert.Fc2Ideal Cert.Fc2Ideal.Gen

variable (m : (ℓ : Loc nD τ sig) → Buf (Elt Ideal) ℓ)

/-- Which block every window holds at every grid point: the row blocks go with `t / 16`, the column blocks with `t % 16`. -/
theorem idx : ∀ t : Fin cfg0.N, win0_0.index t = ![t.val / 16, 0] ∧ win0_1.index t = ![t.val / 16, 0]
    ∧ win0_2.index t = ![0, t.val % 16] ∧ win0_3.index t = ![0, t.val % 16] ∧ win0_4.index t = ![0, t.val % 16]
    ∧ win0_5.index t = ![t.val / 16, t.val % 16] ∧ t.val / 16 < 4 :=
  (by decide +kernel : ∀ t : Fin grid0.N, _)

/-- A vector laid out as one row, read at an index. -/
theorem row_apply (v : FVec Ideal S8192 .f32) (j : Fin 8192) :
    shapeCast S1x8192 v shapeCasts_S8192_S1x8192 (ix2 (0 : Fin 1) j) = v (ix1 j) := by
  pointwise

/-- The block of codes at a point, read at an index. -/
theorem read0 (c : Dev nD) (t : Fin cfg0.N) (y : S832x512.Idx) (k : Fin 8192) :
    iblk m c 0 t (ix2 (y 0) k) = m ((c : Thread nD τ).loc main_arg0) (ix2 (((cfg0.win 5).blk t).view.emb y 0) k) := by
  blk_ext [iblk, V, idx t]

/-- The block of row scales at a point, read at an index. -/
theorem read1 (c : Dev nD) (t : Fin cfg0.N) (y : S832x512.Idx) :
    iblk m c 1 t (ix2 (y 0) (0 : Fin 128)) = m ((c : Thread nD τ).loc main_arg1) (ix2 (((cfg0.win 5).blk t).view.emb y 0) (0 : Fin 128)) := by
  blk_ext [iblk, V, idx t]

/-- The block of weight codes at a point, read at an index. -/
theorem read2 (c : Dev nD) (t : Fin cfg0.N) (y : S832x512.Idx) (k : Fin 8192) :
    iblk m c 2 t (ix2 k (y 1)) = m ((c : Thread nD τ).loc main_arg2) (ix2 k (((cfg0.win 5).blk t).view.emb y 1)) := by
  blk_ext [iblk, V, idx t]

/-- The block of weight scales at a point, read at an index. -/
theorem read3 (c : Dev nD) (t : Fin cfg0.N) (y : S832x512.Idx) :
    iblk m c 3 t (ix2 (0 : Fin 1) (y 1)) = m ((c : Thread nD τ).loc main_arg3) (ix1 (((cfg0.win 5).blk t).view.emb y 1)) := by
  have h : V m c main_v0 = shapeCast S1x8192 (m ((c : Thread nD τ).loc main_arg3)) shapeCasts_S8192_S1x8192 := by
    entry_read; rfl
  have h2 : iblk m c 3 t (ix2 (0 : Fin 1) (y 1)) = V m c main_v0 (ix2 (0 : Fin 1) (((cfg0.win 5).blk t).view.emb y 1)) := by
    blk_ext [iblk, idx t]
  rw [h2, h]
  exact row_apply _ _

/-- The block of biases at a point, read at an index. -/
theorem read4 (c : Dev nD) (t : Fin cfg0.N) (y : S832x512.Idx) :
    iblk m c 4 t (ix2 (0 : Fin 1) (y 1)) = m ((c : Thread nD τ).loc main_arg4) (ix1 (((cfg0.win 5).blk t).view.emb y 1)) := by
  have h : V m c main_v1 = shapeCast S1x8192 (m ((c : Thread nD τ).loc main_arg4)) shapeCasts_S8192_S1x8192 := by
    entry_read; rfl
  have h2 : iblk m c 4 t (ix2 (0 : Fin 1) (y 1)) = V m c main_v1 (ix2 (0 : Fin 1) (((cfg0.win 5).blk t).view.emb y 1)) := by
    blk_ext [iblk, idx t]
  rw [h2, h]
  exact row_apply _ _

/-- What grid point `t` stores at an index of its block, over the blocks. -/
theorem pay (x0 : FVec Ideal S832x8192 .fp8e4m3) (x2 : FVec Ideal S8192x512 .fp8e4m3) (x1 : FVec Ideal S832x128 .f32)
    (x3 x4 : FVec Ideal S1x512 .f32) (y : S832x512.Idx) :
    (show EReal from k0_pay1 (F := Ideal) x0 x2 (View.ld x1 r0_2) x3 x4 y)
      = (show EReal from ∑ k : Fin 8192, (show EReal from x0 (ix2 (y 0) k)) * (show EReal from x2 (ix2 k (y 1))))
          * (show EReal from x1 (ix2 (y 0) (0 : Fin 128))) * (show EReal from x3 (ix2 (0 : Fin 1) (y 1)))
        + (show EReal from x4 (ix2 (0 : Fin 1) (y 1))) := by
  pointwise [k0_pay1]

/-- What grid point `t` stores at an index of its block is the product at the place of that index in the whole array. -/
theorem point (c : Dev nD) (t : Fin cfg0.N) (y : S832x512.Idx) :
    k0_pay1 (iblk m c 0 t) (iblk m c 2 t) (View.ld (iblk m c 1 t) r0_2) (iblk m c 3 t) (iblk m c 4 t) y
      = Cert.Fc2Spec.out (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 5).blk t).view.emb y) := by
  refine (pay _ _ _ _ _ y).trans ?_
  unfold Cert.Fc2Spec.out
  rw [read1, read3, read4]
  simp only [read0, read2]

/-- The result array after the run. -/
theorem final (c : Dev nD) : (dats m 0 c).arrAt 5 (cfgs 0).N
    = Cert.Fc2Spec.out (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

end Cert.Fc2Ideal.Final

end
-- ==== Proof.Fc2Reference.lean ====
/- The second product's reference, read after its run: every element of its result is the dot product of a row of codes
   with a column of codes, times the row's scale, times the column's scale, plus the bias. -/
module

public import proofs.«01_k».proof.Proof.Gen.Fc2RefIdeal.Value
public import proofs.«01_k».proof.Proof.Fc2Kernel

@[expose] public section

set_option maxRecDepth 16384

noncomputable section

open Idealize.ShloMosaic Idealize.ShloMosaic.TcCoe Idealize.SL.Sem
open Idealize.ShloMosaic.Pipeline (Dat)

namespace Cert.Fc2RefIdeal.Final

open Cert.Fc2RefIdeal Cert.Fc2RefIdeal.Gen

variable (m : (ℓ : Loc nD τ sig) → Buf (Elt Ideal) ℓ)

/-- Every window holds its whole array at the one grid point. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] :=
  (by decide +kernel : ∀ t : Fin grid0.N, _)

/-- A vector laid out as one row, read at an index. -/
theorem row_apply (v : FVec Ideal S8192 .f32) (j : Fin 8192) :
    broadcastInDim S1x8192 ![1] bcast_S8192_S1x8192_1 v (ix2 (0 : Fin 1) j) = v (ix1 j) := by
  pointwise

/-- The first lane of the row scales, read at an index. -/
theorem col_apply (v : FVec Ideal S3328x128 .f32) (j : Fin 3328) :
    extractStridedSlice S3328x1 ![0, 0] v slices_S3328x128_S3328x1_0_0 (ix2 j (0 : Fin 1)) = v (ix2 j (0 : Fin 128)) := by
  pointwise

/-- The whole array of codes, read at an index. -/
theorem read0 (c : Dev nD) (t : Fin cfg0.N) (r : Fin 3328) (k : Fin 8192) :
    iblk m c 0 t (ix2 r k) = m ((c : Thread nD τ).loc main_arg0) (ix2 r k) := by
  blk_ext [iblk, V, idx t]

/-- The column of row scales, read at an index. -/
theorem read1 (c : Dev nD) (t : Fin cfg0.N) (r : Fin 3328) :
    iblk m c 1 t (ix2 r (0 : Fin 1)) = m ((c : Thread nD τ).loc main_arg1) (ix2 r (0 : Fin 128)) := by
  have h : V m c main_v0 = extractStridedSlice S3328x1 ![0, 0] (m ((c : Thread nD τ).loc main_arg1)) slices_S3328x128_S3328x1_0_0 := by
    entry_read; rfl
  have h2 : iblk m c 1 t (ix2 r (0 : Fin 1)) = V m c main_v0 (ix2 r (0 : Fin 1)) := by
    blk_ext [iblk, idx t]
  rw [h2, h]
  exact col_apply _ _

/-- The whole array of weight codes, read at an index. -/
theorem read2 (c : Dev nD) (t : Fin cfg0.N) (k j : Fin 8192) :
    iblk m c 2 t (ix2 k j) = m ((c : Thread nD τ).loc main_arg2) (ix2 k j) := by
  blk_ext [iblk, V, idx t]

/-- The row of weight scales, read at an index. -/
theorem read3 (c : Dev nD) (t : Fin cfg0.N) (j : Fin 8192) :
    iblk m c 3 t (ix2 (0 : Fin 1) j) = m ((c : Thread nD τ).loc main_arg3) (ix1 j) := by
  have h : V m c main_v1 = broadcastInDim S1x8192 ![1] bcast_S8192_S1x8192_1 (m ((c : Thread nD τ).loc main_arg3)) := by
    entry_read; rfl
  have h2 : iblk m c 3 t (ix2 (0 : Fin 1) j) = V m c main_v1 (ix2 (0 : Fin 1) j) := by
    blk_ext [iblk, idx t]
  rw [h2, h]
  exact row_apply _ _

/-- The row of biases, read at an index. -/
theorem read4 (c : Dev nD) (t : Fin cfg0.N) (j : Fin 8192) :
    iblk m c 4 t (ix2 (0 : Fin 1) j) = m ((c : Thread nD τ).loc main_arg4) (ix1 j) := by
  have h : V m c main_v2 = broadcastInDim S1x8192 ![1] bcast_S8192_S1x8192_1 (m ((c : Thread nD τ).loc main_arg4)) := by
    entry_read; rfl
  have h2 : iblk m c 4 t (ix2 (0 : Fin 1) j) = V m c main_v2 (ix2 (0 : Fin 1) j) := by
    blk_ext [iblk, idx t]
  rw [h2, h]
  exact row_apply _ _

/-- What the body stores at an index, over the whole arrays. -/
theorem pay (x0 : FVec Ideal S3328x8192 .fp8e4m3) (x2 : FVec Ideal S8192x8192 .fp8e4m3) (x1 : FVec Ideal S3328x1 .f32)
    (x3 x4 : FVec Ideal S1x8192 .f32) (y : S3328x8192.Idx) :
    (show EReal from k0_pay1 (F := Ideal) x0 x2 x1 x3 x4 y)
      = (show EReal from ∑ k : Fin 8192, (show EReal from x0 (ix2 (y 0) k)) * (show EReal from x2 (ix2 k (y 1))))
          * (show EReal from x1 (ix2 (y 0) (0 : Fin 1))) * (show EReal from x3 (ix2 (0 : Fin 1) (y 1)))
        + (show EReal from x4 (ix2 (0 : Fin 1) (y 1))) := by
  pointwise [k0_pay1]

/-- What the one point stores at an index. -/
theorem point (c : Dev nD) (t : Fin cfg0.N) (y : S3328x8192.Idx) :
    k0_pay1 (iblk m c 0 t) (iblk m c 2 t) (iblk m c 1 t) (iblk m c 3 t) (iblk m c 4 t) y
      = Cert.Fc2Spec.out (m ((c : Thread nD τ).loc main_arg0)) (m ((c : Thread nD τ).loc main_arg1))
          (m ((c : Thread nD τ).loc main_arg2)) (m ((c : Thread nD τ).loc main_arg3)) (m ((c : Thread nD τ).loc main_arg4)) y := by
  refine (pay _ _ _ _ _ y).trans ?_
  unfold Cert.Fc2Spec.out
  erw [read1, read3, read4]
  congr 3
  exact Finset.sum_congr rfl fun k _ => by erw [read0, read2]

/-- The result array after the run. -/
theorem final (c : Dev nD) : (dats m 0 c).arrAt 5 (cfgs 0).N
    = Cert.Fc2Spec.out (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_after_last 5 t0_0 (by decide +kernel) _ fun j => ?_
  blk_simp
  rw [after0_5]
  frame_out
  exact point m c t0_0 j

end Cert.Fc2RefIdeal.Final

end
-- ==== Proof.Fc2Algebraic.lean ====
/- The second product's kernel and its reference end with the same array, over the extended reals. -/
module

public import proofs.«01_k».proof.Defs
public import proofs.«01_k».proof.Proof.Fc2Kernel
public import proofs.«01_k».proof.Proof.Fc2Reference

@[expose] public section

noncomputable section

namespace Cert.Proof

open Idealize.ShloMosaic Idealize.SL.Sem

/-- Both runs end with the product that `Cert.Fc2Spec.out` states, of the same arguments. -/
theorem fc2_algebraic : Cert.algebraic_Fc2Ideal_Fc2RefIdeal (hFc2Ideal := Cert.Fc2Ideal.Gen.facts)
    (hFc2RefIdeal := Cert.Fc2RefIdeal.Gen.facts) := by
  intro m g m' g' _ hargs
  refine ⟨fun c => (Cert.Fc2Ideal.Gen.dats m 0 c).arrAt 5 Cert.Fc2Ideal.cfg0.N,
    Cert.Fc2Ideal.Value.run_blocks m g, ?_⟩
  refine (θ_run Cert.Fc2RefIdeal.defs _ _).mono (fun r h c => ⟨(h c).1.trans ?_, (h c).2⟩)
    (Cert.Fc2RefIdeal.Value.run_blocks m' g')
  obtain ⟨h0, h1, h2, h3, h4⟩ := hargs c
  refine (Cert.Fc2RefIdeal.Final.final m' c).trans (Eq.trans ?_ (Cert.Fc2Ideal.Final.final m c).symm)
  rw [h0, h1, h2, h3, h4]

end Cert.Proof

end
-- ==== Proof.Fc1Run.lean ====
/-
  The body of the first matrix product's kernel, run once at a symbolic grid point: before the last column block
  (`runA`) and at the last column block (`runC`). Each states the writes that the body leaves in the buffers it stores
  into, on whole staging memrefs whose contents are given.
-/
module

public import proofs.«01_k».proof.Proof.Gen.Fc1.Frame
public import proofs.«01_k».proof.Proof.Gen.Fc1.Loops
public import Idealize.ShloMosaic.Lib.Claim

@[expose] public section

set_option maxRecDepth 16384

noncomputable section

namespace Cert.Fc1.Body

open Cert.Fc1 Cert.Fc1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- The body before the last column block: it reads the inputs, writes its slice of the wide scratch and the whole of the
    narrow scratch, and touches neither output. -/
def runA (c : Dev nD) (i : grid0.Coords) (arg2 : Memref sig .tc .vmem S416x12800 .fp8e4m3) (harg2 : arg2.IsWhole) (arg3 : Memref sig .tc .vmem S416x128 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S416x8192 .fp8e4m3) (harg7 : arg7.IsWhole) (arg8 : Memref sig .tc .vmem S416x128 .f32) (harg8 : arg8.IsWhole) (arg9 : Memref sig .tc .vmem S416x8192 .f32) (harg9 : arg9.IsWhole) (arg10 : Memref sig .tc .vmem S416x128 .f32) (harg10 : arg10.IsWhole) (hc : ¬k0_cond1 i = 1#1)
    (x0 : Vec F S416x12800 .fp8e4m3) (x1 : Vec F S416x128 .f32) (x2 : Vec F S12800x512 .fp8e4m3) (x3 : Vec F S1x512 .f32) (x4 : Vec F S1x512 .f32) (xs0 : Vec F S416x8192 .f32) (xs1 : Vec F S416x128 .f32) :
    Σ' (LS0 : List (View.Piece (Elt F) S416x8192 .f32)), { LS1 : List (View.Piece (Elt F) S416x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg9.view.loc (c : Thread nD τ) ↦[arg9.view.set]{fullShare} arg9.view.writes (Elt F) (harg9.unread xs0) LS0) ∗ (∃ f, (arg10.view.loc (c : Thread nD τ) ↦[arg10.view.set]{fullShare} arg10.view.writes (Elt F) f LS1))) -∗ K ⟨⟩))
          ⊢ wp frame (wpE (defs₀ (F := F)) Variants.none c none) E (cc0_fc1_gelu_quant i arg2 harg2 arg3 harg3 arg4 harg4 arg5 harg5 arg6 harg6 arg7 harg7 arg8 harg8 arg9 harg9 arg10 harg10) K } := by
  refine ⟨?_, ?_, fun E K => ?run⟩
  case run =>
    simp only [cc0_fc1_gelu_quant_eq_skeleton]; unfold cc0_fc1_gelu_quant_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexact HS0
    iexists _; iexact HS1

set_option maxHeartbeats 1000000 in
/-- The body at the last column block: beside that, it writes both outputs from the finished scratch buffers. -/
def runC (c : Dev nD) (i : grid0.Coords) (arg2 : Memref sig .tc .vmem S416x12800 .fp8e4m3) (harg2 : arg2.IsWhole) (arg3 : Memref sig .tc .vmem S416x128 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S416x8192 .fp8e4m3) (harg7 : arg7.IsWhole) (arg8 : Memref sig .tc .vmem S416x128 .f32) (harg8 : arg8.IsWhole) (arg9 : Memref sig .tc .vmem S416x8192 .f32) (harg9 : arg9.IsWhole) (arg10 : Memref sig .tc .vmem S416x128 .f32) (harg10 : arg10.IsWhole) (hc : k0_cond1 i = 1#1)
    (x0 : Vec F S416x12800 .fp8e4m3) (x1 : Vec F S416x128 .f32) (x2 : Vec F S12800x512 .fp8e4m3) (x3 : Vec F S1x512 .f32) (x4 : Vec F S1x512 .f32) (xs0 : Vec F S416x8192 .f32) (xs1 : Vec F S416x128 .f32) :
    Σ' (LS0 : List (View.Piece (Elt F) S416x8192 .f32)) (LS1 : List (View.Piece (Elt F) S416x128 .f32)) (L5 : List (View.Piece (Elt F) S416x8192 .fp8e4m3)), { L6 : List (View.Piece (Elt F) S416x128 .f32) //
      ∀ (xo5 : Vec F S416x8192 .fp8e4m3) (xo6 : Vec F S416x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xo6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xo5) L5) ∗ (∃ f, (arg8.view.loc (c : Thread nD τ) ↦[arg8.view.set]{fullShare} arg8.view.writes (Elt F) f L6)) ∗ (arg9.view.loc (c : Thread nD τ) ↦[arg9.view.set]{fullShare} arg9.view.writes (Elt F) (harg9.unread xs0) LS0) ∗ (∃ f, (arg10.view.loc (c : Thread nD τ) ↦[arg10.view.set]{fullShare} arg10.view.writes (Elt F) f LS1))) -∗ K ⟨⟩))
          ⊢ wp frame (wpE (defs₀ (F := F)) Variants.none c none) E (cc0_fc1_gelu_quant i arg2 harg2 arg3 harg3 arg4 harg4 arg5 harg5 arg6 harg6 arg7 harg7 arg8 harg8 arg9 harg9 arg10 harg10) K } := by
  refine ⟨?_, ?_, ?_, ?_, fun xo5 xo6 E K => ?run⟩
  case run =>
    simp only [cc0_fc1_gelu_quant_eq_skeleton]; unfold cc0_fc1_gelu_quant_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [H6]; · iexists _; iexact H6
    isplitl [HS0]; · iexact HS0
    iexists _; iexact HS1

end Cert.Fc1.Body

end
-- ==== Proof.Fc1State.lean ====
/-
  What the writes of the first matrix product's body read as: the activated block in its columns of the wide scratch, the
  running row maximum in the narrow scratch and, at the last column block, the scales and the codes.
-/
module

public import proofs.«01_k».proof.Proof.Fc1Run
public import Idealize.ShloMosaic.Lib.Pipeline.ValueKit
public import Idealize.ShloMosaic.Lib.WritesUnit
public import Idealize.ShloMosaic.Lib.Pointwise

@[expose] public section

set_option maxRecDepth 16384

noncomputable section

namespace Cert.Fc1.Body

open Cert.Fc1 Cert.Fc1.Gen
open Idealize.ShloMosaic Idealize.ShloMosaic.TcCoe Idealize.ShloMosaic.Tactic

variable {F : FTy → Type} [FloatOps F]

/-- The first lane of the row scales. -/
def col (x1 : Vec F S416x128 .f32) : Vec F S416x1 .f32 :=
  View.ld x1 (Rect.unit ![0, 0] S416x1.size inb_S416x128_S416x1_0_0)

/-- The activated block of one grid point, from the point's input blocks. -/
def gel (x0 : Vec F S416x12800 .fp8e4m3) (x1 : Vec F S416x128 .f32) (x2 : Vec F S12800x512 .fp8e4m3) (x3 : Vec F S1x512 .f32) (x4 : Vec F S1x512 .f32) : Vec F S416x512 .f32 :=
  k0_pay11 x0 x2 (col x1) x3 x4

/-- The magnitudes of that block folded to 128 lanes by maximum. -/
def fold (x0 : Vec F S416x12800 .fp8e4m3) (x1 : Vec F S416x128 .f32) (x2 : Vec F S12800x512 .fp8e4m3) (x3 : Vec F S1x512 .f32) (x4 : Vec F S1x512 .f32) : Vec F S416x128 .f32 :=
  k0_pay12 x0 x2 (col x1) x3 x4

/-- The wide scratch with column block `j` replaced. -/
def upd (j : ℕ) (G : Vec F S416x8192 .f32) (B : Vec F S416x512 .f32) : Vec F S416x8192 .f32 := fun y =>
  if 512 * j ≤ (y 1).val ∧ (y 1).val < 512 * j + 512 then B (ix2 (y 0) (⟨(y 1).val % 512, Nat.mod_lt _ (by decide)⟩ : Fin 512)) else G y

/-- The scale of each row, on every lane, from the folded maxima. -/
def scl (A : Vec F S416x128 .f32) : Vec F S416x128 .f32 := k0_pay3 (k0_pay6 A) (k0_pay7 A) (k0_pay8 A) (k0_pay9 A)

/-- The reciprocal of that scale. -/
def rcp (A : Vec F S416x128 .f32) : Vec F S416x128 .f32 := k0_pay4 (k0_pay6 A) (k0_pay7 A) (k0_pay8 A) (k0_pay9 A)

/-- The 128 columns of a wide array from column `128 k`. -/
def lanes (G : Vec F S416x8192 .f32) (k : Fin 64) : Vec F S416x128 .f32 := fun z =>
  G (ix2 (z 0) (⟨128 * k.val + (z 1).val, by have h1 : (z 1).val < 128 := (z 1).isLt; have h2 := k.isLt; omega⟩ : Fin 8192))

/-- The codes of a wide array under the reciprocal scales `I`. -/
def codes (G : Vec F S416x8192 .f32) (I : Vec F S416x128 .f32) : Vec F S416x8192 .fp8e4m3 := fun y =>
  k0_pay5 (lanes G ⟨(y 1).val / 128, by have h1 : (y 1).val < 8192 := (y 1).isLt; omega⟩) I (ix2 (y 0) (⟨(y 1).val % 128, Nat.mod_lt _ (by decide)⟩ : Fin 128))

/-- One block written into the wide scratch reads as the replaced array. -/
theorem read_upd (i : grid0.Coords) (arg9 : Memref sig .tc .vmem S416x8192 .f32) (harg9 : arg9.IsWhole) (G : Vec F S416x8192 .f32) (B : Vec F S416x512 .f32) :
    arg9.view.read (Elt F) (arg9.view.writes (Elt F) (harg9.unread G) [⟨Rect.unit (s := S416x8192) (k0_off1 i) S416x512.size (k0_off1_inb i), B⟩]) = upd (i 1).val G B := by
  funext y
  have h1 : (y 1).val < 8192 := (y 1).isLt
  have h0 : (y 0).val < 416 := (y 0).isLt
  unfold upd
  split
  · rename_i h
    refine View.read_writes_cons_unit_of_mem _ _ _ B [] y (ix2 (y 0) (⟨(y 1).val % 512, Nat.mod_lt _ (by decide)⟩ : Fin 512)) (k0_off1_eq i) fun a => ?_
    fin_cases a
    · show (y 0).val = 0 + (y 0).val; omega
    · show (y 1).val = 512 * (i 1).val + (y 1).val % 512; omega
  · rename_i h
    have h' : (y 1).val < 512 * (i 1).val ∨ 512 * (i 1).val + 512 ≤ (y 1).val := by omega
    have e := View.read_writes_cons_unit_of_not_mem arg9.view (harg9.unread G) (k0_off1_inb i) B [] y (k0_off1_eq i) (1 : Fin 2) h'
    rw [View.writes_nil, harg9.read_unread] at e
    exact e

/-- A store of the whole lane-wide buffer reads as what was stored, whatever was stored before. -/
theorem read_last (v : View sig .tc .vmem S416x128 .f32) (f : v.ty.Contents (Elt F)) (inb : ∀ a, (![0, 0] : Fin 2 → ℕ) a + S416x128.size a ≤ S416x128.size a) (w : Vec F S416x128 .f32) (L : List (View.Piece (Elt F) S416x128 .f32)) :
    v.read (Elt F) (v.writes (Elt F) f ((⟨Rect.unit ![0, 0] S416x128.size inb, w⟩ : View.Piece (Elt F) S416x128 .f32) :: L)) = w :=
  funext fun y => View.read_writes_cons_unit_of_mem v f inb w L y y rfl fun a => by fin_cases a <;> exact (Nat.zero_add _).symm

set_option maxHeartbeats 1000000 in
/-- Before the last column block: the wide scratch. -/
theorem runA_wide (c : Dev nD) (i : grid0.Coords) (arg2 : Memref sig .tc .vmem S416x12800 .fp8e4m3) (harg2 : arg2.IsWhole) (arg3 : Memref sig .tc .vmem S416x128 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S416x8192 .fp8e4m3) (harg7 : arg7.IsWhole) (arg8 : Memref sig .tc .vmem S416x128 .f32) (harg8 : arg8.IsWhole) (arg9 : Memref sig .tc .vmem S416x8192 .f32) (harg9 : arg9.IsWhole) (arg10 : Memref sig .tc .vmem S416x128 .f32) (harg10 : arg10.IsWhole) (hc : ¬k0_cond1 i = 1#1) (x0 : Vec F S416x12800 .fp8e4m3) (x1 : Vec F S416x128 .f32) (x2 : Vec F S12800x512 .fp8e4m3) (x3 : Vec F S1x512 .f32) (x4 : Vec F S1x512 .f32) (xs0 : Vec F S416x8192 .f32) (xs1 : Vec F S416x128 .f32) :
    arg9.view.read (Elt F) (arg9.view.writes (Elt F) (harg9.unread xs0) (runA c i arg2 harg2 arg3 harg3 arg4 harg4 arg5 harg5 arg6 harg6 arg7 harg7 arg8 harg8 arg9 harg9 arg10 harg10 hc x0 x1 x2 x3 x4 xs0 xs1).1) = upd (i 1).val xs0 (gel x0 x1 x2 x3 x4) := by
  refine Eq.trans ?_ (read_upd i arg9 harg9 xs0 _)
  unfold runA gel col
  dsimp only
  simp only [View.readAt_eq_ld, harg2.read_unread, harg3.read_unread, harg4.read_unread, harg5.read_unread, harg6.read_unread, harg7.read_unread, harg8.read_unread, harg9.read_unread, harg10.read_unread]
  simp (disch := decide) only [View.ld_unit_lit]

set_option maxHeartbeats 1000000 in
/-- Before the last column block: the narrow scratch. -/
theorem runA_narrow (c : Dev nD) (i : grid0.Coords) (arg2 : Memref sig .tc .vmem S416x12800 .fp8e4m3) (harg2 : arg2.IsWhole) (arg3 : Memref sig .tc .vmem S416x128 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S416x8192 .fp8e4m3) (harg7 : arg7.IsWhole) (arg8 : Memref sig .tc .vmem S416x128 .f32) (harg8 : arg8.IsWhole) (arg9 : Memref sig .tc .vmem S416x8192 .f32) (harg9 : arg9.IsWhole) (arg10 : Memref sig .tc .vmem S416x128 .f32) (harg10 : arg10.IsWhole) (hc : ¬k0_cond1 i = 1#1) (x0 : Vec F S416x12800 .fp8e4m3) (x1 : Vec F S416x128 .f32) (x2 : Vec F S12800x512 .fp8e4m3) (x3 : Vec F S1x512 .f32) (x4 : Vec F S1x512 .f32) (xs0 : Vec F S416x8192 .f32) (xs1 : Vec F S416x128 .f32) (f : arg10.view.ty.Contents (Elt F)) :
    arg10.view.read (Elt F) (arg10.view.writes (Elt F) f (runA c i arg2 harg2 arg3 harg3 arg4 harg4 arg5 harg5 arg6 harg6 arg7 harg7 arg8 harg8 arg9 harg9 arg10 harg10 hc x0 x1 x2 x3 x4 xs0 xs1).2.1)
      = k0_pay1 (fold x0 x1 x2 x3 x4) (Scalar.cmpi CmpIPredicate.eq (BitVec.ofNat 32 (i 1).val) 0#32) xs1 := by
  unfold runA fold col
  dsimp only
  sl_unfold_words
  simp only [View.readAt_eq_ld, harg2.read_unread, harg3.read_unread, harg4.read_unread, harg5.read_unread, harg6.read_unread, harg7.read_unread, harg8.read_unread, harg9.read_unread, harg10.read_unread]
  simp (disch := decide) only [View.ld_unit_lit]
  exact read_last _ f _ _ _

set_option maxHeartbeats 1000000 in
/-- At the last column block: the wide scratch. -/
theorem runC_wide (c : Dev nD) (i : grid0.Coords) (arg2 : Memref sig .tc .vmem S416x12800 .fp8e4m3) (harg2 : arg2.IsWhole) (arg3 : Memref sig .tc .vmem S416x128 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S416x8192 .fp8e4m3) (harg7 : arg7.IsWhole) (arg8 : Memref sig .tc .vmem S416x128 .f32) (harg8 : arg8.IsWhole) (arg9 : Memref sig .tc .vmem S416x8192 .f32) (harg9 : arg9.IsWhole) (arg10 : Memref sig .tc .vmem S416x128 .f32) (harg10 : arg10.IsWhole) (hc : k0_cond1 i = 1#1) (x0 : Vec F S416x12800 .fp8e4m3) (x1 : Vec F S416x128 .f32) (x2 : Vec F S12800x512 .fp8e4m3) (x3 : Vec F S1x512 .f32) (x4 : Vec F S1x512 .f32) (xs0 : Vec F S416x8192 .f32) (xs1 : Vec F S416x128 .f32) :
    arg9.view.read (Elt F) (arg9.view.writes (Elt F) (harg9.unread xs0) (runC c i arg2 harg2 arg3 harg3 arg4 harg4 arg5 harg5 arg6 harg6 arg7 harg7 arg8 harg8 arg9 harg9 arg10 harg10 hc x0 x1 x2 x3 x4 xs0 xs1).1) = upd (i 1).val xs0 (gel x0 x1 x2 x3 x4) := by
  refine Eq.trans ?_ (read_upd i arg9 harg9 xs0 _)
  unfold runC gel col
  dsimp only
  simp only [View.readAt_eq_ld, harg2.read_unread, harg3.read_unread, harg4.read_unread, harg5.read_unread, harg6.read_unread, harg7.read_unread, harg8.read_unread, harg9.read_unread, harg10.read_unread]
  simp (disch := decide) only [View.ld_unit_lit]

set_option maxHeartbeats 1000000 in
/-- At the last column block: the scales. -/
theorem runC_scale (c : Dev nD) (i : grid0.Coords) (arg2 : Memref sig .tc .vmem S416x12800 .fp8e4m3) (harg2 : arg2.IsWhole) (arg3 : Memref sig .tc .vmem S416x128 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S416x8192 .fp8e4m3) (harg7 : arg7.IsWhole) (arg8 : Memref sig .tc .vmem S416x128 .f32) (harg8 : arg8.IsWhole) (arg9 : Memref sig .tc .vmem S416x8192 .f32) (harg9 : arg9.IsWhole) (arg10 : Memref sig .tc .vmem S416x128 .f32) (harg10 : arg10.IsWhole) (hc : k0_cond1 i = 1#1) (x0 : Vec F S416x12800 .fp8e4m3) (x1 : Vec F S416x128 .f32) (x2 : Vec F S12800x512 .fp8e4m3) (x3 : Vec F S1x512 .f32) (x4 : Vec F S1x512 .f32) (xs0 : Vec F S416x8192 .f32) (xs1 : Vec F S416x128 .f32) (f : arg8.view.ty.Contents (Elt F)) :
    arg8.view.read (Elt F) (arg8.view.writes (Elt F) f (runC c i arg2 harg2 arg3 harg3 arg4 harg4 arg5 harg5 arg6 harg6 arg7 harg7 arg8 harg8 arg9 harg9 arg10 harg10 hc x0 x1 x2 x3 x4 xs0 xs1).2.2.2.1)
      = scl (k0_pay1 (fold x0 x1 x2 x3 x4) (Scalar.cmpi CmpIPredicate.eq (BitVec.ofNat 32 (i 1).val) 0#32) xs1) := by
  unfold runC fold col scl
  dsimp only
  sl_unfold_words
  simp only [View.readAt_eq_ld, harg2.read_unread, harg3.read_unread, harg4.read_unread, harg5.read_unread, harg6.read_unread, harg7.read_unread, harg8.read_unread, harg9.read_unread, harg10.read_unread]
  simp (disch := decide) only [View.ld_unit_lit]
  refine (read_last _ f _ _ _).trans ?_
  simp (disch := decide) only [View.readCov_unit_lit]

/-- What the trips before `k` leave in the code buffer, at a column they have written. -/
theorem pieces_codes (c : Dev nD) (i : grid0.Coords) (arg2 : Memref sig .tc .vmem S416x12800 .fp8e4m3) (harg2 : arg2.IsWhole) (arg3 : Memref sig .tc .vmem S416x128 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S416x8192 .fp8e4m3) (harg7 : arg7.IsWhole) (arg8 : Memref sig .tc .vmem S416x128 .f32) (harg8 : arg8.IsWhole) (arg9 : Memref sig .tc .vmem S416x8192 .f32) (harg9 : arg9.IsWhole) (arg10 : Memref sig .tc .vmem S416x128 .f32) (harg10 : arg10.IsWhole) (hc : k0_cond1 i = 1#1) (X9 : arg9.view.ty.Contents (Elt F)) (X10 : arg10.view.ty.Contents (Elt F)) (f : arg7.view.ty.Contents (Elt F)) (k : ℕ) (hk : k ≤ 64) (y : S416x8192.Idx) (hy : (y 1).val < 128 * k) :
    arg7.view.read (Elt F) (arg7.view.writes (Elt F) f (pb_k0_t1 Variants.none c none i arg2 harg2 arg3 harg3 arg4 harg4 arg5 harg5 arg6 harg6 arg7 harg7 arg8 harg8 arg9 harg9 arg10 harg10 hc X9 X10 k)) y
      = codes (arg9.view.read (Elt F) X9) (arg10.view.read (Elt F) X10) y := by
  have htr : k0_t1_loop.trips = 64 := by decide +kernel
  induction k with
  | zero => omega
  | succ k ih =>
    have hk' : k < k0_t1_loop.trips := by omega
    have h1 : (y 1).val < 8192 := (y 1).isLt
    have h0 : (y 0).val < 416 := (y 0).isLt
    rw [pb_k0_t1_succ Variants.none c none i arg2 harg2 arg3 harg3 arg4 harg4 arg5 harg5 arg6 harg6 arg7 harg7 arg8 harg8 arg9 harg9 arg10 harg10 hc X9 X10 ⟨k, hk'⟩]
    unfold tripL_k0_t1 trip_k0_t1
    dsimp only
    rw [List.cons_append, List.nil_append]
    by_cases h : 128 * k ≤ (y 1).val
    · refine (View.read_writes_cons_unit_of_mem _ _ _ _ _ y (ix2 (y 0) (⟨(y 1).val % 128, Nat.mod_lt _ (by decide)⟩ : Fin 128)) (k0_off2_eq ⟨k, hk'⟩) fun a => ?_).trans ?_
      · fin_cases a
        · show (y 0).val = 0 + (y 0).val; omega
        · show (y 1).val = 128 * k + (y 1).val % 128; omega
      · have hq : (y 1).val / 128 = k := by omega
        unfold codes
        simp only [View.readAt_eq_ld]
        simp (disch := decide) only [View.ld_unit_lit]
        refine congrFun (congrArg₂ k0_pay5 (funext fun z => ?_) rfl) _
        refine congrArg (arg9.view.read (Elt F) X9) (funext fun a => Fin.ext ?_)
        have ho := k0_off2_eq ⟨k, hk'⟩
        fin_cases a
        · show k0_off2 ⟨k, hk'⟩ 0 + 1 * (z 0).val = (z 0).val
          rw [ho]; show 0 + 1 * (z 0).val = (z 0).val; omega
        · show k0_off2 ⟨k, hk'⟩ 1 + 1 * (z 1).val = 128 * ((y 1).val / 128) + (z 1).val
          rw [ho]; show 128 * k + 1 * (z 1).val = 128 * ((y 1).val / 128) + (z 1).val; omega
    · refine (View.read_writes_cons_unit_of_not_mem _ _ _ _ _ y (k0_off2_eq ⟨k, hk'⟩) 1 ?_).trans ?_
      · show (y 1).val < 128 * k ∨ 128 * k + 128 ≤ (y 1).val; omega
      · exact ih (by omega) (by omega)

set_option maxHeartbeats 1000000 in
/-- At the last column block: the codes. -/
theorem runC_codes (c : Dev nD) (i : grid0.Coords) (arg2 : Memref sig .tc .vmem S416x12800 .fp8e4m3) (harg2 : arg2.IsWhole) (arg3 : Memref sig .tc .vmem S416x128 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S416x8192 .fp8e4m3) (harg7 : arg7.IsWhole) (arg8 : Memref sig .tc .vmem S416x128 .f32) (harg8 : arg8.IsWhole) (arg9 : Memref sig .tc .vmem S416x8192 .f32) (harg9 : arg9.IsWhole) (arg10 : Memref sig .tc .vmem S416x128 .f32) (harg10 : arg10.IsWhole) (hc : k0_cond1 i = 1#1) (x0 : Vec F S416x12800 .fp8e4m3) (x1 : Vec F S416x128 .f32) (x2 : Vec F S12800x512 .fp8e4m3) (x3 : Vec F S1x512 .f32) (x4 : Vec F S1x512 .f32) (xs0 : Vec F S416x8192 .f32) (xs1 : Vec F S416x128 .f32) (f : arg7.view.ty.Contents (Elt F)) :
    arg7.view.read (Elt F) (arg7.view.writes (Elt F) f (runC c i arg2 harg2 arg3 harg3 arg4 harg4 arg5 harg5 arg6 harg6 arg7 harg7 arg8 harg8 arg9 harg9 arg10 harg10 hc x0 x1 x2 x3 x4 xs0 xs1).2.2.1)
      = codes (upd (i 1).val xs0 (gel x0 x1 x2 x3 x4)) (rcp (k0_pay1 (fold x0 x1 x2 x3 x4) (Scalar.cmpi CmpIPredicate.eq (BitVec.ofNat 32 (i 1).val) 0#32) xs1)) := by
  funext y
  refine (pieces_codes c i arg2 harg2 arg3 harg3 arg4 harg4 arg5 harg5 arg6 harg6 arg7 harg7 arg8 harg8 arg9 harg9 arg10 harg10 hc _ _ f 64 le_rfl y (y 1).isLt).trans (congrFun (congrArg₂ codes ?_ ?_) y)
  · exact runC_wide c i arg2 harg2 arg3 harg3 arg4 harg4 arg5 harg5 arg6 harg6 arg7 harg7 arg8 harg8 arg9 harg9 arg10 harg10 hc x0 x1 x2 x3 x4 xs0 xs1
  · unfold rcp fold col
    dsimp only
    sl_unfold_words
    refine (read_last _ _ _ _ _).trans ?_
    simp only [View.readAt_eq_ld, harg2.read_unread, harg3.read_unread, harg4.read_unread, harg5.read_unread, harg6.read_unread, harg7.read_unread, harg8.read_unread, harg9.read_unread, harg10.read_unread]
    simp (disch := decide) only [View.ld_unit_lit, View.readCov_unit_lit]

end Cert.Fc1.Body

end
-- ==== Proof.Fc1Data.lean ====
/-
  What the first matrix product's scratch and staging buffers hold after each grid point, and the pipeline's proof data
  stating it. The grid is 8 row blocks by 16 column blocks, the column blocks innermost: the wide scratch gathers the
  activated row block, the narrow one its running row maximum, and the last column block leaves codes and scales.
-/
module

public import proofs.«01_k».proof.Proof.Fc1State

@[expose] public section

set_option maxRecDepth 16384

noncomputable section

namespace Cert.Fc1.Body

open Cert.Fc1 Cert.Fc1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point number `n`. -/
def pt (n : ℕ) : Fin cfg0.N := ⟨n % 128, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

/-- The activated block of grid point `n`. -/
def gelAt (c : Dev nD) (n : ℕ) : Vec F S416x512 .f32 := gel (iblk m c 0 (pt n)) (iblk m c 1 (pt n)) (iblk m c 2 (pt n)) (iblk m c 3 (pt n)) (iblk m c 4 (pt n))

/-- Its magnitudes folded to 128 lanes. -/
def foldAt (c : Dev nD) (n : ℕ) : Vec F S416x128 .f32 := fold (iblk m c 0 (pt n)) (iblk m c 1 (pt n)) (iblk m c 2 (pt n)) (iblk m c 3 (pt n)) (iblk m c 4 (pt n))

/-- The activated row block `r`, all its columns. -/
def wide (c : Dev nD) (r : ℕ) : Vec F S416x8192 .f32 := fun y =>
  gelAt m c (16 * r + (y 1).val / 512) (ix2 (y 0) (⟨(y 1).val % 512, Nat.mod_lt _ (by decide)⟩ : Fin 512))

/-- The running maximum of row block `r` after column block `j`. -/
def top (c : Dev nD) (r : ℕ) : ℕ → Vec F S416x128 .f32
  | 0 => k0_pay1 (foldAt m c (16 * r)) 1#1 (foldAt m c (16 * r))
  | j + 1 => k0_pay1 (foldAt m c (16 * r + (j + 1))) 0#1 (top c r j)

/-- What the scratch holds before grid point `n`, unless `n` starts a row block. -/
def Held (c : Dev nD) (n : ℕ) (G : Vec F S416x8192 .f32) (A : Vec F S416x128 .f32) : Prop :=
  n % 16 ≠ 0 → (∀ y : S416x8192.Idx, (y 1).val < 512 * (n % 16) → G y = wide m c (n / 16) y) ∧ A = top m c (n / 16) (n % 16 - 1)

/-- At the first column block the narrow scratch is not read. -/
theorem pay1_first (v A B : Vec F S416x128 .f32) : k0_pay1 v 1#1 A = k0_pay1 v 1#1 B := rfl

/-- The wide scratch after grid point `n`. -/
theorem held_wide (c : Dev nD) (n : ℕ) (G : Vec F S416x8192 .f32) (A : Vec F S416x128 .f32) (h : Held m c n G A)
    (y : S416x8192.Idx) (hy : (y 1).val < 512 * (n % 16 + 1)) : upd (n % 16) G (gelAt m c n) y = wide m c (n / 16) y := by
  unfold upd
  split
  · rename_i h2
    unfold wide
    rw [show 16 * (n / 16) + (y 1).val / 512 = n by omega]
  · rename_i h2
    by_cases hz : n % 16 = 0
    · omega
    · exact (h hz).1 y (by omega)

/-- The narrow scratch after grid point `n`. -/
theorem held_top (c : Dev nD) (n : ℕ) (G : Vec F S416x8192 .f32) (A : Vec F S416x128 .f32) (h : Held m c n G A) :
    k0_pay1 (foldAt m c n) (Scalar.cmpi CmpIPredicate.eq (BitVec.ofNat 32 (n % 16)) 0#32) A = top m c (n / 16) (n % 16) := by
  by_cases hz : n % 16 = 0
  · rw [hz]
    show k0_pay1 (foldAt m c n) 1#1 A = k0_pay1 (foldAt m c (16 * (n / 16))) 1#1 _
    rw [show 16 * (n / 16) = n by omega]
    exact pay1_first _ _ _
  · obtain ⟨j, hj⟩ : ∃ j, n % 16 = j + 1 := ⟨n % 16 - 1, by omega⟩
    rw [(h hz).2, hj]
    have hlt : j + 1 < 16 := by omega
    have hb : Scalar.cmpi CmpIPredicate.eq (BitVec.ofNat 32 (j + 1)) 0#32 = 0#1 := by
      clear h hz hj
      have : j < 15 := by omega
      interval_cases j <;> rfl
    rw [hb]
    show k0_pay1 (foldAt m c n) 0#1 (top m c (n / 16) j) = k0_pay1 (foldAt m c (16 * (n / 16) + (j + 1))) 0#1 (top m c (n / 16) j)
    rw [show 16 * (n / 16) + (j + 1) = n by omega]

/-- What a grid point leaves in the scratch is what is held before the next. -/
theorem held_step (c : Dev nD) (n : ℕ) (G : Vec F S416x8192 .f32) (A : Vec F S416x128 .f32) (h : Held m c n G A) :
    Held m c (n + 1) (upd (n % 16) G (gelAt m c n))
      (k0_pay1 (foldAt m c n) (Scalar.cmpi CmpIPredicate.eq (BitVec.ofNat 32 (n % 16)) 0#32) A) := fun hz => by
  rw [show (n + 1) % 16 = n % 16 + 1 by omega, show (n + 1) / 16 = n / 16 by omega]
  exact ⟨fun y hy => held_wide m c n G A h y hy, held_top m c n G A h⟩

/-- The codes of row block `r`. -/
def codesOf (c : Dev nD) (r : ℕ) : Vec F S416x8192 .fp8e4m3 := codes (wide m c r) (rcp (top m c r 15))

/-- The scales of row block `r`. -/
def scalesOf (c : Dev nD) (r : ℕ) : Vec F S416x128 .f32 := scl (top m c r 15)

/-- The scratch buffers. -/
abbrev scM0_0 : Memref sig .tc .vmem S416x8192 .f32 := Memref.whole cc0_scratch0
abbrev scM0_1 : Memref sig .tc .vmem S416x128 .f32 := Memref.whole cc0_scratch1

/-- The region's invariant before grid point `n`: the scratch at contents with the stated property. -/
def PhiS (c : Dev nD) (n : ℕ) : sProp 𝕄 :=
  iprop((∃ G, ∃ A, owns (c : Thread nD τ) scM0_0 fullShare G ∗ owns (c : Thread nD τ) scM0_1 fullShare A ∗ ⌜Held m c n G A⌝) ∗ (∃ r, prngReg c r))

/-- The frame kit's own invariant: the scratch at any contents. -/
theorem PhiA0_eq (c : Dev nD) : (Pipeline.ΦA spec0 c : sProp 𝕄)
    = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The pipeline's proof data: inputs at their blocks, the outputs at the codes and scales of the point's row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesOf m c (t.val / 16)
    | ⟨6, _⟩ => scalesOf m c (t.val / 16)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = codesOf m c (t.val / 16) := by dsimp only [dats]
theorem after0_6 (c : Dev nD) (t : Fin cfg0.N) : (dats m 0 c).after 6 t = scalesOf m c (t.val / 16) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.Fc1.Body

end
-- ==== Proof.Fc1Body.lean ====
/-
  The first matrix product's body meets its proof data at every grid point; the run of the whole call and its frame
  follow.
-/
module

public import proofs.«01_k».proof.Proof.Fc1Data

@[expose] public section

set_option maxRecDepth 16384

noncomputable section

namespace Cert.Fc1.Body

open Cert.Fc1 Cert.Fc1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at the last column block. -/
theorem hcond : ∀ t : Fin cfg0.N, k0_cond1 (grid0.coords t) = 1#1 ↔ t.val % 16 = 15 :=
  (by decide +kernel : ∀ t : Fin grid0.N, k0_cond1 (grid0.coords t) = 1#1 ↔ t.val % 16 = 15)

/-- The column block of a grid point. -/
theorem hcol : ∀ t : Fin cfg0.N, (grid0.coords t 1).val = t.val % 16 :=
  (by decide +kernel : ∀ t : Fin grid0.N, (grid0.coords t 1).val = t.val % 16)

/-- Before the last column block the outputs are neither stored nor written back; at it they are stored. -/
theorem idle5 : ∀ t : Fin cfg0.N, ¬t.val % 16 = 15 → cfg0.idle 5 (grid0.coords t) = true := by decide +kernel
theorem idle6 : ∀ t : Fin cfg0.N, ¬t.val % 16 = 15 → cfg0.idle 6 (grid0.coords t) = true := by decide +kernel
theorem noFlush5 : ∀ t : Fin cfg0.N, ¬t.val % 16 = 15 → (cfg0.win 5).flush t = false := by decide +kernel
theorem noFlush6 : ∀ t : Fin cfg0.N, ¬t.val % 16 = 15 → (cfg0.win 6).flush t = false := by decide +kernel
theorem live5 : ∀ t : Fin cfg0.N, t.val % 16 = 15 → cfg0.idle 5 (grid0.coords t) = false := by decide +kernel
theorem live6 : ∀ t : Fin cfg0.N, t.val % 16 = 15 → cfg0.idle 6 (grid0.coords t) = false := by decide +kernel

/-- Each window's staging buffer at a grid point, and that it is a whole buffer. -/
abbrev ms0_0 (t : Fin cfg0.N) : Memref sig .tc .vmem S416x12800 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S416x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12800x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S416x8192 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S416x128 .f32 := win0_6.stage (cfg0.slots t 6)
abbrev hs0_6 (t : Fin cfg0.N) : (ms0_6 t).IsWhole := hstage0_6 ((cfg0.slots t 6).cast nbuf0_6)

/-- What the body is given at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it must leave. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 3000000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0_0 t) fullShare (iblk m c 0 t) from by
    unfold Dat.leavesExact; rw [show cfg0.idle 0 (cfg0.grid.coords t) = false from rfl, after0_0]]
  rw [show (dats m 0 c).leavesExact 1 t = owns (c : Thread nD τ) (ms0_1 t) fullShare (iblk m c 1 t) from by
    unfold Dat.leavesExact; rw [show cfg0.idle 1 (cfg0.grid.coords t) = false from rfl, after0_1]]
  rw [show (dats m 0 c).leavesExact 2 t = owns (c : Thread nD τ) (ms0_2 t) fullShare (iblk m c 2 t) from by
    unfold Dat.leavesExact; rw [show cfg0.idle 2 (cfg0.grid.coords t) = false from rfl, after0_2]]
  rw [show (dats m 0 c).leavesExact 3 t = owns (c : Thread nD τ) (ms0_3 t) fullShare (iblk m c 3 t) from by
    unfold Dat.leavesExact; rw [show cfg0.idle 3 (cfg0.grid.coords t) = false from rfl, after0_3]]
  rw [show (dats m 0 c).leavesExact 4 t = owns (c : Thread nD τ) (ms0_4 t) fullShare (iblk m c 4 t) from by
    unfold Dat.leavesExact; rw [show cfg0.idle 4 (cfg0.grid.coords t) = false from rfl, after0_4]]
  have eg : gel (iblk m c 0 t) (iblk m c 1 t) (iblk m c 2 t) (iblk m c 3 t) (iblk m c 4 t) = gelAt m c t.val := by unfold gelAt; rw [pt_val]
  have ef : fold (iblk m c 0 t) (iblk m c 1 t) (iblk m c 2 t) (iblk m c 3 t) (iblk m c 4 t) = foldAt m c t.val := by unfold foldAt; rw [pt_val]
  unfold PhiS
  by_cases h : t.val % 16 = 15
  · have hc := (hcond t).mpr h
    rw [show (dats m 0 c).leavesExact 5 t = owns (c : Thread nD τ) (ms0_5 t) fullShare (codesOf m c (t.val / 16)) from by
      unfold Dat.leavesExact; rw [show cfg0.idle 5 (cfg0.grid.coords t) = false from live5 t h, after0_5]]
    rw [show (dats m 0 c).leavesExact 6 t = owns (c : Thread nD τ) (ms0_6 t) fullShare (scalesOf m c (t.val / 16)) from by
      unfold Dat.leavesExact; rw [show cfg0.idle 6 (cfg0.grid.coords t) = false from live6 t h, after0_6]]
    iintro ⟨⟨⟨%G, %A, HS0, HS1, %hG⟩, Hg⟩, Ho, ⟨%d0, H0⟩, ⟨%d1, H1⟩, ⟨%d2, H2⟩, ⟨%d3, H3⟩, ⟨%d4, H4⟩, ⟨%d5, H5⟩, ⟨%d6, H6⟩⟩
    have eA := held_top m c t.val G A hG
    rw [h] at eA
    have eG : upd 15 G (gelAt m c t.val) = wide m c (t.val / 16) := funext fun y => by
      have e := held_wide m c t.val G A hG y (by rw [h]; exact (y 1).isLt)
      rwa [h] at e
    iapply ((runC c (grid0.coords t) _ _ _ _ _ _ _ _ _ _ _ _ _ _ _ _ _ _ hc (iblk m c 0 t) (iblk m c 1 t) (iblk m c 2 t) (iblk m c 3 t) (iblk m c 4 t) G A).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, ⟨%e6, H6⟩, HS0, ⟨%es1, HS1⟩⟩
    isplitl [HS0 HS1 Hg]
    · isplitl [HS0 HS1]
      · iexists _; iexists _
        isplitl [HS0]
        · unfold owns; iexists _; isplitr
          swap; · iexact HS0
          ipureintro; rfl
        isplitl [HS1]
        · unfold owns; iexists _; isplitr
          swap; · iexact HS1
          ipureintro; rfl
        ipureintro; exact fun hz => absurd (by omega) hz
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      refine (runC_codes c (grid0.coords t) _ _ _ _ _ _ _ _ _ _ _ _ _ _ _ _ _ _ hc _ _ _ _ _ G A _).trans ?_
      rw [hcol t, h, eg, ef, eA, eG]; rfl
    unfold owns; iexists _; isplitr
    swap; · iexact H6
    ipureintro
    refine (runC_scale c (grid0.coords t) _ _ _ _ _ _ _ _ _ _ _ _ _ _ _ _ _ _ hc _ _ _ _ _ G A _).trans ?_
    rw [hcol t, h, ef, eA]; rfl
  · have hc : ¬k0_cond1 (grid0.coords t) = 1#1 := fun e => h ((hcond t).mp e)
    rw [Dat.leavesExact_idle (dats m 0 c) 5 t (idle5 t h) (noFlush5 t h), Dat.leavesExact_idle (dats m 0 c) 6 t (idle6 t h) (noFlush6 t h)]
    iintro ⟨⟨⟨%G, %A, HS0, HS1, %hG⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ (ms0_5 t) (hs0_5 t) (ms0_6 t) (hs0_6 t) _ _ _ _ hc (iblk m c 0 t) (iblk m c 1 t) (iblk m c 2 t) (iblk m c 3 t) (iblk m c 4 t) G A).2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, ⟨%es1, HS1⟩⟩
    isplitl [HS0 HS1 Hg]
    · isplitl [HS0 HS1]
      · iexists _; iexists _
        isplitl [HS0]
        · unfold owns; iexists _; isplitr
          swap; · iexact HS0
          ipureintro
          exact (runA_wide c (grid0.coords t) _ _ _ _ _ _ _ _ _ _ _ _ _ _ _ _ _ _ hc _ _ _ _ _ G A).trans (by rw [hcol t, eg])
        isplitl [HS1]
        · unfold owns; iexists _; isplitr
          swap; · iexact HS1
          ipureintro
          exact (runA_narrow c (grid0.coords t) _ _ _ _ _ _ _ _ _ _ _ _ _ _ _ _ _ _ hc _ _ _ _ _ G A _).trans (by rw [hcol t, ef])
        ipureintro; exact held_step m c t.val G A hG
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6

/-- The body table's row at a grid point is the body there. -/
theorem defs₀_row (t : Fin cfg0.N) :
    defs₀ (F := F) .tc cfg0.body (cfg0.bodyArgs t (cfg0.slots t)) = bodyAt0 t := by
  unfold defs₀; rw [Defs.onTc_tc]

/-- The body's obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%G, HS0⟩, ⟨%A, HS1⟩⟩, Hg⟩
  isplitl [HS0 HS1]
  · iexists G; iexists A
    isplitl [HS0]; · iexact HS0
    isplitl [HS1]; · iexact HS1
    ipureintro; exact fun hz => absurd rfl hz
  iexact Hg

/-- After the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%G, %A, HS0, HS1, %hG⟩, Hg⟩
  isplitl [HS0 HS1]
  · isplitl [HS0]
    · iexists _; iexact HS0
    iexists _; iexact HS1
  iexact Hg

set_option backward.isDefEq.respectTransparency.types false in
/-- Every weakly fair run of the call ends with every array at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

/-- The two results after the run, by the proof data; the arguments unchanged. -/
theorem run_blocks : θ_run defs (onTc (τ := τ) (main (F := F))) ⟨m, fun _ => 0, ρ⟩ (fun r => ∀ c : Dev nD,
      r.2.mem ((c.tc : Thread nD τ).loc main_v2_0) = (dats m 0 c).arrAt 5 cfg0.N
      ∧ r.2.mem ((c.tc : Thread nD τ).loc main_v2_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.2 c).1 5, (h.2 c).1 6, h.1 c⟩) (θ_run_and (frame_of m ρ (dats m) (A_eq m) (run_main m ρ)) (run_main m ρ))

end Cert.Fc1.Body

end
-- ==== Proof.Fc1IdealRun.lean ====
/-
  The body of the first matrix product's kernel, run once at a symbolic grid point: before the last column block
  (`runA`) and at the last column block (`runC`). Each states the writes that the body leaves in the buffers it stores
  into, on whole staging memrefs whose contents are given.
-/
module

public import proofs.«01_k».proof.Proof.Gen.Fc1Ideal.Frame
public import proofs.«01_k».proof.Proof.Gen.Fc1Ideal.Loops
public import Idealize.ShloMosaic.Lib.Claim

@[expose] public section

set_option maxRecDepth 16384

noncomputable section

namespace Cert.Fc1Ideal.Body

open Cert.Fc1Ideal Cert.Fc1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- The body before the last column block: it reads the inputs, writes its slice of the wide scratch and the whole of the
    narrow scratch, and touches neither output. -/
def runA (c : Dev nD) (i : grid0.Coords) (arg2 : Memref sig .tc .vmem S416x12800 .fp8e4m3) (harg2 : arg2.IsWhole) (arg3 : Memref sig .tc .vmem S416x128 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S416x8192 .fp8e4m3) (harg7 : arg7.IsWhole) (arg8 : Memref sig .tc .vmem S416x128 .f32) (harg8 : arg8.IsWhole) (arg9 : Memref sig .tc .vmem S416x8192 .f32) (harg9 : arg9.IsWhole) (arg10 : Memref sig .tc .vmem S416x128 .f32) (harg10 : arg10.IsWhole) (hc : ¬k0_cond1 i = 1#1)
    (x0 : Vec F S416x12800 .fp8e4m3) (x1 : Vec F S416x128 .f32) (x2 : Vec F S12800x512 .fp8e4m3) (x3 : Vec F S1x512 .f32) (x4 : Vec F S1x512 .f32) (xs0 : Vec F S416x8192 .f32) (xs1 : Vec F S416x128 .f32) :
    Σ' (LS0 : List (View.Piece (Elt F) S416x8192 .f32)), { LS1 : List (View.Piece (Elt F) S416x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg9.view.loc (c : Thread nD τ) ↦[arg9.view.set]{fullShare} arg9.view.writes (Elt F) (harg9.unread xs0) LS0) ∗ (∃ f, (arg10.view.loc (c : Thread nD τ) ↦[arg10.view.set]{fullShare} arg10.view.writes (Elt F) f LS1))) -∗ K ⟨⟩))
          ⊢ wp frame (wpE (defs₀ (F := F)) Variants.none c none) E (cc0_fc1_gelu_quant i arg2 harg2 arg3 harg3 arg4 harg4 arg5 harg5 arg6 harg6 arg7 harg7 arg8 harg8 arg9 harg9 arg10 harg10) K } := by
  refine ⟨?_, ?_, fun E K => ?run⟩
  case run =>
    simp only [cc0_fc1_gelu_quant_eq_skeleton]; unfold cc0_fc1_gelu_quant_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexact HS0
    iexists _; iexact HS1

set_option maxHeartbeats 1000000 in
/-- The body at the last column block: beside that, it writes both outputs from the finished scratch buffers. -/
def runC (c : Dev nD) (i : grid0.Coords) (arg2 : Memref sig .tc .vmem S416x12800 .fp8e4m3) (harg2 : arg2.IsWhole) (arg3 : Memref sig .tc .vmem S416x128 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S416x8192 .fp8e4m3) (harg7 : arg7.IsWhole) (arg8 : Memref sig .tc .vmem S416x128 .f32) (harg8 : arg8.IsWhole) (arg9 : Memref sig .tc .vmem S416x8192 .f32) (harg9 : arg9.IsWhole) (arg10 : Memref sig .tc .vmem S416x128 .f32) (harg10 : arg10.IsWhole) (hc : k0_cond1 i = 1#1)
    (x0 : Vec F S416x12800 .fp8e4m3) (x1 : Vec F S416x128 .f32) (x2 : Vec F S12800x512 .fp8e4m3) (x3 : Vec F S1x512 .f32) (x4 : Vec F S1x512 .f32) (xs0 : Vec F S416x8192 .f32) (xs1 : Vec F S416x128 .f32) :
    Σ' (LS0 : List (View.Piece (Elt F) S416x8192 .f32)) (LS1 : List (View.Piece (Elt F) S416x128 .f32)) (L5 : List (View.Piece (Elt F) S416x8192 .fp8e4m3)), { L6 : List (View.Piece (Elt F) S416x128 .f32) //
      ∀ (xo5 : Vec F S416x8192 .fp8e4m3) (xo6 : Vec F S416x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xo6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xo5) L5) ∗ (∃ f, (arg8.view.loc (c : Thread nD τ) ↦[arg8.view.set]{fullShare} arg8.view.writes (Elt F) f L6)) ∗ (arg9.view.loc (c : Thread nD τ) ↦[arg9.view.set]{fullShare} arg9.view.writes (Elt F) (harg9.unread xs0) LS0) ∗ (∃ f, (arg10.view.loc (c : Thread nD τ) ↦[arg10.view.set]{fullShare} arg10.view.writes (Elt F) f LS1))) -∗ K ⟨⟩))
          ⊢ wp frame (wpE (defs₀ (F := F)) Variants.none c none) E (cc0_fc1_gelu_quant i arg2 harg2 arg3 harg3 arg4 harg4 arg5 harg5 arg6 harg6 arg7 harg7 arg8 harg8 arg9 harg9 arg10 harg10) K } := by
  refine ⟨?_, ?_, ?_, ?_, fun xo5 xo6 E K => ?run⟩
  case run =>
    simp only [cc0_fc1_gelu_quant_eq_skeleton]; unfold cc0_fc1_gelu_quant_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [H6]; · iexists _; iexact H6
    isplitl [HS0]; · iexact HS0
    iexists _; iexact HS1

end Cert.Fc1Ideal.Body

end
-- ==== Proof.Fc1IdealState.lean ====
/-
  What the writes of the first matrix product's body read as: the activated block in its columns of the wide scratch, the
  running row maximum in the narrow scratch and, at the last column block, the scales and the codes.
-/
module

public import proofs.«01_k».proof.Proof.Fc1IdealRun
public import Idealize.ShloMosaic.Lib.Pipeline.ValueKit
public import Idealize.ShloMosaic.Lib.WritesUnit
public import Idealize.ShloMosaic.Lib.Pointwise

@[expose] public section

set_option maxRecDepth 16384

noncomputable section

namespace Cert.Fc1Ideal.Body

open Cert.Fc1Ideal Cert.Fc1Ideal.Gen
open Idealize.ShloMosaic Idealize.ShloMosaic.TcCoe Idealize.ShloMosaic.Tactic

variable {F : FTy → Type} [FloatOps F]

/-- The first lane of the row scales. -/
def col (x1 : Vec F S416x128 .f32) : Vec F S416x1 .f32 :=
  View.ld x1 (Rect.unit ![0, 0] S416x1.size inb_S416x128_S416x1_0_0)

/-- The activated block of one grid point, from the point's input blocks. -/
def gel (x0 : Vec F S416x12800 .fp8e4m3) (x1 : Vec F S416x128 .f32) (x2 : Vec F S12800x512 .fp8e4m3) (x3 : Vec F S1x512 .f32) (x4 : Vec F S1x512 .f32) : Vec F S416x512 .f32 :=
  k0_pay11 x0 x2 (col x1) x3 x4

/-- The magnitudes of that block folded to 128 lanes by maximum. -/
def fold (x0 : Vec F S416x12800 .fp8e4m3) (x1 : Vec F S416x128 .f32) (x2 : Vec F S12800x512 .fp8e4m3) (x3 : Vec F S1x512 .f32) (x4 : Vec F S1x512 .f32) : Vec F S416x128 .f32 :=
  k0_pay12 x0 x2 (col x1) x3 x4

/-- The wide scratch with column block `j` replaced. -/
def upd (j : ℕ) (G : Vec F S416x8192 .f32) (B : Vec F S416x512 .f32) : Vec F S416x8192 .f32 := fun y =>
  if 512 * j ≤ (y 1).val ∧ (y 1).val < 512 * j + 512 then B (ix2 (y 0) (⟨(y 1).val % 512, Nat.mod_lt _ (by decide)⟩ : Fin 512)) else G y

/-- The scale of each row, on every lane, from the folded maxima. -/
def scl (A : Vec F S416x128 .f32) : Vec F S416x128 .f32 := k0_pay3 (k0_pay6 A) (k0_pay7 A) (k0_pay8 A) (k0_pay9 A)

/-- The reciprocal of that scale. -/
def rcp (A : Vec F S416x128 .f32) : Vec F S416x128 .f32 := k0_pay4 (k0_pay6 A) (k0_pay7 A) (k0_pay8 A) (k0_pay9 A)

/-- The 128 columns of a wide array from column `128 k`. -/
def lanes (G : Vec F S416x8192 .f32) (k : Fin 64) : Vec F S416x128 .f32 := fun z =>
  G (ix2 (z 0) (⟨128 * k.val + (z 1).val, by have h1 : (z 1).val < 128 := (z 1).isLt; have h2 := k.isLt; omega⟩ : Fin 8192))

/-- The codes of a wide array under the reciprocal scales `I`. -/
def codes (G : Vec F S416x8192 .f32) (I : Vec F S416x128 .f32) : Vec F S416x8192 .fp8e4m3 := fun y =>
  k0_pay5 (lanes G ⟨(y 1).val / 128, by have h1 : (y 1).val < 8192 := (y 1).isLt; omega⟩) I (ix2 (y 0) (⟨(y 1).val % 128, Nat.mod_lt _ (by decide)⟩ : Fin 128))

/-- One block written into the wide scratch reads as the replaced array. -/
theorem read_upd (i : grid0.Coords) (arg9 : Memref sig .tc .vmem S416x8192 .f32) (harg9 : arg9.IsWhole) (G : Vec F S416x8192 .f32) (B : Vec F S416x512 .f32) :
    arg9.view.read (Elt F) (arg9.view.writes (Elt F) (harg9.unread G) [⟨Rect.unit (s := S416x8192) (k0_off1 i) S416x512.size (k0_off1_inb i), B⟩]) = upd (i 1).val G B := by
  funext y
  have h1 : (y 1).val < 8192 := (y 1).isLt
  have h0 : (y 0).val < 416 := (y 0).isLt
  unfold upd
  split
  · rename_i h
    refine View.read_writes_cons_unit_of_mem _ _ _ B [] y (ix2 (y 0) (⟨(y 1).val % 512, Nat.mod_lt _ (by decide)⟩ : Fin 512)) (k0_off1_eq i) fun a => ?_
    fin_cases a
    · show (y 0).val = 0 + (y 0).val; omega
    · show (y 1).val = 512 * (i 1).val + (y 1).val % 512; omega
  · rename_i h
    have h' : (y 1).val < 512 * (i 1).val ∨ 512 * (i 1).val + 512 ≤ (y 1).val := by omega
    have e := View.read_writes_cons_unit_of_not_mem arg9.view (harg9.unread G) (k0_off1_inb i) B [] y (k0_off1_eq i) (1 : Fin 2) h'
    rw [View.writes_nil, harg9.read_unread] at e
    exact e

/-- A store of the whole lane-wide buffer reads as what was stored, whatever was stored before. -/
theorem read_last (v : View sig .tc .vmem S416x128 .f32) (f : v.ty.Contents (Elt F)) (inb : ∀ a, (![0, 0] : Fin 2 → ℕ) a + S416x128.size a ≤ S416x128.size a) (w : Vec F S416x128 .f32) (L : List (View.Piece (Elt F) S416x128 .f32)) :
    v.read (Elt F) (v.writes (Elt F) f ((⟨Rect.unit ![0, 0] S416x128.size inb, w⟩ : View.Piece (Elt F) S416x128 .f32) :: L)) = w :=
  funext fun y => View.read_writes_cons_unit_of_mem v f inb w L y y rfl fun a => by fin_cases a <;> exact (Nat.zero_add _).symm

set_option maxHeartbeats 1000000 in
/-- Before the last column block: the wide scratch. -/
theorem runA_wide (c : Dev nD) (i : grid0.Coords) (arg2 : Memref sig .tc .vmem S416x12800 .fp8e4m3) (harg2 : arg2.IsWhole) (arg3 : Memref sig .tc .vmem S416x128 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S416x8192 .fp8e4m3) (harg7 : arg7.IsWhole) (arg8 : Memref sig .tc .vmem S416x128 .f32) (harg8 : arg8.IsWhole) (arg9 : Memref sig .tc .vmem S416x8192 .f32) (harg9 : arg9.IsWhole) (arg10 : Memref sig .tc .vmem S416x128 .f32) (harg10 : arg10.IsWhole) (hc : ¬k0_cond1 i = 1#1) (x0 : Vec F S416x12800 .fp8e4m3) (x1 : Vec F S416x128 .f32) (x2 : Vec F S12800x512 .fp8e4m3) (x3 : Vec F S1x512 .f32) (x4 : Vec F S1x512 .f32) (xs0 : Vec F S416x8192 .f32) (xs1 : Vec F S416x128 .f32) :
    arg9.view.read (Elt F) (arg9.view.writes (Elt F) (harg9.unread xs0) (runA c i arg2 harg2 arg3 harg3 arg4 harg4 arg5 harg5 arg6 harg6 arg7 harg7 arg8 harg8 arg9 harg9 arg10 harg10 hc x0 x1 x2 x3 x4 xs0 xs1).1) = upd (i 1).val xs0 (gel x0 x1 x2 x3 x4) := by
  refine Eq.trans ?_ (read_upd i arg9 harg9 xs0 _)
  unfold runA gel col
  dsimp only
  simp only [View.readAt_eq_ld, harg2.read_unread, harg3.read_unread, harg4.read_unread, harg5.read_unread, harg6.read_unread, harg7.read_unread, harg8.read_unread, harg9.read_unread, harg10.read_unread]
  simp (disch := decide) only [View.ld_unit_lit]

set_option maxHeartbeats 1000000 in
/-- Before the last column block: the narrow scratch. -/
theorem runA_narrow (c : Dev nD) (i : grid0.Coords) (arg2 : Memref sig .tc .vmem S416x12800 .fp8e4m3) (harg2 : arg2.IsWhole) (arg3 : Memref sig .tc .vmem S416x128 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S416x8192 .fp8e4m3) (harg7 : arg7.IsWhole) (arg8 : Memref sig .tc .vmem S416x128 .f32) (harg8 : arg8.IsWhole) (arg9 : Memref sig .tc .vmem S416x8192 .f32) (harg9 : arg9.IsWhole) (arg10 : Memref sig .tc .vmem S416x128 .f32) (harg10 : arg10.IsWhole) (hc : ¬k0_cond1 i = 1#1) (x0 : Vec F S416x12800 .fp8e4m3) (x1 : Vec F S416x128 .f32) (x2 : Vec F S12800x512 .fp8e4m3) (x3 : Vec F S1x512 .f32) (x4 : Vec F S1x512 .f32) (xs0 : Vec F S416x8192 .f32) (xs1 : Vec F S416x128 .f32) (f : arg10.view.ty.Contents (Elt F)) :
    arg10.view.read (Elt F) (arg10.view.writes (Elt F) f (runA c i arg2 harg2 arg3 harg3 arg4 harg4 arg5 harg5 arg6 harg6 arg7 harg7 arg8 harg8 arg9 harg9 arg10 harg10 hc x0 x1 x2 x3 x4 xs0 xs1).2.1)
      = k0_pay1 (fold x0 x1 x2 x3 x4) (Scalar.cmpi CmpIPredicate.eq (BitVec.ofNat 32 (i 1).val) 0#32) xs1 := by
  unfold runA fold col
  dsimp only
  sl_unfold_words
  simp only [View.readAt_eq_ld, harg2.read_unread, harg3.read_unread, harg4.read_unread, harg5.read_unread, harg6.read_unread, harg7.read_unread, harg8.read_unread, harg9.read_unread, harg10.read_unread]
  simp (disch := decide) only [View.ld_unit_lit]
  exact read_last _ f _ _ _

set_option maxHeartbeats 1000000 in
/-- At the last column block: the wide scratch. -/
theorem runC_wide (c : Dev nD) (i : grid0.Coords) (arg2 : Memref sig .tc .vmem S416x12800 .fp8e4m3) (harg2 : arg2.IsWhole) (arg3 : Memref sig .tc .vmem S416x128 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S416x8192 .fp8e4m3) (harg7 : arg7.IsWhole) (arg8 : Memref sig .tc .vmem S416x128 .f32) (harg8 : arg8.IsWhole) (arg9 : Memref sig .tc .vmem S416x8192 .f32) (harg9 : arg9.IsWhole) (arg10 : Memref sig .tc .vmem S416x128 .f32) (harg10 : arg10.IsWhole) (hc : k0_cond1 i = 1#1) (x0 : Vec F S416x12800 .fp8e4m3) (x1 : Vec F S416x128 .f32) (x2 : Vec F S12800x512 .fp8e4m3) (x3 : Vec F S1x512 .f32) (x4 : Vec F S1x512 .f32) (xs0 : Vec F S416x8192 .f32) (xs1 : Vec F S416x128 .f32) :
    arg9.view.read (Elt F) (arg9.view.writes (Elt F) (harg9.unread xs0) (runC c i arg2 harg2 arg3 harg3 arg4 harg4 arg5 harg5 arg6 harg6 arg7 harg7 arg8 harg8 arg9 harg9 arg10 harg10 hc x0 x1 x2 x3 x4 xs0 xs1).1) = upd (i 1).val xs0 (gel x0 x1 x2 x3 x4) := by
  refine Eq.trans ?_ (read_upd i arg9 harg9 xs0 _)
  unfold runC gel col
  dsimp only
  simp only [View.readAt_eq_ld, harg2.read_unread, harg3.read_unread, harg4.read_unread, harg5.read_unread, harg6.read_unread, harg7.read_unread, harg8.read_unread, harg9.read_unread, harg10.read_unread]
  simp (disch := decide) only [View.ld_unit_lit]

set_option maxHeartbeats 1000000 in
/-- At the last column block: the scales. -/
theorem runC_scale (c : Dev nD) (i : grid0.Coords) (arg2 : Memref sig .tc .vmem S416x12800 .fp8e4m3) (harg2 : arg2.IsWhole) (arg3 : Memref sig .tc .vmem S416x128 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S416x8192 .fp8e4m3) (harg7 : arg7.IsWhole) (arg8 : Memref sig .tc .vmem S416x128 .f32) (harg8 : arg8.IsWhole) (arg9 : Memref sig .tc .vmem S416x8192 .f32) (harg9 : arg9.IsWhole) (arg10 : Memref sig .tc .vmem S416x128 .f32) (harg10 : arg10.IsWhole) (hc : k0_cond1 i = 1#1) (x0 : Vec F S416x12800 .fp8e4m3) (x1 : Vec F S416x128 .f32) (x2 : Vec F S12800x512 .fp8e4m3) (x3 : Vec F S1x512 .f32) (x4 : Vec F S1x512 .f32) (xs0 : Vec F S416x8192 .f32) (xs1 : Vec F S416x128 .f32) (f : arg8.view.ty.Contents (Elt F)) :
    arg8.view.read (Elt F) (arg8.view.writes (Elt F) f (runC c i arg2 harg2 arg3 harg3 arg4 harg4 arg5 harg5 arg6 harg6 arg7 harg7 arg8 harg8 arg9 harg9 arg10 harg10 hc x0 x1 x2 x3 x4 xs0 xs1).2.2.2.1)
      = scl (k0_pay1 (fold x0 x1 x2 x3 x4) (Scalar.cmpi CmpIPredicate.eq (BitVec.ofNat 32 (i 1).val) 0#32) xs1) := by
  unfold runC fold col scl
  dsimp only
  sl_unfold_words
  simp only [View.readAt_eq_ld, harg2.read_unread, harg3.read_unread, harg4.read_unread, harg5.read_unread, harg6.read_unread, harg7.read_unread, harg8.read_unread, harg9.read_unread, harg10.read_unread]
  simp (disch := decide) only [View.ld_unit_lit]
  refine (read_last _ f _ _ _).trans ?_
  simp (disch := decide) only [View.readCov_unit_lit]

/-- What the trips before `k` leave in the code buffer, at a column they have written. -/
theorem pieces_codes (c : Dev nD) (i : grid0.Coords) (arg2 : Memref sig .tc .vmem S416x12800 .fp8e4m3) (harg2 : arg2.IsWhole) (arg3 : Memref sig .tc .vmem S416x128 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S416x8192 .fp8e4m3) (harg7 : arg7.IsWhole) (arg8 : Memref sig .tc .vmem S416x128 .f32) (harg8 : arg8.IsWhole) (arg9 : Memref sig .tc .vmem S416x8192 .f32) (harg9 : arg9.IsWhole) (arg10 : Memref sig .tc .vmem S416x128 .f32) (harg10 : arg10.IsWhole) (hc : k0_cond1 i = 1#1) (X9 : arg9.view.ty.Contents (Elt F)) (X10 : arg10.view.ty.Contents (Elt F)) (f : arg7.view.ty.Contents (Elt F)) (k : ℕ) (hk : k ≤ 64) (y : S416x8192.Idx) (hy : (y 1).val < 128 * k) :
    arg7.view.read (Elt F) (arg7.view.writes (Elt F) f (pb_k0_t1 Variants.none c none i arg2 harg2 arg3 harg3 arg4 harg4 arg5 harg5 arg6 harg6 arg7 harg7 arg8 harg8 arg9 harg9 arg10 harg10 hc X9 X10 k)) y
      = codes (arg9.view.read (Elt F) X9) (arg10.view.read (Elt F) X10) y := by
  have htr : k0_t1_loop.trips = 64 := by decide +kernel
  induction k with
  | zero => omega
  | succ k ih =>
    have hk' : k < k0_t1_loop.trips := by omega
    have h1 : (y 1).val < 8192 := (y 1).isLt
    have h0 : (y 0).val < 416 := (y 0).isLt
    rw [pb_k0_t1_succ Variants.none c none i arg2 harg2 arg3 harg3 arg4 harg4 arg5 harg5 arg6 harg6 arg7 harg7 arg8 harg8 arg9 harg9 arg10 harg10 hc X9 X10 ⟨k, hk'⟩]
    unfold tripL_k0_t1 trip_k0_t1
    dsimp only
    rw [List.cons_append, List.nil_append]
    by_cases h : 128 * k ≤ (y 1).val
    · refine (View.read_writes_cons_unit_of_mem _ _ _ _ _ y (ix2 (y 0) (⟨(y 1).val % 128, Nat.mod_lt _ (by decide)⟩ : Fin 128)) (k0_off2_eq ⟨k, hk'⟩) fun a => ?_).trans ?_
      · fin_cases a
        · show (y 0).val = 0 + (y 0).val; omega
        · show (y 1).val = 128 * k + (y 1).val % 128; omega
      · have hq : (y 1).val / 128 = k := by omega
        unfold codes
        simp only [View.readAt_eq_ld]
        simp (disch := decide) only [View.ld_unit_lit]
        refine congrFun (congrArg₂ k0_pay5 (funext fun z => ?_) rfl) _
        refine congrArg (arg9.view.read (Elt F) X9) (funext fun a => Fin.ext ?_)
        have ho := k0_off2_eq ⟨k, hk'⟩
        fin_cases a
        · show k0_off2 ⟨k, hk'⟩ 0 + 1 * (z 0).val = (z 0).val
          rw [ho]; show 0 + 1 * (z 0).val = (z 0).val; omega
        · show k0_off2 ⟨k, hk'⟩ 1 + 1 * (z 1).val = 128 * ((y 1).val / 128) + (z 1).val
          rw [ho]; show 128 * k + 1 * (z 1).val = 128 * ((y 1).val / 128) + (z 1).val; omega
    · refine (View.read_writes_cons_unit_of_not_mem _ _ _ _ _ y (k0_off2_eq ⟨k, hk'⟩) 1 ?_).trans ?_
      · show (y 1).val < 128 * k ∨ 128 * k + 128 ≤ (y 1).val; omega
      · exact ih (by omega) (by omega)

set_option maxHeartbeats 1000000 in
/-- At the last column block: the codes. -/
theorem runC_codes (c : Dev nD) (i : grid0.Coords) (arg2 : Memref sig .tc .vmem S416x12800 .fp8e4m3) (harg2 : arg2.IsWhole) (arg3 : Memref sig .tc .vmem S416x128 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S416x8192 .fp8e4m3) (harg7 : arg7.IsWhole) (arg8 : Memref sig .tc .vmem S416x128 .f32) (harg8 : arg8.IsWhole) (arg9 : Memref sig .tc .vmem S416x8192 .f32) (harg9 : arg9.IsWhole) (arg10 : Memref sig .tc .vmem S416x128 .f32) (harg10 : arg10.IsWhole) (hc : k0_cond1 i = 1#1) (x0 : Vec F S416x12800 .fp8e4m3) (x1 : Vec F S416x128 .f32) (x2 : Vec F S12800x512 .fp8e4m3) (x3 : Vec F S1x512 .f32) (x4 : Vec F S1x512 .f32) (xs0 : Vec F S416x8192 .f32) (xs1 : Vec F S416x128 .f32) (f : arg7.view.ty.Contents (Elt F)) :
    arg7.view.read (Elt F) (arg7.view.writes (Elt F) f (runC c i arg2 harg2 arg3 harg3 arg4 harg4 arg5 harg5 arg6 harg6 arg7 harg7 arg8 harg8 arg9 harg9 arg10 harg10 hc x0 x1 x2 x3 x4 xs0 xs1).2.2.1)
      = codes (upd (i 1).val xs0 (gel x0 x1 x2 x3 x4)) (rcp (k0_pay1 (fold x0 x1 x2 x3 x4) (Scalar.cmpi CmpIPredicate.eq (BitVec.ofNat 32 (i 1).val) 0#32) xs1)) := by
  funext y
  refine (pieces_codes c i arg2 harg2 arg3 harg3 arg4 harg4 arg5 harg5 arg6 harg6 arg7 harg7 arg8 harg8 arg9 harg9 arg10 harg10 hc _ _ f 64 le_rfl y (y 1).isLt).trans (congrFun (congrArg₂ codes ?_ ?_) y)
  · exact runC_wide c i arg2 harg2 arg3 harg3 arg4 harg4 arg5 harg5 arg6 harg6 arg7 harg7 arg8 harg8 arg9 harg9 arg10 harg10 hc x0 x1 x2 x3 x4 xs0 xs1
  · unfold rcp fold col
    dsimp only
    sl_unfold_words
    refine (read_last _ _ _ _ _).trans ?_
    simp only [View.readAt_eq_ld, harg2.read_unread, harg3.read_unread, harg4.read_unread, harg5.read_unread, harg6.read_unread, harg7.read_unread, harg8.read_unread, harg9.read_unread, harg10.read_unread]
    simp (disch := decide) only [View.ld_unit_lit, View.readCov_unit_lit]

end Cert.Fc1Ideal.Body

end
-- ==== Proof.Fc1IdealData.lean ====
/-
  What the first matrix product's scratch and staging buffers hold after each grid point, and the pipeline's proof data
  stating it. The grid is 8 row blocks by 16 column blocks, the column blocks innermost: the wide scratch gathers the
  activated row block, the narrow one its running row maximum, and the last column block leaves codes and scales.
-/
module

public import proofs.«01_k».proof.Proof.Fc1IdealState

@[expose] public section

set_option maxRecDepth 16384

noncomputable section

namespace Cert.Fc1Ideal.Body

open Cert.Fc1Ideal Cert.Fc1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point number `n`. -/
def pt (n : ℕ) : Fin cfg0.N := ⟨n % 128, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

/-- The activated block of grid point `n`. -/
def gelAt (c : Dev nD) (n : ℕ) : Vec F S416x512 .f32 := gel (iblk m c 0 (pt n)) (iblk m c 1 (pt n)) (iblk m c 2 (pt n)) (iblk m c 3 (pt n)) (iblk m c 4 (pt n))

/-- Its magnitudes folded to 128 lanes. -/
def foldAt (c : Dev nD) (n : ℕ) : Vec F S416x128 .f32 := fold (iblk m c 0 (pt n)) (iblk m c 1 (pt n)) (iblk m c 2 (pt n)) (iblk m c 3 (pt n)) (iblk m c 4 (pt n))

/-- The activated row block `r`, all its columns. -/
def wide (c : Dev nD) (r : ℕ) : Vec F S416x8192 .f32 := fun y =>
  gelAt m c (16 * r + (y 1).val / 512) (ix2 (y 0) (⟨(y 1).val % 512, Nat.mod_lt _ (by decide)⟩ : Fin 512))

/-- The running maximum of row block `r` after column block `j`. -/
def top (c : Dev nD) (r : ℕ) : ℕ → Vec F S416x128 .f32
  | 0 => k0_pay1 (foldAt m c (16 * r)) 1#1 (foldAt m c (16 * r))
  | j + 1 => k0_pay1 (foldAt m c (16 * r + (j + 1))) 0#1 (top c r j)

/-- What the scratch holds before grid point `n`, unless `n` starts a row block. -/
def Held (c : Dev nD) (n : ℕ) (G : Vec F S416x8192 .f32) (A : Vec F S416x128 .f32) : Prop :=
  n % 16 ≠ 0 → (∀ y : S416x8192.Idx, (y 1).val < 512 * (n % 16) → G y = wide m c (n / 16) y) ∧ A = top m c (n / 16) (n % 16 - 1)

/-- At the first column block the narrow scratch is not read. -/
theorem pay1_first (v A B : Vec F S416x128 .f32) : k0_pay1 v 1#1 A = k0_pay1 v 1#1 B := rfl

/-- The wide scratch after grid point `n`. -/
theorem held_wide (c : Dev nD) (n : ℕ) (G : Vec F S416x8192 .f32) (A : Vec F S416x128 .f32) (h : Held m c n G A)
    (y : S416x8192.Idx) (hy : (y 1).val < 512 * (n % 16 + 1)) : upd (n % 16) G (gelAt m c n) y = wide m c (n / 16) y := by
  unfold upd
  split
  · rename_i h2
    unfold wide
    rw [show 16 * (n / 16) + (y 1).val / 512 = n by omega]
  · rename_i h2
    by_cases hz : n % 16 = 0
    · omega
    · exact (h hz).1 y (by omega)

/-- The narrow scratch after grid point `n`. -/
theorem held_top (c : Dev nD) (n : ℕ) (G : Vec F S416x8192 .f32) (A : Vec F S416x128 .f32) (h : Held m c n G A) :
    k0_pay1 (foldAt m c n) (Scalar.cmpi CmpIPredicate.eq (BitVec.ofNat 32 (n % 16)) 0#32) A = top m c (n / 16) (n % 16) := by
  by_cases hz : n % 16 = 0
  · rw [hz]
    show k0_pay1 (foldAt m c n) 1#1 A = k0_pay1 (foldAt m c (16 * (n / 16))) 1#1 _
    rw [show 16 * (n / 16) = n by omega]
    exact pay1_first _ _ _
  · obtain ⟨j, hj⟩ : ∃ j, n % 16 = j + 1 := ⟨n % 16 - 1, by omega⟩
    rw [(h hz).2, hj]
    have hlt : j + 1 < 16 := by omega
    have hb : Scalar.cmpi CmpIPredicate.eq (BitVec.ofNat 32 (j + 1)) 0#32 = 0#1 := by
      clear h hz hj
      have : j < 15 := by omega
      interval_cases j <;> rfl
    rw [hb]
    show k0_pay1 (foldAt m c n) 0#1 (top m c (n / 16) j) = k0_pay1 (foldAt m c (16 * (n / 16) + (j + 1))) 0#1 (top m c (n / 16) j)
    rw [show 16 * (n / 16) + (j + 1) = n by omega]

/-- What a grid point leaves in the scratch is what is held before the next. -/
theorem held_step (c : Dev nD) (n : ℕ) (G : Vec F S416x8192 .f32) (A : Vec F S416x128 .f32) (h : Held m c n G A) :
    Held m c (n + 1) (upd (n % 16) G (gelAt m c n))
      (k0_pay1 (foldAt m c n) (Scalar.cmpi CmpIPredicate.eq (BitVec.ofNat 32 (n % 16)) 0#32) A) := fun hz => by
  rw [show (n + 1) % 16 = n % 16 + 1 by omega, show (n + 1) / 16 = n / 16 by omega]
  exact ⟨fun y hy => held_wide m c n G A h y hy, held_top m c n G A h⟩

/-- The codes of row block `r`. -/
def codesOf (c : Dev nD) (r : ℕ) : Vec F S416x8192 .fp8e4m3 := codes (wide m c r) (rcp (top m c r 15))

/-- The scales of row block `r`. -/
def scalesOf (c : Dev nD) (r : ℕ) : Vec F S416x128 .f32 := scl (top m c r 15)

/-- The scratch buffers. -/
abbrev scM0_0 : Memref sig .tc .vmem S416x8192 .f32 := Memref.whole cc0_scratch0
abbrev scM0_1 : Memref sig .tc .vmem S416x128 .f32 := Memref.whole cc0_scratch1

/-- The region's invariant before grid point `n`: the scratch at contents with the stated property. -/
def PhiS (c : Dev nD) (n : ℕ) : sProp 𝕄 :=
  iprop((∃ G, ∃ A, owns (c : Thread nD τ) scM0_0 fullShare G ∗ owns (c : Thread nD τ) scM0_1 fullShare A ∗ ⌜Held m c n G A⌝) ∗ (∃ r, prngReg c r))

/-- The frame kit's own invariant: the scratch at any contents. -/
theorem PhiA0_eq (c : Dev nD) : (Pipeline.ΦA spec0 c : sProp 𝕄)
    = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The pipeline's proof data: inputs at their blocks, the outputs at the codes and scales of the point's row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesOf m c (t.val / 16)
    | ⟨6, _⟩ => scalesOf m c (t.val / 16)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = codesOf m c (t.val / 16) := by dsimp only [dats]
theorem after0_6 (c : Dev nD) (t : Fin cfg0.N) : (dats m 0 c).after 6 t = scalesOf m c (t.val / 16) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.Fc1Ideal.Body

end
-- ==== Proof.Fc1IdealBody.lean ====
/-
  The first matrix product's body meets its proof data at every grid point; the run of the whole call and its frame
  follow.
-/
module

public import proofs.«01_k».proof.Proof.Fc1IdealData

@[expose] public section

set_option maxRecDepth 16384

noncomputable section

namespace Cert.Fc1Ideal.Body

open Cert.Fc1Ideal Cert.Fc1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at the last column block. -/
theorem hcond : ∀ t : Fin cfg0.N, k0_cond1 (grid0.coords t) = 1#1 ↔ t.val % 16 = 15 :=
  (by decide +kernel : ∀ t : Fin grid0.N, k0_cond1 (grid0.coords t) = 1#1 ↔ t.val % 16 = 15)

/-- The column block of a grid point. -/
theorem hcol : ∀ t : Fin cfg0.N, (grid0.coords t 1).val = t.val % 16 :=
  (by decide +kernel : ∀ t : Fin grid0.N, (grid0.coords t 1).val = t.val % 16)

/-- Before the last column block the outputs are neither stored nor written back; at it they are stored. -/
theorem idle5 : ∀ t : Fin cfg0.N, ¬t.val % 16 = 15 → cfg0.idle 5 (grid0.coords t) = true := by decide +kernel
theorem idle6 : ∀ t : Fin cfg0.N, ¬t.val % 16 = 15 → cfg0.idle 6 (grid0.coords t) = true := by decide +kernel
theorem noFlush5 : ∀ t : Fin cfg0.N, ¬t.val % 16 = 15 → (cfg0.win 5).flush t = false := by decide +kernel
theorem noFlush6 : ∀ t : Fin cfg0.N, ¬t.val % 16 = 15 → (cfg0.win 6).flush t = false := by decide +kernel
theorem live5 : ∀ t : Fin cfg0.N, t.val % 16 = 15 → cfg0.idle 5 (grid0.coords t) = false := by decide +kernel
theorem live6 : ∀ t : Fin cfg0.N, t.val % 16 = 15 → cfg0.idle 6 (grid0.coords t) = false := by decide +kernel

/-- Each window's staging buffer at a grid point, and that it is a whole buffer. -/
abbrev ms0_0 (t : Fin cfg0.N) : Memref sig .tc .vmem S416x12800 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S416x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12800x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S416x8192 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S416x128 .f32 := win0_6.stage (cfg0.slots t 6)
abbrev hs0_6 (t : Fin cfg0.N) : (ms0_6 t).IsWhole := hstage0_6 ((cfg0.slots t 6).cast nbuf0_6)

/-- What the body is given at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it must leave. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 3000000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0_0 t) fullShare (iblk m c 0 t) from by
    unfold Dat.leavesExact; rw [show cfg0.idle 0 (cfg0.grid.coords t) = false from rfl, after0_0]]
  rw [show (dats m 0 c).leavesExact 1 t = owns (c : Thread nD τ) (ms0_1 t) fullShare (iblk m c 1 t) from by
    unfold Dat.leavesExact; rw [show cfg0.idle 1 (cfg0.grid.coords t) = false from rfl, after0_1]]
  rw [show (dats m 0 c).leavesExact 2 t = owns (c : Thread nD τ) (ms0_2 t) fullShare (iblk m c 2 t) from by
    unfold Dat.leavesExact; rw [show cfg0.idle 2 (cfg0.grid.coords t) = false from rfl, after0_2]]
  rw [show (dats m 0 c).leavesExact 3 t = owns (c : Thread nD τ) (ms0_3 t) fullShare (iblk m c 3 t) from by
    unfold Dat.leavesExact; rw [show cfg0.idle 3 (cfg0.grid.coords t) = false from rfl, after0_3]]
  rw [show (dats m 0 c).leavesExact 4 t = owns (c : Thread nD τ) (ms0_4 t) fullShare (iblk m c 4 t) from by
    unfold Dat.leavesExact; rw [show cfg0.idle 4 (cfg0.grid.coords t) = false from rfl, after0_4]]
  have eg : gel (iblk m c 0 t) (iblk m c 1 t) (iblk m c 2 t) (iblk m c 3 t) (iblk m c 4 t) = gelAt m c t.val := by unfold gelAt; rw [pt_val]
  have ef : fold (iblk m c 0 t) (iblk m c 1 t) (iblk m c 2 t) (iblk m c 3 t) (iblk m c 4 t) = foldAt m c t.val := by unfold foldAt; rw [pt_val]
  unfold PhiS
  by_cases h : t.val % 16 = 15
  · have hc := (hcond t).mpr h
    rw [show (dats m 0 c).leavesExact 5 t = owns (c : Thread nD τ) (ms0_5 t) fullShare (codesOf m c (t.val / 16)) from by
      unfold Dat.leavesExact; rw [show cfg0.idle 5 (cfg0.grid.coords t) = false from live5 t h, after0_5]]
    rw [show (dats m 0 c).leavesExact 6 t = owns (c : Thread nD τ) (ms0_6 t) fullShare (scalesOf m c (t.val / 16)) from by
      unfold Dat.leavesExact; rw [show cfg0.idle 6 (cfg0.grid.coords t) = false from live6 t h, after0_6]]
    iintro ⟨⟨⟨%G, %A, HS0, HS1, %hG⟩, Hg⟩, Ho, ⟨%d0, H0⟩, ⟨%d1, H1⟩, ⟨%d2, H2⟩, ⟨%d3, H3⟩, ⟨%d4, H4⟩, ⟨%d5, H5⟩, ⟨%d6, H6⟩⟩
    have eA := held_top m c t.val G A hG
    rw [h] at eA
    have eG : upd 15 G (gelAt m c t.val) = wide m c (t.val / 16) := funext fun y => by
      have e := held_wide m c t.val G A hG y (by rw [h]; exact (y 1).isLt)
      rwa [h] at e
    iapply ((runC c (grid0.coords t) _ _ _ _ _ _ _ _ _ _ _ _ _ _ _ _ _ _ hc (iblk m c 0 t) (iblk m c 1 t) (iblk m c 2 t) (iblk m c 3 t) (iblk m c 4 t) G A).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, ⟨%e6, H6⟩, HS0, ⟨%es1, HS1⟩⟩
    isplitl [HS0 HS1 Hg]
    · isplitl [HS0 HS1]
      · iexists _; iexists _
        isplitl [HS0]
        · unfold owns; iexists _; isplitr
          swap; · iexact HS0
          ipureintro; rfl
        isplitl [HS1]
        · unfold owns; iexists _; isplitr
          swap; · iexact HS1
          ipureintro; rfl
        ipureintro; exact fun hz => absurd (by omega) hz
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      refine (runC_codes c (grid0.coords t) _ _ _ _ _ _ _ _ _ _ _ _ _ _ _ _ _ _ hc _ _ _ _ _ G A _).trans ?_
      rw [hcol t, h, eg, ef, eA, eG]; rfl
    unfold owns; iexists _; isplitr
    swap; · iexact H6
    ipureintro
    refine (runC_scale c (grid0.coords t) _ _ _ _ _ _ _ _ _ _ _ _ _ _ _ _ _ _ hc _ _ _ _ _ G A _).trans ?_
    rw [hcol t, h, ef, eA]; rfl
  · have hc : ¬k0_cond1 (grid0.coords t) = 1#1 := fun e => h ((hcond t).mp e)
    rw [Dat.leavesExact_idle (dats m 0 c) 5 t (idle5 t h) (noFlush5 t h), Dat.leavesExact_idle (dats m 0 c) 6 t (idle6 t h) (noFlush6 t h)]
    iintro ⟨⟨⟨%G, %A, HS0, HS1, %hG⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ (ms0_5 t) (hs0_5 t) (ms0_6 t) (hs0_6 t) _ _ _ _ hc (iblk m c 0 t) (iblk m c 1 t) (iblk m c 2 t) (iblk m c 3 t) (iblk m c 4 t) G A).2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, ⟨%es1, HS1⟩⟩
    isplitl [HS0 HS1 Hg]
    · isplitl [HS0 HS1]
      · iexists _; iexists _
        isplitl [HS0]
        · unfold owns; iexists _; isplitr
          swap; · iexact HS0
          ipureintro
          exact (runA_wide c (grid0.coords t) _ _ _ _ _ _ _ _ _ _ _ _ _ _ _ _ _ _ hc _ _ _ _ _ G A).trans (by rw [hcol t, eg])
        isplitl [HS1]
        · unfold owns; iexists _; isplitr
          swap; · iexact HS1
          ipureintro
          exact (runA_narrow c (grid0.coords t) _ _ _ _ _ _ _ _ _ _ _ _ _ _ _ _ _ _ hc _ _ _ _ _ G A _).trans (by rw [hcol t, ef])
        ipureintro; exact held_step m c t.val G A hG
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6

/-- The body table's row at a grid point is the body there. -/
theorem defs₀_row (t : Fin cfg0.N) :
    defs₀ (F := F) .tc cfg0.body (cfg0.bodyArgs t (cfg0.slots t)) = bodyAt0 t := by
  unfold defs₀; rw [Defs.onTc_tc]

/-- The body's obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%G, HS0⟩, ⟨%A, HS1⟩⟩, Hg⟩
  isplitl [HS0 HS1]
  · iexists G; iexists A
    isplitl [HS0]; · iexact HS0
    isplitl [HS1]; · iexact HS1
    ipureintro; exact fun hz => absurd rfl hz
  iexact Hg

/-- After the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%G, %A, HS0, HS1, %hG⟩, Hg⟩
  isplitl [HS0 HS1]
  · isplitl [HS0]
    · iexists _; iexact HS0
    iexists _; iexact HS1
  iexact Hg

set_option backward.isDefEq.respectTransparency.types false in
/-- Every weakly fair run of the call ends with every array at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

/-- The two results after the run, by the proof data; the arguments unchanged. -/
theorem run_blocks : θ_run defs (onTc (τ := τ) (main (F := F))) ⟨m, fun _ => 0, ρ⟩ (fun r => ∀ c : Dev nD,
      r.2.mem ((c.tc : Thread nD τ).loc main_v2_0) = (dats m 0 c).arrAt 5 cfg0.N
      ∧ r.2.mem ((c.tc : Thread nD τ).loc main_v2_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.2 c).1 5, (h.2 c).1 6, h.1 c⟩) (θ_run_and (frame_of m ρ (dats m) (A_eq m) (run_main m ρ)) (run_main m ρ))

end Cert.Fc1Ideal.Body

end
-- ==== Proof.Pow2Scale.lean ====
/- The power of two that scales a row, in two spellings over the extended reals, and that they agree.
   One spelling searches the exponent field of a float bit by bit: from the highest bit down, a bit is kept when the float
   with that bit set does not exceed `y`. The other takes `⌊log₂ y⌋ + 1`. -/
module

public import Idealize.ShloMosaic.Lib.Pipeline.ValueKit
public import Idealize.ShloMosaic.Lib.Pointwise

@[expose] public section

set_option maxRecDepth 16384

noncomputable section

open Idealize.ShloMosaic

namespace Cert.Pow2

/-! ### The search, as the kernel's operations -/

/-- One step of the search: set the bit `b` of `w` if the float stays at most `y`. -/
def keep (y : EReal) (w b : BitVec 32) : BitVec 32 :=
  Scalar.select (FloatOps.cmpf (F := Ideal) (φ := .f32) .ole (FloatOps.ofBits (F := Ideal) .f32 (IntOp.ori w b)) y) (IntOp.ori w b) w

/-- The word the search ends with. -/
def search (y : EReal) : BitVec 32 :=
  keep y (keep y (keep y (keep y (keep y (keep y (keep y (keep y 0#32 1073741824#32) 536870912#32) 268435456#32) 134217728#32)
    67108864#32) 33554432#32) 16777216#32) 8388608#32

/-- The search's word, or the word of infinity where `y` is `2 ^ 120` or more. -/
def word (y : EReal) : BitVec 32 :=
  Scalar.select (FloatOps.cmpf (F := Ideal) (φ := .f32) .olt y (FloatOps.ofBits (F := Ideal) .f32 0x7B800000#32)) (search y) 2139095040#32

/-- The exponent that a word's exponent field names: 0 for the fields 0 and 255, else the field less 126. -/
def expo (w : BitVec 32) : BitVec 32 :=
  have f : BitVec 32 := IntOp.andi (IntOp.shrsi .vector w 23#32) 255#32
  Scalar.select (IntOp.ori (IntOp.cmpi .eq f 0#32) (IntOp.cmpi .eq f 255#32)) 0#32 (IntOp.subi f 126#32)

/-- The word of two to the exponent. -/
def up (w : BitVec 32) : BitVec 32 := IntOp.shli .vector (IntOp.addi (expo w) 127#32) 23#32

/-- The word of two to minus the exponent. -/
def down (w : BitVec 32) : BitVec 32 := IntOp.shli .vector (IntOp.subi 127#32 (expo w)) 23#32

/-! ### The logarithm, as the reference's operations -/

/-- The exponent by the logarithm: `⌊log y / log 2⌋ + 1` for `2 ^ -126 ≤ y < 2 ^ 120`, else 0. -/
def level (y : EReal) : EReal :=
  Scalar.select (IntOp.andi (FloatOps.cmpf (F := Ideal) (φ := .f32) .oge y (FloatOps.ofBits (F := Ideal) .f32 0x00800000#32))
      (FloatOps.cmpf (F := Ideal) (φ := .f32) .olt y (FloatOps.ofBits (F := Ideal) .f32 0x7B800000#32)))
    (Ideal.liftRound Int.floor (Ideal.div (Ideal.log y) ((Real.log 2 : ℝ) : EReal)) + 1) 0

/-! ### The floats of the exponent fields -/

/-- The word with exponent field `k` and all else zero. -/
def fld (k : ℕ) : BitVec 32 := BitVec.ofNat 32 (k * 8388608)

/-- The sign, the exponent field and the fraction of such a word. -/
theorem fields : ∀ k : Fin 256, (fld k.val).extractLsb' 31 1 = 0#1 ∧ ((fld k.val).extractLsb' 23 8).toNat = k.val
    ∧ ((fld k.val).extractLsb' 0 23).toNat = 0 := by decide +kernel

/-- The float of a field is a power of two. -/
theorem val_fld (k : ℕ) (h1 : 1 ≤ k) (h2 : k ≤ 254) : Ideal.ofBits .f32 (fld k) = (((2 : ℝ) ^ ((k : ℤ) - 127) : ℝ) : EReal) := by
  obtain ⟨hn, he, hf⟩ := fields ⟨k, by omega⟩
  dsimp only at hn he hf
  show Ideal.ieee 8 23 (fld k) = _
  unfold Ideal.ieee
  simp only [he, hf]
  rw [if_neg (by omega), if_neg (by omega)]
  simp only [Nat.reduceAdd, hn]
  congr 1
  rw [show ((k : ℤ) - 127) = ((k : ℤ) - 127 - 23) + 23 by ring, zpow_add₀ (by norm_num) _ 23]
  norm_num
  ring

/-- The float of field 255 is infinity. -/
theorem val_top : Ideal.ofBits .f32 (fld 255) = ⊤ := by
  obtain ⟨hn, he, hf⟩ := fields ⟨255, by omega⟩
  dsimp only at hn he hf
  show Ideal.ieee 8 23 (fld 255) = _
  unfold Ideal.ieee
  simp only [he, hf, Nat.reduceAdd, hn]
  norm_num

/-- The float of field `k` is at most `y`. -/
def Good (y : EReal) (k : ℕ) : Prop := Ideal.ofBits .f32 (fld k) ≤ y

/-- What the search knows after it has settled all but the last `b` bits: the word is a field `K` with those bits zero, its
    float is at most `y` unless it is zero, and the next field up is too large. -/
def Known (y : EReal) (b : ℕ) (w : BitVec 32) : Prop :=
  ∃ K, w = fld K ∧ 2 ^ b ∣ K ∧ K + 2 ^ b ≤ 256 ∧ (K = 0 ∨ Good y K) ∧ (K + 2 ^ b = 256 ∨ ¬ Good y (K + 2 ^ b))

/-- Setting a bit that is zero adds it. -/
theorem or_fld : ∀ b : Fin 8, ∀ K : Fin 256, 2 ^ (b.val + 1) ∣ K.val →
    IntOp.ori (fld K.val) (fld (2 ^ b.val)) = fld (K.val + 2 ^ b.val) := by decide +kernel

/-- One step settles one bit. -/
theorem known_keep (y : EReal) (b : ℕ) (hb : b < 8) (w : BitVec 32) (h : Known y (b + 1) w) :
    Known y b (keep y w (fld (2 ^ b))) := by
  obtain ⟨K, rfl, hd, hle, hg, hn⟩ := h
  have hp : 2 ^ (b + 1) = 2 ^ b + 2 ^ b := by ring
  have hpos : 0 < 2 ^ b := by positivity
  have ho := or_fld ⟨b, hb⟩ ⟨K, by omega⟩ hd
  dsimp only at ho
  have hd' : 2 ^ b ∣ K := (pow_dvd_pow 2 (Nat.le_succ b)).trans hd
  unfold keep
  rw [ho]
  by_cases hq : Good y (K + 2 ^ b)
  · refine ⟨K + 2 ^ b, ?_, hd'.add (dvd_refl _), by omega, Or.inr hq, ?_⟩
    · have : FloatOps.cmpf (F := Ideal) (φ := .f32) .ole (FloatOps.ofBits (F := Ideal) .f32 (fld (K + 2 ^ b))) y = 1#1 := by
        show BitVec.ofBool (decide (Ideal.ofBits .f32 (fld (K + 2 ^ b)) ≤ y)) = _
        rw [decide_eq_true (show Ideal.ofBits .f32 (fld (K + 2 ^ b)) ≤ y from hq)]; rfl
      rw [this]; rfl
    · rw [show K + 2 ^ b + 2 ^ b = K + 2 ^ (b + 1) by omega]; exact hn
  · refine ⟨K, ?_, hd', by omega, hg, Or.inr hq⟩
    have : FloatOps.cmpf (F := Ideal) (φ := .f32) .ole (FloatOps.ofBits (F := Ideal) .f32 (fld (K + 2 ^ b))) y = 0#1 := by
      show BitVec.ofBool (decide (Ideal.ofBits .f32 (fld (K + 2 ^ b)) ≤ y)) = _
      rw [decide_eq_false (show ¬ Ideal.ofBits .f32 (fld (K + 2 ^ b)) ≤ y from hq)]; rfl
    rw [this]; rfl

/-- What the whole search knows. -/
theorem known_search (y : EReal) : Known y 0 (search y) := by
  have h : Known y 8 0#32 := ⟨0, rfl, ⟨0, rfl⟩, by norm_num, Or.inl rfl, Or.inl (by norm_num)⟩
  exact known_keep y 0 (by omega) _ (known_keep y 1 (by omega) _ (known_keep y 2 (by omega) _ (known_keep y 3 (by omega) _
    (known_keep y 4 (by omega) _ (known_keep y 5 (by omega) _ (known_keep y 6 (by omega) _ (known_keep y 7 (by omega) _ h)))))))

/-! ### The two spellings agree -/

theorem up_fld : ∀ K : Fin 247, up (fld K.val) = fld (if K.val = 0 then 127 else K.val + 1) := by decide +kernel
theorem down_fld : ∀ K : Fin 247, down (fld K.val) = fld (if K.val = 0 then 127 else 253 - K.val) := by decide +kernel
theorem up_top : up 2139095040#32 = fld 127 := by decide +kernel
theorem down_top : down 2139095040#32 = fld 127 := by decide +kernel

theorem low_eq : Ideal.ofBits .f32 0x00800000#32 = (((2 : ℝ) ^ (-126 : ℤ) : ℝ) : EReal) := val_fld 1 (by omega) (by omega)
theorem high_eq : Ideal.ofBits .f32 0x7B800000#32 = (((2 : ℝ) ^ (120 : ℤ) : ℝ) : EReal) := val_fld 247 (by omega) (by omega)

/-- The exponent by the logarithm, outside its range. -/
theorem level_out (y : EReal) (h : ¬ ((((2 : ℝ) ^ (-126 : ℤ) : ℝ) : EReal) ≤ y ∧ y < (((2 : ℝ) ^ (120 : ℤ) : ℝ) : EReal))) : level y = 0 := by
  unfold level
  have : IntOp.andi (FloatOps.cmpf (F := Ideal) (φ := .f32) .oge y (FloatOps.ofBits (F := Ideal) .f32 0x00800000#32))
      (FloatOps.cmpf (F := Ideal) (φ := .f32) .olt y (FloatOps.ofBits (F := Ideal) .f32 0x7B800000#32)) = 0#1 := by
    show BitVec.ofBool (decide (Ideal.ofBits .f32 0x00800000#32 ≤ y)) &&& BitVec.ofBool (decide (y < Ideal.ofBits .f32 0x7B800000#32)) = 0#1
    rw [low_eq, high_eq]
    rcases not_and_or.mp h with h | h
    · rw [decide_eq_false h]; exact BitVec.zero_and
    · rw [decide_eq_false h]; exact BitVec.and_zero
  rw [this]; rfl

/-- The exponent by the logarithm, between two neighbouring powers of two. -/
theorem level_in (y : EReal) (n : ℤ) (h1 : (((2 : ℝ) ^ n : ℝ) : EReal) ≤ y) (h2 : y < (((2 : ℝ) ^ (n + 1) : ℝ) : EReal))
    (hn1 : -126 ≤ n) (hn2 : n < 120) : level y = (((n + 1 : ℤ) : ℝ) : EReal) := by
  have e1 : ((((2 : ℝ) ^ (-126 : ℤ) : ℝ) : EReal)) ≤ y :=
    le_trans (EReal.coe_le_coe_iff.mpr (zpow_le_zpow_right₀ (by norm_num) hn1)) h1
  have e2 : y < ((((2 : ℝ) ^ (120 : ℤ) : ℝ) : EReal)) :=
    lt_of_lt_of_le h2 (EReal.coe_le_coe_iff.mpr (zpow_le_zpow_right₀ (by norm_num) (by omega)))
  unfold level
  have : IntOp.andi (FloatOps.cmpf (F := Ideal) (φ := .f32) .oge y (FloatOps.ofBits (F := Ideal) .f32 0x00800000#32))
      (FloatOps.cmpf (F := Ideal) (φ := .f32) .olt y (FloatOps.ofBits (F := Ideal) .f32 0x7B800000#32)) = 1#1 := by
    show BitVec.ofBool (decide (Ideal.ofBits .f32 0x00800000#32 ≤ y)) &&& BitVec.ofBool (decide (y < Ideal.ofBits .f32 0x7B800000#32)) = 1#1
    rw [low_eq, high_eq, decide_eq_true e1, decide_eq_true e2]; rfl
  rw [this]
  show Ideal.liftRound Int.floor (Ideal.div (Ideal.log y) ((Real.log 2 : ℝ) : EReal)) + 1 = _
  induction y using EReal.rec with
  | bot => exact absurd h1 (by simp)
  | top => exact absurd h2 (by simp)
  | coe r =>
    have h1' : (2 : ℝ) ^ n ≤ r := EReal.coe_le_coe_iff.mp h1
    have h2' : r < (2 : ℝ) ^ (n + 1) := EReal.coe_lt_coe_iff.mp h2
    have hr : 0 < r := lt_of_lt_of_le (by positivity) h1'
    have hl : 0 < Real.log 2 := Real.log_pos (by norm_num)
    rw [Ideal.log_coe, if_neg (not_le.mpr hr), Ideal.div_coe hl.ne']
    rw [← EReal.coe_mul]
    show (((⌊Real.log r * (1 / Real.log 2)⌋ : ℤ) : ℝ) : EReal) + 1 = _
    have hf : ⌊Real.log r * (1 / Real.log 2)⌋ = n := by
      rw [Int.floor_eq_iff, mul_one_div, le_div_iff₀ hl, div_lt_iff₀ hl]
      constructor
      · rw [← Real.log_zpow]; exact Real.log_le_log (by positivity) h1'
      · have := Real.log_lt_log hr h2'
        rw [Real.log_zpow] at this
        push_cast at this ⊢
        exact this
    rw [hf]
    push_cast
    rfl

theorem exp2_int (n : ℤ) : Ideal.exp2 (((n : ℝ)) : EReal) = (((2 : ℝ) ^ n : ℝ) : EReal) := by
  rw [Ideal.exp2_coe]
  congr 1
  exact Real.rpow_intCast 2 n

/-- The two powers of two that both spellings take from `y`, and the exponent. -/
theorem both (y : EReal) : Ideal.ofBits .f32 (up (word y)) = Ideal.exp2 (level y)
    ∧ Ideal.ofBits .f32 (down (word y)) = Ideal.exp2 (0 - level y) := by
  have hone : Ideal.ofBits .f32 (fld 127) = Ideal.exp2 0 := by
    rw [val_fld 127 (by omega) (by omega)]
    have := exp2_int 0
    simp only [Int.cast_zero, EReal.coe_zero] at this
    rw [this]; norm_num
  have hzero : (0 : EReal) - 0 = 0 := by simp
  by_cases hy : y < (((2 : ℝ) ^ (120 : ℤ) : ℝ) : EReal)
  · have hw : word y = search y := by
      have : FloatOps.cmpf (F := Ideal) (φ := .f32) .olt y (FloatOps.ofBits (F := Ideal) .f32 0x7B800000#32) = 1#1 := by
        show BitVec.ofBool (decide (y < Ideal.ofBits .f32 0x7B800000#32)) = 1#1
        rw [high_eq, decide_eq_true hy]; rfl
      unfold word; rw [this]; rfl
    obtain ⟨K, hK, -, hle, hg, hn⟩ := known_search y
    rw [hw, hK]
    simp only [pow_zero] at hle hn
    have hK' : K ≤ 246 := by
      by_contra hc
      rcases hg with hg | hg
      · omega
      · refine absurd hy (not_lt.mpr (le_trans ?_ hg))
        rcases Nat.lt_or_ge K 255 with h | h
        · rw [val_fld K (by omega) (by omega)]
          exact EReal.coe_le_coe_iff.mpr (zpow_le_zpow_right₀ (by norm_num) (by omega))
        · rw [show K = 255 by omega, val_top]; exact le_top
    have hu := up_fld ⟨K, by omega⟩
    have hd := down_fld ⟨K, by omega⟩
    dsimp only at hu hd
    have hn' : y < (((2 : ℝ) ^ ((K : ℤ) + 1 - 127) : ℝ) : EReal) := by
      rcases hn with hn | hn
      · omega
      · unfold Good at hn
        rw [val_fld (K + 1) (by omega) (by omega)] at hn
        push_cast at hn ⊢
        exact not_le.mp hn
    rcases Nat.eq_zero_or_pos K with h0 | h0
    · subst h0
      have hl : level y = 0 := level_out y fun h => by
        refine absurd h.1 (not_le.mpr ?_)
        exact hn'
      rw [hu, hd, hl, hzero]
      exact ⟨hone, hone⟩
    · have hg' : (((2 : ℝ) ^ ((K : ℤ) - 127) : ℝ) : EReal) ≤ y := by
        rcases hg with hg | hg
        · omega
        · unfold Good at hg
          rwa [val_fld K (by omega) (by omega)] at hg
      have hl := level_in y ((K : ℤ) - 127) hg' (by rw [show (K : ℤ) - 127 + 1 = (K : ℤ) + 1 - 127 by ring]; exact hn') (by omega) (by omega)
      rw [hu, hd, if_neg (by omega), if_neg (by omega), val_fld (K + 1) (by omega) (by omega), val_fld (253 - K) (by omega) (by omega), hl]
      constructor
      · rw [exp2_int]; congr 2; push_cast; ring
      · rw [show (0 : EReal) - ((((K : ℤ) - 127 + 1 : ℤ) : ℝ) : EReal) = (((-((K : ℤ) - 127 + 1) : ℤ) : ℝ) : EReal) by
          rw [zero_sub, ← EReal.coe_neg]; push_cast; rfl, exp2_int]
        congr 2
        omega
  · have hw : word y = 2139095040#32 := by
      have : FloatOps.cmpf (F := Ideal) (φ := .f32) .olt y (FloatOps.ofBits (F := Ideal) .f32 0x7B800000#32) = 0#1 := by
        show BitVec.ofBool (decide (y < Ideal.ofBits .f32 0x7B800000#32)) = 0#1
        rw [high_eq, decide_eq_false hy]; rfl
      unfold word; rw [this]; rfl
    have hl : level y = 0 := level_out y fun h => hy h.2
    rw [hw, up_top, down_top, hl, hzero]
    exact ⟨hone, hone⟩

end Cert.Pow2

end
-- ==== Proof.Fc1Spec.lean ====
/- What the first product with its quantisation computes, and what the kernel's body computes at an index over any blocks:
   every code is the activation clipped to ±448 after the division by its row's power of two, every scale is that power
   of two. -/
module

public import proofs.«01_k».proof.Proof.Fc1IdealState
public import proofs.«01_k».proof.Proof.Pow2Scale
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Fc1Spec

/-- GELU of a dot product `d` with its row scale `s`, column scale `w` and bias `b`. -/
def gelu (d s w b : EReal) : EReal :=
  Ideal.ofBits .f32 0x3F000000#32 * (d * s * w + b) * (1 + Ideal.erf ((d * s * w + b) * Ideal.ofBits .f32 0x3F3504F3#32))

/-- The activation at an index: codes `h`, row scales `hs` (one per row, repeated along the lanes), weight codes `w`,
    weight scales `ws`, bias `b`. -/
def act (h : FVec Ideal Cert.Fc1Ideal.S3328x12800 .fp8e4m3) (hs : FVec Ideal Cert.Fc1Ideal.S3328x128 .f32)
    (w : FVec Ideal Cert.Fc1Ideal.S12800x8192 .fp8e4m3) (ws b : FVec Ideal Cert.Fc1Ideal.S8192 .f32)
    (r : Fin 3328) (j : Fin 8192) : EReal :=
  gelu (∑ k : Fin 12800, (show EReal from h (ix2 r k)) * (show EReal from w (ix2 k j))) (hs (ix2 r (0 : Fin 128))) (ws (ix1 j)) (b (ix1 j))

/-- The magnitude of an extended real. -/
def mag (x : EReal) : EReal := FloatOps.absf (F := Ideal) (φ := .f32) x

/-- The largest magnitude of a row, over 448 (times the nearest float of 1/448). -/
def quot (h : FVec Ideal Cert.Fc1Ideal.S3328x12800 .fp8e4m3) (hs : FVec Ideal Cert.Fc1Ideal.S3328x128 .f32)
    (w : FVec Ideal Cert.Fc1Ideal.S12800x8192 .fp8e4m3) (ws b : FVec Ideal Cert.Fc1Ideal.S8192 .f32)
    (r : Fin 3328) : EReal :=
  (Finset.univ : Finset (Fin 8192)).fold max (Ideal.ofBits .f32 0xFF800000#32) (fun j => mag (act h hs w ws b r j)) * Ideal.ofBits .f32 0x3B124925#32

/-- `v` times `i`, clipped to ±448. -/
def clip (v i : EReal) : EReal := min (Ideal.ofBits .f32 0x43E00000#32) (max (Ideal.ofBits .f32 0xC3E00000#32) (v * i))

/-- The codes. -/
def codes (h : FVec Ideal Cert.Fc1Ideal.S3328x12800 .fp8e4m3) (hs : FVec Ideal Cert.Fc1Ideal.S3328x128 .f32)
    (w : FVec Ideal Cert.Fc1Ideal.S12800x8192 .fp8e4m3) (ws b : FVec Ideal Cert.Fc1Ideal.S8192 .f32) :
    FVec Ideal Cert.Fc1Ideal.S3328x8192 .fp8e4m3 := fun i =>
  clip (act h hs w ws b (i 0) (i 1)) (Ideal.exp2 (0 - Cert.Pow2.level (quot h hs w ws b (i 0))))

/-- The scales, one per row, repeated along the lanes. -/
def scales (h : FVec Ideal Cert.Fc1Ideal.S3328x12800 .fp8e4m3) (hs : FVec Ideal Cert.Fc1Ideal.S3328x128 .f32)
    (w : FVec Ideal Cert.Fc1Ideal.S12800x8192 .fp8e4m3) (ws b : FVec Ideal Cert.Fc1Ideal.S8192 .f32) :
    FVec Ideal Cert.Fc1Ideal.S3328x128 .f32 := fun i =>
  Ideal.exp2 (Cert.Pow2.level (quot h hs w ws b (i 0)))

end Cert.Fc1Spec

namespace Cert.Fc1Ideal.Final

open Cert.Fc1Ideal Cert.Fc1Ideal.Gen Cert.Fc1Ideal.Body

/-! ### The body's values at an index, over any blocks -/

/-- The activated block. -/
theorem gel_apply (x0 : FVec Ideal S416x12800 .fp8e4m3) (x1 : FVec Ideal S416x128 .f32) (x2 : FVec Ideal S12800x512 .fp8e4m3)
    (x3 x4 : FVec Ideal S1x512 .f32) (y : S416x512.Idx) :
    (show EReal from gel (F := Ideal) x0 x1 x2 x3 x4 y)
      = Cert.Fc1Spec.gelu (∑ k : Fin 12800, (show EReal from x0 (ix2 (y 0) k)) * (show EReal from x2 (ix2 k (y 1))))
          (x1 (ix2 (y 0) (0 : Fin 128))) (x3 (ix2 (0 : Fin 1) (y 1))) (x4 (ix2 (0 : Fin 1) (y 1))) := by
  pointwise [gel, col, k0_pay11, k0_pay10, Cert.Fc1Spec.gelu]
  rfl

/-- The folded magnitudes are the larger of four columns' magnitudes. -/
theorem fold_apply (x0 : FVec Ideal S416x12800 .fp8e4m3) (x1 : FVec Ideal S416x128 .f32) (x2 : FVec Ideal S12800x512 .fp8e4m3)
    (x3 x4 : FVec Ideal S1x512 .f32) (p : Fin 416) (l : Fin 128) :
    (show EReal from fold (F := Ideal) x0 x1 x2 x3 x4 (ix2 p l))
      = max (max (max (Cert.Fc1Spec.mag (gel (F := Ideal) x0 x1 x2 x3 x4 (ix2 p (⟨l.val, by omega⟩ : Fin 512))))
          (Cert.Fc1Spec.mag (gel (F := Ideal) x0 x1 x2 x3 x4 (ix2 p (⟨128 + l.val, by omega⟩ : Fin 512)))))
          (Cert.Fc1Spec.mag (gel (F := Ideal) x0 x1 x2 x3 x4 (ix2 p (⟨256 + l.val, by omega⟩ : Fin 512)))))
          (Cert.Fc1Spec.mag (gel (F := Ideal) x0 x1 x2 x3 x4 (ix2 p (⟨384 + l.val, by omega⟩ : Fin 512)))) := by
  unfold gel fold k0_pay11 k0_pay12 Cert.Fc1Spec.mag
  generalize k0_pay10 (F := Ideal) x0 x2 (col x1) x3 x4 = P
  pointwise

/-- The row maximum over 448, on every lane. -/
theorem pay6_apply (A : FVec Ideal S416x128 .f32) (z : S416x128.Idx) :
    (show EReal from k0_pay6 (F := Ideal) A z)
      = (Finset.univ : Finset (Fin 128)).fold max (Ideal.ofBits .f32 0xFF800000#32) (fun l => (show EReal from A (ix2 (z 0) l))) * Ideal.ofBits .f32 0x3B124925#32 := by
  pointwise [k0_pay6]

/-- The scale is the upward power of two of that quotient. -/
theorem scl_apply (A : FVec Ideal S416x128 .f32) (z : S416x128.Idx) :
    (show EReal from scl (F := Ideal) A z) = Ideal.exp2 (Cert.Pow2.level (k0_pay6 (F := Ideal) A z)) := by
  refine Eq.trans ?_ (Cert.Pow2.both (k0_pay6 (F := Ideal) A z)).1
  rfl

/-- The reciprocal of the scale is the downward one. -/
theorem rcp_apply (A : FVec Ideal S416x128 .f32) (z : S416x128.Idx) :
    (show EReal from rcp (F := Ideal) A z) = Ideal.exp2 (0 - Cert.Pow2.level (k0_pay6 (F := Ideal) A z)) := by
  refine Eq.trans ?_ (Cert.Pow2.both (k0_pay6 (F := Ideal) A z)).2
  unfold rcp k0_pay4
  rw [shapeCast_self]
  rfl

/-- A code is the clipped product. -/
theorem codes_apply (G : FVec Ideal S416x8192 .f32) (I : FVec Ideal S416x128 .f32) (y : S416x8192.Idx) :
    (show EReal from Body.codes (F := Ideal) G I y)
      = Cert.Fc1Spec.clip (G y) (I (ix2 (y 0) (⟨(y 1).val % 128, Nat.mod_lt _ (by decide)⟩ : Fin 128))) := by
  have e : lanes (F := Ideal) G ⟨(y 1).val / 128, by have h1 : (y 1).val < 8192 := (y 1).isLt; omega⟩ (ix2 (y 0) (⟨(y 1).val % 128, Nat.mod_lt _ (by decide)⟩ : Fin 128)) = G y := by
    unfold lanes
    congr 1
    refine Eq.trans ?_ (eq_ix2 y).symm
    congr 1
    exact Fin.ext (Nat.div_add_mod _ _)
  unfold Body.codes
  generalize lanes (F := Ideal) G _ = L at e ⊢
  rw [← e]
  rfl

end Cert.Fc1Ideal.Final

end
-- ==== Proof.Fc1Blocks.lean ====
/- The first product's input blocks at every grid point, read at an index, and the activation they give. -/
module

public import proofs.«01_k».proof.Proof.Fc1IdealBody
public import proofs.«01_k».proof.Proof.Fc1Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Fc1Ideal.Final

open Cert.Fc1Ideal Cert.Fc1Ideal.Gen Cert.Fc1Ideal.Body

/-! ### The blocks in the arrays -/

variable (m : (ℓ : Loc nD τ sig) → Buf (Elt Ideal) ℓ)

/-- Which block every window holds at every grid point: the row blocks go with `t / 16`, the column blocks with `t % 16`. -/
theorem idx : ∀ t : Fin cfg0.N, win0_0.index t = ![t.val / 16, 0] ∧ win0_1.index t = ![t.val / 16, 0]
    ∧ win0_2.index t = ![0, t.val % 16] ∧ win0_3.index t = ![0, t.val % 16] ∧ win0_4.index t = ![0, t.val % 16]
    ∧ win0_5.index t = ![t.val / 16, 0] ∧ win0_6.index t = ![t.val / 16, 0] ∧ t.val / 16 < 8 :=
  (by decide +kernel : ∀ t : Fin grid0.N, _)

/-- A vector laid out as one row, read at an index. -/
theorem row_apply (v : FVec Ideal S8192 .f32) (j : Fin 8192) :
    shapeCast S1x8192 v shapeCasts_S8192_S1x8192 (ix2 (0 : Fin 1) j) = v (ix1 j) := by
  pointwise

/-- The row of the whole array that row `p` of row block `t / 16` is. -/
def row (t : Fin cfg0.N) (p : Fin 416) : Fin 3328 := ⟨416 * (t.val / 16) + p.val, by have := (idx t).2.2.2.2.2.2.2; omega⟩

/-- The column of the whole array that column `q` of column block `t % 16` is. -/
def column (t : Fin cfg0.N) (q : Fin 512) : Fin 8192 := ⟨512 * (t.val % 16) + q.val, by have := q.isLt; omega⟩

/-- The block of codes at a point, read at an index. -/
theorem read0 (c : Dev nD) (t : Fin cfg0.N) (p : Fin 416) (k : Fin 12800) :
    iblk m c 0 t (ix2 p k) = m ((c : Thread nD τ).loc main_arg0) (ix2 (row t p) k) := by
  blk_ext [iblk, V, idx t, row]

/-- The block of row scales at a point, read at an index. -/
theorem read1 (c : Dev nD) (t : Fin cfg0.N) (p : Fin 416) :
    iblk m c 1 t (ix2 p (0 : Fin 128)) = m ((c : Thread nD τ).loc main_arg1) (ix2 (row t p) (0 : Fin 128)) := by
  blk_ext [iblk, V, idx t, row]

/-- The block of weight codes at a point, read at an index. -/
theorem read2 (c : Dev nD) (t : Fin cfg0.N) (k : Fin 12800) (q : Fin 512) :
    iblk m c 2 t (ix2 k q) = m ((c : Thread nD τ).loc main_arg2) (ix2 k (column t q)) := by
  blk_ext [iblk, V, idx t, column]

/-- The block of weight scales at a point, read at an index. -/
theorem read3 (c : Dev nD) (t : Fin cfg0.N) (q : Fin 512) :
    iblk m c 3 t (ix2 (0 : Fin 1) q) = m ((c : Thread nD τ).loc main_arg3) (ix1 (column t q)) := by
  have h : V m c main_v0 = shapeCast S1x8192 (m ((c : Thread nD τ).loc main_arg3)) shapeCasts_S8192_S1x8192 := by
    entry_read; rfl
  have h2 : iblk m c 3 t (ix2 (0 : Fin 1) q) = V m c main_v0 (ix2 (0 : Fin 1) (column t q)) := by
    blk_ext [iblk, idx t, column]
  rw [h2, h]
  exact row_apply _ _

/-- The block of biases at a point, read at an index. -/
theorem read4 (c : Dev nD) (t : Fin cfg0.N) (q : Fin 512) :
    iblk m c 4 t (ix2 (0 : Fin 1) q) = m ((c : Thread nD τ).loc main_arg4) (ix1 (column t q)) := by
  have h : V m c main_v1 = shapeCast S1x8192 (m ((c : Thread nD τ).loc main_arg4)) shapeCasts_S8192_S1x8192 := by
    entry_read; rfl
  have h2 : iblk m c 4 t (ix2 (0 : Fin 1) q) = V m c main_v1 (ix2 (0 : Fin 1) (column t q)) := by
    blk_ext [iblk, idx t, column]
  rw [h2, h]
  exact row_apply _ _

/-- The activation, over the arrays that memory `m` holds. -/
abbrev actM (c : Dev nD) : Fin 3328 → Fin 8192 → EReal :=
  Cert.Fc1Spec.act (m ((c : Thread nD τ).loc main_arg0)) (m ((c : Thread nD τ).loc main_arg1))
    (m ((c : Thread nD τ).loc main_arg2)) (m ((c : Thread nD τ).loc main_arg3)) (m ((c : Thread nD τ).loc main_arg4))

/-- The activated block of a grid point is the activation at the block's place. -/
theorem gelAt_apply (c : Dev nD) (t : Fin cfg0.N) (p : Fin 416) (q : Fin 512) :
    (show EReal from gelAt m c t.val (ix2 p q)) = actM m c (row t p) (column t q) := by
  unfold gelAt
  rw [pt_val]
  refine (gel_apply _ _ _ _ _ (ix2 p q)).trans ?_
  unfold actM Cert.Fc1Spec.act
  show Cert.Fc1Spec.gelu (∑ k : Fin 12800, (show EReal from iblk m c 0 t (ix2 p k)) * (show EReal from iblk m c 2 t (ix2 k q)))
    (iblk m c 1 t (ix2 p (0 : Fin 128))) (iblk m c 3 t (ix2 (0 : Fin 1) q)) (iblk m c 4 t (ix2 (0 : Fin 1) q)) = _
  rw [read1, read3, read4]
  simp only [read0, read2]

/-- The point of row block `r` and column block `j`. -/
def at_ (r : Fin 8) (j : Fin 16) : Fin cfg0.N := ⟨16 * r.val + j.val, Nat.lt_of_lt_of_eq (by omega : 16 * r.val + j.val < 128) N_0.symm⟩

/-- The row of row `p` of row block `r`. -/
def rowOf (r : Fin 8) (p : Fin 416) : Fin 3328 := ⟨416 * r.val + p.val, by omega⟩

theorem row_at (r : Fin 8) (j : Fin 16) (p : Fin 416) : row (at_ r j) p = rowOf r p := by
  apply Fin.ext
  show 416 * ((16 * r.val + j.val) / 16) + p.val = 416 * r.val + p.val
  omega

theorem column_at (r : Fin 8) (j : Fin 16) (q : Fin 512) : column (at_ r j) q = ⟨512 * j.val + q.val, by omega⟩ := by
  apply Fin.ext
  show 512 * ((16 * r.val + j.val) % 16) + q.val = 512 * j.val + q.val
  omega

/-- The wide scratch of a row block is the activation of its rows. -/
theorem wide_apply (c : Dev nD) (r : Fin 8) (p : Fin 416) (j : Fin 8192) :
    (show EReal from wide m c r.val (ix2 p j)) = actM m c (rowOf r p) j := by
  have h := gelAt_apply m c (at_ r ⟨j.val / 512, by omega⟩) p ⟨j.val % 512, Nat.mod_lt _ (by decide)⟩
  rw [row_at, column_at] at h
  refine (show _ = _ from h).trans ?_
  congr 1
  exact Fin.ext (Nat.div_add_mod _ _)

end Cert.Fc1Ideal.Final

end
-- ==== Proof.Fc1Max.lean ====
/- The running row maximum of the first product's kernel: after the last column block, the lanes' largest is the largest
   magnitude of the row. -/
module

public import proofs.«01_k».proof.Proof.Fc1IdealBody
public import proofs.«01_k».proof.Proof.Fc1Blocks
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Fc1Ideal.Final

open Cert.Fc1Ideal Cert.Fc1Ideal.Gen Cert.Fc1Ideal.Body

variable (m : (ℓ : Loc nD τ sig) → Buf (Elt Ideal) ℓ)

/-- The folded maximum of one grid point is at most `b` when its four columns are. -/
theorem foldAt_le (c : Dev nD) (r : Fin 8) (j : Fin 16) (p : Fin 416) (l : Fin 128) (b : EReal) :
    (show EReal from foldAt m c (16 * r.val + j.val) (ix2 p l)) ≤ b
      ↔ ∀ q : Fin 4, Cert.Fc1Spec.mag (actM m c (rowOf r p) ⟨512 * j.val + 128 * q.val + l.val, by omega⟩) ≤ b := by
  have hg : ∀ q : Fin 512, (show EReal from gelAt m c (16 * r.val + j.val) (ix2 p q)) = actM m c (rowOf r p) ⟨512 * j.val + q.val, by omega⟩ := fun q => by
    have h := gelAt_apply m c (at_ r j) p q
    rw [row_at, column_at] at h
    exact h
  have hf := fold_apply (iblk m c 0 (pt (16 * r.val + j.val))) (iblk m c 1 (pt (16 * r.val + j.val))) (iblk m c 2 (pt (16 * r.val + j.val))) (iblk m c 3 (pt (16 * r.val + j.val))) (iblk m c 4 (pt (16 * r.val + j.val))) p l
  rw [show (show EReal from foldAt m c (16 * r.val + j.val) (ix2 p l)) = _ from hf]
  have e : ∀ q : Fin 512, Cert.Fc1Spec.mag (gel (F := Ideal) (iblk m c 0 (pt (16 * r.val + j.val))) (iblk m c 1 (pt (16 * r.val + j.val))) (iblk m c 2 (pt (16 * r.val + j.val))) (iblk m c 3 (pt (16 * r.val + j.val))) (iblk m c 4 (pt (16 * r.val + j.val))) (ix2 p q))
      = Cert.Fc1Spec.mag (actM m c (rowOf r p) ⟨512 * j.val + q.val, by omega⟩) := fun q => congrArg Cert.Fc1Spec.mag (hg q)
  rw [e, e, e, e, max_le_iff, max_le_iff, max_le_iff]
  have k : ∀ (a b : ℕ) (ha : a < 8192) (hb : b < 8192), a = b → actM m c (rowOf r p) ⟨a, ha⟩ = actM m c (rowOf r p) ⟨b, hb⟩ := fun a b ha hb h => by subst h; rfl
  constructor
  · rintro ⟨⟨⟨h0, h1⟩, h2⟩, h3⟩ q
    fin_cases q
    · rw [k _ (512 * j.val + l.val) _ (by omega) (by show 512 * j.val + 128 * 0 + l.val = _; omega)]; exact h0
    · rw [k _ (512 * j.val + (128 + l.val)) _ (by omega) (by show 512 * j.val + 128 * 1 + l.val = _; omega)]; exact h1
    · rw [k _ (512 * j.val + (256 + l.val)) _ (by omega) (by show 512 * j.val + 128 * 2 + l.val = _; omega)]; exact h2
    · rw [k _ (512 * j.val + (384 + l.val)) _ (by omega) (by show 512 * j.val + 128 * 3 + l.val = _; omega)]; exact h3
  · intro h
    refine ⟨⟨⟨?_, ?_⟩, ?_⟩, ?_⟩
    · have := h 0; rwa [k _ (512 * j.val + l.val) _ (by omega) (by show 512 * j.val + 128 * 0 + l.val = _; omega)] at this
    · have := h 1; rwa [k _ (512 * j.val + (128 + l.val)) _ (by omega) (by show 512 * j.val + 128 * 1 + l.val = _; omega)] at this
    · have := h 2; rwa [k _ (512 * j.val + (256 + l.val)) _ (by omega) (by show 512 * j.val + 128 * 2 + l.val = _; omega)] at this
    · have := h 3; rwa [k _ (512 * j.val + (384 + l.val)) _ (by omega) (by show 512 * j.val + 128 * 3 + l.val = _; omega)] at this

/-- The first column block starts the maximum. -/
theorem pay1_one (v B : FVec Ideal S416x128 .f32) (z : S416x128.Idx) : (show EReal from k0_pay1 (F := Ideal) v 1#1 B z) = v z := by
  unfold k0_pay1
  rw [shapeCast_self]
  rfl

/-- A later column block raises it. -/
theorem pay1_zero (v B : FVec Ideal S416x128 .f32) (z : S416x128.Idx) :
    (show EReal from k0_pay1 (F := Ideal) v 0#1 B z) = max (show EReal from B z) (show EReal from v z) := by
  unfold k0_pay1
  rw [shapeCast_self]
  rfl

/-- The running maximum on a lane is at most `b` when every column it has seen is. -/
theorem top_le (c : Dev nD) (r : Fin 8) (p : Fin 416) (l : Fin 128) (b : EReal) (j : ℕ) (hj : j < 16) :
    (show EReal from top m c r.val j (ix2 p l)) ≤ b
      ↔ ∀ (i : Fin 16), i.val ≤ j → ∀ q : Fin 4, Cert.Fc1Spec.mag (actM m c (rowOf r p) ⟨512 * i.val + 128 * q.val + l.val, by omega⟩) ≤ b := by
  induction j with
  | zero =>
    have h := foldAt_le m c r 0 p l b
    rw [show (show EReal from top m c r.val 0 (ix2 p l)) = _ from pay1_one _ _ _]
    refine Iff.trans h ⟨fun h i hi => ?_, fun h => h 0 le_rfl⟩
    obtain rfl : i = 0 := Fin.ext (by show i.val = 0; omega)
    exact h
  | succ j ih =>
    have h := foldAt_le m c r ⟨j + 1, hj⟩ p l b
    rw [show (show EReal from top m c r.val (j + 1) (ix2 p l)) = _ from pay1_zero _ _ _, max_le_iff]
    refine Iff.trans (and_congr (ih (by omega)) h) ⟨fun h i hi => ?_, fun h => ⟨fun i hi => h i (by omega), h ⟨j + 1, hj⟩ le_rfl⟩⟩
    rcases Nat.lt_or_ge i.val (j + 1) with h' | h'
    · exact h.1 i (by omega)
    · obtain rfl : i = ⟨j + 1, hj⟩ := Fin.ext (by show i.val = j + 1; omega)
      exact h.2

/-- The quotient, over the arrays that memory `m` holds. -/
abbrev quotM (c : Dev nD) : Fin 3328 → EReal :=
  Cert.Fc1Spec.quot (m ((c : Thread nD τ).loc main_arg0)) (m ((c : Thread nD τ).loc main_arg1))
    (m ((c : Thread nD τ).loc main_arg2)) (m ((c : Thread nD τ).loc main_arg3)) (m ((c : Thread nD τ).loc main_arg4))

/-- After the last column block the lanes' largest is the row's largest magnitude. -/
theorem quot_top (c : Dev nD) (r : Fin 8) (z : S416x128.Idx) :
    (show EReal from k0_pay6 (F := Ideal) (top m c r.val 15) z) = quotM m c (rowOf r (z 0)) := by
  rw [pay6_apply]
  unfold quotM Cert.Fc1Spec.quot
  congr 1
  refine eq_of_forall_ge_iff fun b => ?_
  rw [Finset.fold_max_le, Finset.fold_max_le]
  refine and_congr_right fun _ => ⟨fun h j _ => ?_, fun h l _ => ?_⟩
  · have h' := (top_le m c r (z 0) ⟨j.val % 128, Nat.mod_lt _ (by decide)⟩ b 15 (by omega)).1 (h _ (Finset.mem_univ _)) ⟨j.val / 512, by omega⟩ (by show j.val / 512 ≤ 15; omega) ⟨j.val % 512 / 128, by omega⟩
    refine le_trans (le_of_eq ?_) h'
    congr 2
    apply Fin.ext
    show j.val = 512 * (j.val / 512) + 128 * (j.val % 512 / 128) + j.val % 128
    omega
  · exact (top_le m c r (z 0) l b 15 (by omega)).2 fun i _ q => h _ (Finset.mem_univ _)

end Cert.Fc1Ideal.Final

end
-- ==== Proof.Fc1Kernel.lean ====
/- The first product's kernel, read after its run: every code is the activation clipped to ±448 after the division by
   its row's power of two, every scale is that power of two. -/
module

public import proofs.«01_k».proof.Proof.Fc1IdealBody
public import proofs.«01_k».proof.Proof.Fc1Max
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Fc1Ideal.Final

open Cert.Fc1Ideal Cert.Fc1Ideal.Gen Cert.Fc1Ideal.Body

variable (m : (ℓ : Loc nD τ sig) → Buf (Elt Ideal) ℓ)

/-- What the last column block of a row block leaves of the codes. -/
theorem codesOf_apply (c : Dev nD) (r : Fin 8) (y : S416x8192.Idx) :
    (show EReal from codesOf m c r.val y)
      = Cert.Fc1Spec.clip (actM m c (rowOf r (y 0)) (y 1)) (Ideal.exp2 (0 - Cert.Pow2.level (quotM m c (rowOf r (y 0))))) := by
  unfold codesOf
  refine (codes_apply _ _ y).trans ?_
  have h := wide_apply m c r (y 0) (y 1)
  refine congrArg₂ Cert.Fc1Spec.clip ((congrArg (wide m c r.val) (eq_ix2 y)).trans h) ?_
  refine (rcp_apply _ _).trans ?_
  exact congrArg (fun q : EReal => Ideal.exp2 (0 - Cert.Pow2.level q)) (quot_top m c r _)

/-- What it leaves of the scales. -/
theorem scalesOf_apply (c : Dev nD) (r : Fin 8) (y : S416x128.Idx) :
    (show EReal from scalesOf m c r.val y) = Ideal.exp2 (Cert.Pow2.level (quotM m c (rowOf r (y 0)))) := by
  unfold scalesOf
  refine (scl_apply _ y).trans ?_
  exact congrArg (fun q : EReal => Ideal.exp2 (Cert.Pow2.level q)) (quot_top m c r y)

/-- The codes after the run. -/
theorem final5 (c : Dev nD) : (dats m 0 c).arrAt 5 (cfgs 0).N
    = Cert.Fc1Spec.codes (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t _ y => ?_
  have hr : ((((cfg0.win 5).blk t).view.emb y : S3328x8192.Idx)) = ix2 (rowOf ⟨t.val / 16, (idx t).2.2.2.2.2.2.2⟩ (y 0)) (y 1) := by
    blk_ext [idx t, rowOf]
  refine (show _ = _ from ?_ : (show EReal from (dats m 0 c).after 5 t y) = _)
  rw [after0_5]
  refine (codesOf_apply m c ⟨t.val / 16, (idx t).2.2.2.2.2.2.2⟩ y).trans ?_
  show _ = Cert.Fc1Spec.codes _ _ _ _ _ (((cfg0.win 5).blk t).view.emb y)
  rw [hr]
  rfl

/-- The scales after the run. -/
theorem final6 (c : Dev nD) : (dats m 0 c).arrAt 6 (cfgs 0).N
    = Cert.Fc1Spec.scales (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 6 _ (by decide +kernel) fun t _ y => ?_
  have hr : ((((cfg0.win 6).blk t).view.emb y : S3328x128.Idx)) = ix2 (rowOf ⟨t.val / 16, (idx t).2.2.2.2.2.2.2⟩ (y 0)) (y 1) := by
    blk_ext [idx t, rowOf]
  refine (show _ = _ from ?_ : (show EReal from (dats m 0 c).after 6 t y) = _)
  rw [after0_6]
  refine (scalesOf_apply m c ⟨t.val / 16, (idx t).2.2.2.2.2.2.2⟩ y).trans ?_
  show _ = Cert.Fc1Spec.scales _ _ _ _ _ (((cfg0.win 6).blk t).view.emb y)
  rw [hr]
  rfl

end Cert.Fc1Ideal.Final

end
-- ==== Proof.Fc1RefPoint.lean ====
/- What the first product's reference stores, over the whole arrays: every code is the activation clipped to ±448 after the division by
   its row's power of two, every scale is that power of two. -/
module

public import proofs.«01_k».proof.Proof.Gen.Fc1RefIdeal.Value
public import proofs.«01_k».proof.Proof.Fc1Spec

@[expose] public section

set_option maxRecDepth 16384

noncomputable section

open Idealize.ShloMosaic Idealize.ShloMosaic.TcCoe Idealize.SL.Sem
open Idealize.ShloMosaic.Pipeline (Dat)

namespace Cert.Fc1RefIdeal.Final

open Cert.Fc1RefIdeal Cert.Fc1RefIdeal.Gen

variable (m : (ℓ : Loc nD τ sig) → Buf (Elt Ideal) ℓ)

/-- Every window holds its whole array at the one grid point. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] ∧ win0_6.index t = ![0, 0] :=
  (by decide +kernel : ∀ t : Fin grid0.N, _)

/-- A vector laid out as one row, read at an index. -/
theorem row_apply (v : FVec Ideal S8192 .f32) (j : Fin 8192) :
    broadcastInDim S1x8192 ![1] bcast_S8192_S1x8192_1 v (ix2 (0 : Fin 1) j) = v (ix1 j) := by
  pointwise

/-- The first lane of the row scales, read at an index. -/
theorem col_apply (v : FVec Ideal S3328x128 .f32) (j : Fin 3328) :
    extractStridedSlice S3328x1 ![0, 0] v slices_S3328x128_S3328x1_0_0 (ix2 j (0 : Fin 1)) = v (ix2 j (0 : Fin 128)) := by
  pointwise

/-- The whole array of codes, read at an index. -/
theorem read0 (c : Dev nD) (t : Fin cfg0.N) (r : Fin 3328) (k : Fin 12800) :
    iblk m c 0 t (ix2 r k) = m ((c : Thread nD τ).loc main_arg0) (ix2 r k) := by
  blk_ext [iblk, V, idx t]

/-- The column of row scales, read at an index. -/
theorem read1 (c : Dev nD) (t : Fin cfg0.N) (r : Fin 3328) :
    iblk m c 1 t (ix2 r (0 : Fin 1)) = m ((c : Thread nD τ).loc main_arg1) (ix2 r (0 : Fin 128)) := by
  have h : V m c main_v0 = extractStridedSlice S3328x1 ![0, 0] (m ((c : Thread nD τ).loc main_arg1)) slices_S3328x128_S3328x1_0_0 := by
    entry_read; rfl
  have h2 : iblk m c 1 t (ix2 r (0 : Fin 1)) = V m c main_v0 (ix2 r (0 : Fin 1)) := by
    blk_ext [iblk, idx t]
  rw [h2, h]
  exact col_apply _ _

/-- The whole array of weight codes, read at an index. -/
theorem read2 (c : Dev nD) (t : Fin cfg0.N) (k : Fin 12800) (j : Fin 8192) :
    iblk m c 2 t (ix2 k j) = m ((c : Thread nD τ).loc main_arg2) (ix2 k j) := by
  blk_ext [iblk, V, idx t]

/-- The row of weight scales, read at an index. -/
theorem read3 (c : Dev nD) (t : Fin cfg0.N) (j : Fin 8192) :
    iblk m c 3 t (ix2 (0 : Fin 1) j) = m ((c : Thread nD τ).loc main_arg3) (ix1 j) := by
  have h : V m c main_v1 = broadcastInDim S1x8192 ![1] bcast_S8192_S1x8192_1 (m ((c : Thread nD τ).loc main_arg3)) := by
    entry_read; rfl
  have h2 : iblk m c 3 t (ix2 (0 : Fin 1) j) = V m c main_v1 (ix2 (0 : Fin 1) j) := by
    blk_ext [iblk, idx t]
  rw [h2, h]
  exact row_apply _ _

/-- The row of biases, read at an index. -/
theorem read4 (c : Dev nD) (t : Fin cfg0.N) (j : Fin 8192) :
    iblk m c 4 t (ix2 (0 : Fin 1) j) = m ((c : Thread nD τ).loc main_arg4) (ix1 j) := by
  have h : V m c main_v2 = broadcastInDim S1x8192 ![1] bcast_S8192_S1x8192_1 (m ((c : Thread nD τ).loc main_arg4)) := by
    entry_read; rfl
  have h2 : iblk m c 4 t (ix2 (0 : Fin 1) j) = V m c main_v2 (ix2 (0 : Fin 1) j) := by
    blk_ext [iblk, idx t]
  rw [h2, h]
  exact row_apply _ _

/-- The activation, over the whole arrays. -/
theorem pay4_apply (x0 : FVec Ideal S3328x12800 .fp8e4m3) (x1 : FVec Ideal S3328x1 .f32) (x2 : FVec Ideal S12800x8192 .fp8e4m3)
    (x3 x4 : FVec Ideal S1x8192 .f32) (y : S3328x8192.Idx) :
    (show EReal from k0_pay4 (F := Ideal) x0 x2 x1 x3 x4 y)
      = Cert.Fc1Spec.gelu (∑ k : Fin 12800, (show EReal from x0 (ix2 (y 0) k)) * (show EReal from x2 (ix2 k (y 1))))
          (x1 (ix2 (y 0) (0 : Fin 1))) (x3 (ix2 (0 : Fin 1) (y 1))) (x4 (ix2 (0 : Fin 1) (y 1))) := by
  pointwise [k0_pay4, Cert.Fc1Spec.gelu]
  rfl

/-- The maximum along the rows of a matrix, read at an index. -/
theorem rowmax {n0 n1 : ℕ} (P : FVec Ideal (⟨2, ![n0, n1]⟩ : Shape) .f32) (acc : BitVec 32)
    (h : (⟨2, ![n0, n1]⟩ : Shape).Reduces [1] (⟨1, ![n0]⟩ : Shape)) (hφ : FKind.Formats .f32)
    (hacc : acc = FKind.maximumf.neutral .f32 hφ) (r : Fin n0) :
    multiReduction (F := Ideal) .maximumf [1] (⟨1, ![n0]⟩ : Shape) P acc h hφ hacc (ix1 r)
      = (Finset.univ : Finset (Fin n1)).fold max (Ideal.ofBits .f32 acc) (fun j => (show EReal from P (ix2 r j))) := by
  rw [multiReduction_maximumf_eq_fold, Shape.Reduces.fold_fiber_r2_a1]
  rfl

/-- A vector as a column, times the nearest float of 1/448. -/
theorem column_apply (w : FVec Ideal S3328 .f32) (r : Fin 3328) :
    (show EReal from mulf (shapeCast S3328x1 w shapeCasts_S3328_S3328x1) (broadcast S3328x1 (Scalar.ofBits (F := Ideal) .f32 0x3B124925#32)) (ix2 r (0 : Fin 1)))
      = (show EReal from w (ix1 r)) * Ideal.ofBits .f32 0x3B124925#32 := by
  pointwise

/-- The largest magnitude of a row over 448. -/
theorem pay5_apply (x0 : FVec Ideal S3328x12800 .fp8e4m3) (x1 : FVec Ideal S3328x1 .f32) (x2 : FVec Ideal S12800x8192 .fp8e4m3)
    (x3 x4 : FVec Ideal S1x8192 .f32) (r : Fin 3328) :
    (show EReal from k0_pay5 (F := Ideal) x0 x2 x1 x3 x4 (ix2 r (0 : Fin 1)))
      = (Finset.univ : Finset (Fin 8192)).fold max (Ideal.ofBits .f32 0xFF800000#32)
          (fun j => Cert.Fc1Spec.mag (k0_pay4 (F := Ideal) x0 x2 x1 x3 x4 (ix2 r j))) * Ideal.ofBits .f32 0x3B124925#32 := by
  refine (column_apply _ r).trans ?_
  exact congrArg (fun q : EReal => q * Ideal.ofBits .f32 0x3B124925#32) (rowmax (absf (k0_pay4 (F := Ideal) x0 x2 x1 x3 x4)) _ _ _ _ r)

/-- The named constant is the logarithm of two. -/
theorem named_ln2 : (Named.named κ "ln2" 0x3F317218#32 : Ideal .f32) = ((Real.log 2 : ℝ) : EReal) := rfl

/-- The exponent of a row, from its quotient. -/
theorem level_of (P : FVec Ideal S3328x1 .f32) (L : Ideal .f32) (hL : L = ((Real.log 2 : ℝ) : EReal)) (z : S3328x1.Idx) :
    (show EReal from select (andi (cmpf .oge P (broadcast S3328x1 (Scalar.ofBits (F := Ideal) .f32 0x00800000#32)))
        (cmpf .olt P (broadcast S3328x1 (Scalar.ofBits (F := Ideal) .f32 0x7B800000#32))))
      (addf (floor (divf (log P) (broadcast S3328x1 L))) (broadcast S3328x1 (Scalar.ofBits (F := Ideal) .f32 0x3F800000#32)))
      (broadcast S3328x1 (Scalar.ofBits (F := Ideal) .f32 0x00000000#32)) z) = Cert.Pow2.level (P z) := by
  subst hL
  unfold Cert.Pow2.level
  have h1 : (1 : EReal) = Ideal.ofBits .f32 0x3F800000#32 := Ideal.ofBits_one_f32.symm
  have h0 : (0 : EReal) = Ideal.ofBits .f32 0x00000000#32 := Ideal.ofBits_zero_f32.symm
  rw [h1, h0]
  rfl

/-- The exponent of a row. -/
theorem level_apply (x0 : FVec Ideal S3328x12800 .fp8e4m3) (x1 : FVec Ideal S3328x1 .f32) (x2 : FVec Ideal S12800x8192 .fp8e4m3)
    (x3 x4 : FVec Ideal S1x8192 .f32) (z : S3328x1.Idx) :
    (show EReal from k0_pay1 (F := Ideal) (k0_pay6 (F := Ideal) x0 x2 x1 x3 x4) (k0_pay7 (F := Ideal) x0 x2 x1 x3 x4) (Scalar.ofBits .f32 0x00000000#32) z)
      = Cert.Pow2.level (k0_pay5 (F := Ideal) x0 x2 x1 x3 x4 z) := by
  unfold k0_pay1 k0_pay6 k0_pay7
  exact level_of (k0_pay5 (F := Ideal) x0 x2 x1 x3 x4) _ named_ln2 z

/-- A code is the clipped product. -/
theorem pay2_apply (A : FVec Ideal S3328x8192 .f32) (V : FVec Ideal S3328x1 .f32) (B : IVec S3328x1 1) (s : Ideal .f32) (y : S3328x8192.Idx) :
    (show EReal from k0_pay2 (F := Ideal) A V B s y)
      = Cert.Fc1Spec.clip (A y) (Ideal.exp2 (0 - (show EReal from k0_pay1 (F := Ideal) V B s (ix2 (y 0) (0 : Fin 1))))) := by
  unfold k0_pay2
  generalize k0_pay1 (F := Ideal) V B s = P
  pointwise [Cert.Fc1Spec.clip]
  rfl

/-- A scale is the power of two. -/
theorem pay3_apply (V : FVec Ideal S3328x1 .f32) (B : IVec S3328x1 1) (s : Ideal .f32) (y : S3328x128.Idx) :
    (show EReal from k0_pay3 (F := Ideal) V B s y)
      = Ideal.exp2 (show EReal from k0_pay1 (F := Ideal) V B s (ix2 (y 0) (0 : Fin 1))) := by
  unfold k0_pay3
  generalize k0_pay1 (F := Ideal) V B s = P
  pointwise
  rfl

/-- The activation, over the arrays that memory `m` holds. -/
theorem act_eq (c : Dev nD) (t : Fin cfg0.N) (r : Fin 3328) (j : Fin 8192) :
    (show EReal from k0_pay4 (F := Ideal) (iblk m c 0 t) (iblk m c 2 t) (iblk m c 1 t) (iblk m c 3 t) (iblk m c 4 t) (ix2 r j))
      = Cert.Fc1Spec.act (m ((c : Thread nD τ).loc main_arg0)) (m ((c : Thread nD τ).loc main_arg1))
          (m ((c : Thread nD τ).loc main_arg2)) (m ((c : Thread nD τ).loc main_arg3)) (m ((c : Thread nD τ).loc main_arg4)) r j := by
  refine (pay4_apply _ _ _ _ _ (ix2 r j)).trans ?_
  unfold Cert.Fc1Spec.act
  show Cert.Fc1Spec.gelu (∑ k : Fin 12800, (show EReal from iblk m c 0 t (ix2 r k)) * (show EReal from iblk m c 2 t (ix2 k j)))
    (iblk m c 1 t (ix2 r (0 : Fin 1))) (iblk m c 3 t (ix2 (0 : Fin 1) j)) (iblk m c 4 t (ix2 (0 : Fin 1) j)) = _
  rw [read1, read3, read4]
  simp only [read0, read2]

/-- The row maximum over 448, over the arrays that memory `m` holds. -/
theorem quot_eq (c : Dev nD) (t : Fin cfg0.N) (r : Fin 3328) :
    (show EReal from k0_pay5 (F := Ideal) (iblk m c 0 t) (iblk m c 2 t) (iblk m c 1 t) (iblk m c 3 t) (iblk m c 4 t) (ix2 r (0 : Fin 1)))
      = Cert.Fc1Spec.quot (m ((c : Thread nD τ).loc main_arg0)) (m ((c : Thread nD τ).loc main_arg1))
          (m ((c : Thread nD τ).loc main_arg2)) (m ((c : Thread nD τ).loc main_arg3)) (m ((c : Thread nD τ).loc main_arg4)) r := by
  refine (pay5_apply _ _ _ _ _ r).trans ?_
  unfold Cert.Fc1Spec.quot
  exact congrArg (fun f : Fin 8192 → EReal => (Finset.univ : Finset (Fin 8192)).fold max (Ideal.ofBits .f32 0xFF800000#32) f * Ideal.ofBits .f32 0x3B124925#32)
    (funext fun j => congrArg Cert.Fc1Spec.mag (act_eq m c t r j))

/-- What the one point stores of the codes. -/
theorem point5 (c : Dev nD) (t : Fin cfg0.N) (y : S3328x8192.Idx) :
    (show EReal from k0_pay2 (F := Ideal) (k0_pay4 (F := Ideal) (iblk m c 0 t) (iblk m c 2 t) (iblk m c 1 t) (iblk m c 3 t) (iblk m c 4 t))
      (k0_pay6 (F := Ideal) (iblk m c 0 t) (iblk m c 2 t) (iblk m c 1 t) (iblk m c 3 t) (iblk m c 4 t)) (k0_pay7 (F := Ideal) (iblk m c 0 t) (iblk m c 2 t) (iblk m c 1 t) (iblk m c 3 t) (iblk m c 4 t)) (Scalar.ofBits .f32 0x00000000#32) y)
      = Cert.Fc1Spec.codes (m ((c : Thread nD τ).loc main_arg0)) (m ((c : Thread nD τ).loc main_arg1))
          (m ((c : Thread nD τ).loc main_arg2)) (m ((c : Thread nD τ).loc main_arg3)) (m ((c : Thread nD τ).loc main_arg4)) y := by
  refine (pay2_apply _ _ _ _ y).trans ?_
  unfold Cert.Fc1Spec.codes
  refine congrArg₂ Cert.Fc1Spec.clip ((congrArg (k0_pay4 (F := Ideal) (iblk m c 0 t) (iblk m c 2 t) (iblk m c 1 t) (iblk m c 3 t) (iblk m c 4 t)) (eq_ix2 y)).trans (act_eq m c t (y 0) (y 1))) ?_
  refine congrArg (fun q : EReal => Ideal.exp2 (0 - q)) ?_
  exact (level_apply _ _ _ _ _ _).trans (congrArg Cert.Pow2.level (quot_eq m c t (y 0)))

/-- What the one point stores of the scales. -/
theorem point6 (c : Dev nD) (t : Fin cfg0.N) (y : S3328x128.Idx) :
    (show EReal from k0_pay3 (F := Ideal)
      (k0_pay6 (F := Ideal) (iblk m c 0 t) (iblk m c 2 t) (iblk m c 1 t) (iblk m c 3 t) (iblk m c 4 t)) (k0_pay7 (F := Ideal) (iblk m c 0 t) (iblk m c 2 t) (iblk m c 1 t) (iblk m c 3 t) (iblk m c 4 t)) (Scalar.ofBits .f32 0x00000000#32) y)
      = Cert.Fc1Spec.scales (m ((c : Thread nD τ).loc main_arg0)) (m ((c : Thread nD τ).loc main_arg1))
          (m ((c : Thread nD τ).loc main_arg2)) (m ((c : Thread nD τ).loc main_arg3)) (m ((c : Thread nD τ).loc main_arg4)) y := by
  refine (pay3_apply _ _ _ y).trans ?_
  unfold Cert.Fc1Spec.scales
  refine congrArg Ideal.exp2 ?_
  exact (level_apply _ _ _ _ _ _).trans (congrArg Cert.Pow2.level (quot_eq m c t (y 0)))

end Cert.Fc1RefIdeal.Final

end
-- ==== Proof.Fc1Reference.lean ====
/- The first product's reference, read after its run: every code is the activation clipped to ±448 after the division by
   its row's power of two, every scale is that power of two. -/
module

public import proofs.«01_k».proof.Proof.Gen.Fc1RefIdeal.Value
public import proofs.«01_k».proof.Proof.Fc1RefPoint

@[expose] public section

set_option maxRecDepth 16384

noncomputable section

open Idealize.ShloMosaic Idealize.ShloMosaic.TcCoe Idealize.SL.Sem
open Idealize.ShloMosaic.Pipeline (Dat)

namespace Cert.Fc1RefIdeal.Final

open Cert.Fc1RefIdeal Cert.Fc1RefIdeal.Gen

variable (m : (ℓ : Loc nD τ sig) → Buf (Elt Ideal) ℓ)

/-- The body's whole loads of its windows read the windows. -/
theorem pay8_eq (x0 : FVec Ideal S3328x12800 .fp8e4m3) (x1 : FVec Ideal S3328x1 .f32) (x2 : FVec Ideal S12800x8192 .fp8e4m3)
    (x3 x4 : FVec Ideal S1x8192 .f32) : k0_pay8 (F := Ideal) x0 x1 x2 x3 x4 = k0_pay6 (F := Ideal) x0 x2 x1 x3 x4 := by
  unfold k0_pay8 r0_0 r0_1 r0_2 r0_3
  simp (disch := decide) only [View.ld_unit_lit]

/-- The same for the range test. -/
theorem pay9_eq (x0 : FVec Ideal S3328x12800 .fp8e4m3) (x1 : FVec Ideal S3328x1 .f32) (x2 : FVec Ideal S12800x8192 .fp8e4m3)
    (x3 x4 : FVec Ideal S1x8192 .f32) : k0_pay9 (F := Ideal) x0 x1 x2 x3 x4 = k0_pay7 (F := Ideal) x0 x2 x1 x3 x4 := by
  unfold k0_pay9 r0_0 r0_1 r0_2 r0_3
  simp (disch := decide) only [View.ld_unit_lit]

/-- The codes after the run. -/
theorem final5 (c : Dev nD) : (dats m 0 c).arrAt 5 (cfgs 0).N
    = Cert.Fc1Spec.codes (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_after_last 5 t0_0 (by decide +kernel) _ fun j => ?_
  blk_simp
  rw [after0_5]
  frame_out
  rw [pay8_eq, pay9_eq]
  exact point5 m c t0_0 j

/-- The scales after the run. -/
theorem final6 (c : Dev nD) : (dats m 0 c).arrAt 6 (cfgs 0).N
    = Cert.Fc1Spec.scales (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_after_last 6 t0_0 (by decide +kernel) _ fun j => ?_
  blk_simp
  rw [after0_6]
  frame_out
  rw [pay8_eq, pay9_eq]
  exact point6 m c t0_0 j

end Cert.Fc1RefIdeal.Final

end
-- ==== Proof.Fc1Algebraic.lean ====
/- The first product's kernel and its reference end with the same codes and scales, over the extended reals. -/
module

public import proofs.«01_k».proof.Defs
public import proofs.«01_k».proof.Proof.Fc1Kernel
public import proofs.«01_k».proof.Proof.Fc1Reference

@[expose] public section

noncomputable section

namespace Cert.Proof

open Idealize.ShloMosaic Idealize.SL.Sem

/-- Both runs end with the codes and the scales that `Cert.Fc1Spec` states, of the same arguments. -/
theorem fc1_algebraic : Cert.algebraic_Fc1Ideal_Fc1RefIdeal (hFc1Ideal := Cert.Fc1Ideal.Gen.facts)
    (hFc1RefIdeal := Cert.Fc1RefIdeal.Gen.facts) := by
  intro m g m' g' _ hargs
  refine ⟨fun c => (Cert.Fc1Ideal.Body.dats m 0 c).arrAt 5 Cert.Fc1Ideal.cfg0.N,
    fun c => (Cert.Fc1Ideal.Body.dats m 0 c).arrAt 6 Cert.Fc1Ideal.cfg0.N, Cert.Fc1Ideal.Body.run_blocks m g, ?_⟩
  refine (θ_run Cert.Fc1RefIdeal.defs _ _).mono (fun r h c => ⟨(h c).1.trans ?_, (h c).2.1.trans ?_, (h c).2.2⟩)
    (Cert.Fc1RefIdeal.Value.run_blocks m' g')
  · obtain ⟨h0, h1, h2, h3, h4⟩ := hargs c
    refine (Cert.Fc1RefIdeal.Final.final5 m' c).trans (Eq.trans ?_ (Cert.Fc1Ideal.Final.final5 m c).symm)
    rw [h0, h1, h2, h3, h4]
  · obtain ⟨h0, h1, h2, h3, h4⟩ := hargs c
    refine (Cert.Fc1RefIdeal.Final.final6 m' c).trans (Eq.trans ?_ (Cert.Fc1Ideal.Final.final6 m c).symm)
    rw [h0, h1, h2, h3, h4]

end Cert.Proof

end
-- ==== Proof.LnOff.lean ====
/-
  The closed forms of the offsets that the layer norm kernel's loops compute.
-/
module

public import proofs.«01_k».proof.Proof.Gen.Ln.Frame
public import proofs.«01_k».proof.Proof.Gen.Ln.Loops
public import Idealize.ShloMosaic.Lib.Claim

@[expose] public section

set_option maxRecDepth 16384

noncomputable section

namespace Cert.Ln.Body

open Cert.Ln Cert.Ln.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The column of lane block `k` of the half `c` of a patch in the wide scratch. -/
def colOf (k c : ℕ) : ℕ := (2 * (k / 25) + c) * 3200 + (k % 25) * 128

theorem k0_off37_eq0 : ∀ k : Fin k0_t4_loop.trips, k0_off37 k 0#32 = ![0, (2 * (k.val / 25) + 0) * 3200 + (k.val % 25) * 128] := by decide +kernel

instance closedOff_off37_0 (k : Fin k0_t4_loop.trips) : ClosedOff (k0_off37 k 0#32) := ⟨_, k0_off37_eq0 k⟩

theorem k0_off37_eq1 : ∀ k : Fin k0_t4_loop.trips, k0_off37 k 1#32 = ![0, (2 * (k.val / 25) + 1) * 3200 + (k.val % 25) * 128] := by decide +kernel

instance closedOff_off37_1 (k : Fin k0_t4_loop.trips) : ClosedOff (k0_off37 k 1#32) := ⟨_, k0_off37_eq1 k⟩

theorem k0_off38_eq0 : ∀ k : Fin k0_t4_loop.trips, k0_off38 k 0#32 = ![0, (2 * (k.val / 25) + 0) * 3200 + (k.val % 25) * 128] := by decide +kernel

instance closedOff_off38_0 (k : Fin k0_t4_loop.trips) : ClosedOff (k0_off38 k 0#32) := ⟨_, k0_off38_eq0 k⟩

theorem k0_off38_eq1 : ∀ k : Fin k0_t4_loop.trips, k0_off38 k 1#32 = ![0, (2 * (k.val / 25) + 1) * 3200 + (k.val % 25) * 128] := by decide +kernel

instance closedOff_off38_1 (k : Fin k0_t4_loop.trips) : ClosedOff (k0_off38 k 1#32) := ⟨_, k0_off38_eq1 k⟩

theorem k0_off39_eq0 : ∀ k : Fin k0_t4_loop.trips, k0_off39 k 0#32 = ![8, (2 * (k.val / 25) + 0) * 3200 + (k.val % 25) * 128] := by decide +kernel

instance closedOff_off39_0 (k : Fin k0_t4_loop.trips) : ClosedOff (k0_off39 k 0#32) := ⟨_, k0_off39_eq0 k⟩

theorem k0_off39_eq1 : ∀ k : Fin k0_t4_loop.trips, k0_off39 k 1#32 = ![8, (2 * (k.val / 25) + 1) * 3200 + (k.val % 25) * 128] := by decide +kernel

instance closedOff_off39_1 (k : Fin k0_t4_loop.trips) : ClosedOff (k0_off39 k 1#32) := ⟨_, k0_off39_eq1 k⟩

theorem k0_off40_eq0 : ∀ k : Fin k0_t4_loop.trips, k0_off40 k 0#32 = ![16, (2 * (k.val / 25) + 0) * 3200 + (k.val % 25) * 128] := by decide +kernel

instance closedOff_off40_0 (k : Fin k0_t4_loop.trips) : ClosedOff (k0_off40 k 0#32) := ⟨_, k0_off40_eq0 k⟩

theorem k0_off40_eq1 : ∀ k : Fin k0_t4_loop.trips, k0_off40 k 1#32 = ![16, (2 * (k.val / 25) + 1) * 3200 + (k.val % 25) * 128] := by decide +kernel

instance closedOff_off40_1 (k : Fin k0_t4_loop.trips) : ClosedOff (k0_off40 k 1#32) := ⟨_, k0_off40_eq1 k⟩

theorem k0_off41_eq0 : ∀ k : Fin k0_t4_loop.trips, k0_off41 k 0#32 = ![24, (2 * (k.val / 25) + 0) * 3200 + (k.val % 25) * 128] := by decide +kernel

instance closedOff_off41_0 (k : Fin k0_t4_loop.trips) : ClosedOff (k0_off41 k 0#32) := ⟨_, k0_off41_eq0 k⟩

theorem k0_off41_eq1 : ∀ k : Fin k0_t4_loop.trips, k0_off41 k 1#32 = ![24, (2 * (k.val / 25) + 1) * 3200 + (k.val % 25) * 128] := by decide +kernel

instance closedOff_off41_1 (k : Fin k0_t4_loop.trips) : ClosedOff (k0_off41 k 1#32) := ⟨_, k0_off41_eq1 k⟩

theorem k0_off42_eq0 : ∀ k : Fin k0_t4_loop.trips, k0_off42 k 0#32 = ![32, (2 * (k.val / 25) + 0) * 3200 + (k.val % 25) * 128] := by decide +kernel

instance closedOff_off42_0 (k : Fin k0_t4_loop.trips) : ClosedOff (k0_off42 k 0#32) := ⟨_, k0_off42_eq0 k⟩

theorem k0_off42_eq1 : ∀ k : Fin k0_t4_loop.trips, k0_off42 k 1#32 = ![32, (2 * (k.val / 25) + 1) * 3200 + (k.val % 25) * 128] := by decide +kernel

instance closedOff_off42_1 (k : Fin k0_t4_loop.trips) : ClosedOff (k0_off42 k 1#32) := ⟨_, k0_off42_eq1 k⟩

theorem k0_off43_eq0 : ∀ k : Fin k0_t4_loop.trips, k0_off43 k 0#32 = ![40, (2 * (k.val / 25) + 0) * 3200 + (k.val % 25) * 128] := by decide +kernel

instance closedOff_off43_0 (k : Fin k0_t4_loop.trips) : ClosedOff (k0_off43 k 0#32) := ⟨_, k0_off43_eq0 k⟩

theorem k0_off43_eq1 : ∀ k : Fin k0_t4_loop.trips, k0_off43 k 1#32 = ![40, (2 * (k.val / 25) + 1) * 3200 + (k.val % 25) * 128] := by decide +kernel

instance closedOff_off43_1 (k : Fin k0_t4_loop.trips) : ClosedOff (k0_off43 k 1#32) := ⟨_, k0_off43_eq1 k⟩

theorem k0_off44_eq0 : ∀ k : Fin k0_t4_loop.trips, k0_off44 k 0#32 = ![48, (2 * (k.val / 25) + 0) * 3200 + (k.val % 25) * 128] := by decide +kernel

instance closedOff_off44_0 (k : Fin k0_t4_loop.trips) : ClosedOff (k0_off44 k 0#32) := ⟨_, k0_off44_eq0 k⟩

theorem k0_off44_eq1 : ∀ k : Fin k0_t4_loop.trips, k0_off44 k 1#32 = ![48, (2 * (k.val / 25) + 1) * 3200 + (k.val % 25) * 128] := by decide +kernel

instance closedOff_off44_1 (k : Fin k0_t4_loop.trips) : ClosedOff (k0_off44 k 1#32) := ⟨_, k0_off44_eq1 k⟩

theorem k0_off45_eq0 : ∀ k : Fin k0_t4_loop.trips, k0_off45 k 0#32 = ![56, (2 * (k.val / 25) + 0) * 3200 + (k.val % 25) * 128] := by decide +kernel

instance closedOff_off45_0 (k : Fin k0_t4_loop.trips) : ClosedOff (k0_off45 k 0#32) := ⟨_, k0_off45_eq0 k⟩

theorem k0_off45_eq1 : ∀ k : Fin k0_t4_loop.trips, k0_off45 k 1#32 = ![56, (2 * (k.val / 25) + 1) * 3200 + (k.val % 25) * 128] := by decide +kernel

instance closedOff_off45_1 (k : Fin k0_t4_loop.trips) : ClosedOff (k0_off45 k 1#32) := ⟨_, k0_off45_eq1 k⟩

theorem k0_off46_eq0 : ∀ k : Fin k0_t4_loop.trips, k0_off46 k 0#32 = ![64, (2 * (k.val / 25) + 0) * 3200 + (k.val % 25) * 128] := by decide +kernel

instance closedOff_off46_0 (k : Fin k0_t4_loop.trips) : ClosedOff (k0_off46 k 0#32) := ⟨_, k0_off46_eq0 k⟩

theorem k0_off46_eq1 : ∀ k : Fin k0_t4_loop.trips, k0_off46 k 1#32 = ![64, (2 * (k.val / 25) + 1) * 3200 + (k.val % 25) * 128] := by decide +kernel

instance closedOff_off46_1 (k : Fin k0_t4_loop.trips) : ClosedOff (k0_off46 k 1#32) := ⟨_, k0_off46_eq1 k⟩

theorem k0_off47_eq0 : ∀ k : Fin k0_t4_loop.trips, k0_off47 k 0#32 = ![72, (2 * (k.val / 25) + 0) * 3200 + (k.val % 25) * 128] := by decide +kernel

instance closedOff_off47_0 (k : Fin k0_t4_loop.trips) : ClosedOff (k0_off47 k 0#32) := ⟨_, k0_off47_eq0 k⟩

theorem k0_off47_eq1 : ∀ k : Fin k0_t4_loop.trips, k0_off47 k 1#32 = ![72, (2 * (k.val / 25) + 1) * 3200 + (k.val % 25) * 128] := by decide +kernel

instance closedOff_off47_1 (k : Fin k0_t4_loop.trips) : ClosedOff (k0_off47 k 1#32) := ⟨_, k0_off47_eq1 k⟩

theorem k0_off48_eq0 : ∀ k : Fin k0_t4_loop.trips, k0_off48 k 0#32 = ![80, (2 * (k.val / 25) + 0) * 3200 + (k.val % 25) * 128] := by decide +kernel

instance closedOff_off48_0 (k : Fin k0_t4_loop.trips) : ClosedOff (k0_off48 k 0#32) := ⟨_, k0_off48_eq0 k⟩

theorem k0_off48_eq1 : ∀ k : Fin k0_t4_loop.trips, k0_off48 k 1#32 = ![80, (2 * (k.val / 25) + 1) * 3200 + (k.val % 25) * 128] := by decide +kernel

instance closedOff_off48_1 (k : Fin k0_t4_loop.trips) : ClosedOff (k0_off48 k 1#32) := ⟨_, k0_off48_eq1 k⟩

theorem k0_off49_eq0 : ∀ k : Fin k0_t4_loop.trips, k0_off49 k 0#32 = ![88, (2 * (k.val / 25) + 0) * 3200 + (k.val % 25) * 128] := by decide +kernel

instance closedOff_off49_0 (k : Fin k0_t4_loop.trips) : ClosedOff (k0_off49 k 0#32) := ⟨_, k0_off49_eq0 k⟩

theorem k0_off49_eq1 : ∀ k : Fin k0_t4_loop.trips, k0_off49 k 1#32 = ![88, (2 * (k.val / 25) + 1) * 3200 + (k.val % 25) * 128] := by decide +kernel

instance closedOff_off49_1 (k : Fin k0_t4_loop.trips) : ClosedOff (k0_off49 k 1#32) := ⟨_, k0_off49_eq1 k⟩

theorem k0_off50_eq0 : ∀ k : Fin k0_t4_loop.trips, k0_off50 k 0#32 = ![96, (2 * (k.val / 25) + 0) * 3200 + (k.val % 25) * 128] := by decide +kernel

instance closedOff_off50_0 (k : Fin k0_t4_loop.trips) : ClosedOff (k0_off50 k 0#32) := ⟨_, k0_off50_eq0 k⟩

theorem k0_off50_eq1 : ∀ k : Fin k0_t4_loop.trips, k0_off50 k 1#32 = ![96, (2 * (k.val / 25) + 1) * 3200 + (k.val % 25) * 128] := by decide +kernel

instance closedOff_off50_1 (k : Fin k0_t4_loop.trips) : ClosedOff (k0_off50 k 1#32) := ⟨_, k0_off50_eq1 k⟩

theorem k0_off51_eq0 : ∀ k : Fin k0_t4_loop.trips, k0_off51 k 0#32 = ![104, (2 * (k.val / 25) + 0) * 3200 + (k.val % 25) * 128] := by decide +kernel

instance closedOff_off51_0 (k : Fin k0_t4_loop.trips) : ClosedOff (k0_off51 k 0#32) := ⟨_, k0_off51_eq0 k⟩

theorem k0_off51_eq1 : ∀ k : Fin k0_t4_loop.trips, k0_off51 k 1#32 = ![104, (2 * (k.val / 25) + 1) * 3200 + (k.val % 25) * 128] := by decide +kernel

instance closedOff_off51_1 (k : Fin k0_t4_loop.trips) : ClosedOff (k0_off51 k 1#32) := ⟨_, k0_off51_eq1 k⟩

theorem k0_off52_eq0 : ∀ k : Fin k0_t4_loop.trips, k0_off52 k 0#32 = ![112, (2 * (k.val / 25) + 0) * 3200 + (k.val % 25) * 128] := by decide +kernel

instance closedOff_off52_0 (k : Fin k0_t4_loop.trips) : ClosedOff (k0_off52 k 0#32) := ⟨_, k0_off52_eq0 k⟩

theorem k0_off52_eq1 : ∀ k : Fin k0_t4_loop.trips, k0_off52 k 1#32 = ![112, (2 * (k.val / 25) + 1) * 3200 + (k.val % 25) * 128] := by decide +kernel

instance closedOff_off52_1 (k : Fin k0_t4_loop.trips) : ClosedOff (k0_off52 k 1#32) := ⟨_, k0_off52_eq1 k⟩

theorem k0_off53_eq0 : ∀ k : Fin k0_t4_loop.trips, k0_off53 k 0#32 = ![120, (2 * (k.val / 25) + 0) * 3200 + (k.val % 25) * 128] := by decide +kernel

instance closedOff_off53_0 (k : Fin k0_t4_loop.trips) : ClosedOff (k0_off53 k 0#32) := ⟨_, k0_off53_eq0 k⟩

theorem k0_off53_eq1 : ∀ k : Fin k0_t4_loop.trips, k0_off53 k 1#32 = ![120, (2 * (k.val / 25) + 1) * 3200 + (k.val % 25) * 128] := by decide +kernel

instance closedOff_off53_1 (k : Fin k0_t4_loop.trips) : ClosedOff (k0_off53 k 1#32) := ⟨_, k0_off53_eq1 k⟩

end Cert.Ln.Body

end
-- ==== Proof.LnLoops.lean ====
/-
  The five counted loops of the layer norm kernel by invariants that say which buffers a trip touches.
-/
module

public import proofs.«01_k».proof.Proof.Gen.Ln.Frame
public import proofs.«01_k».proof.Proof.Gen.Ln.Loops
public import proofs.«01_k».proof.Proof.LnOff
public import Idealize.ShloMosaic.Lib.Claim

@[expose] public section

set_option maxRecDepth 16384

noncomputable section

namespace Cert.Ln.Body

open Cert.Ln Cert.Ln.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option warn.classDefReducibility false in
set_option maxHeartbeats 8000000 in
@[sl_loop] def li1 (𝒱 : Variants) (c : Dev nD) (bd : Option 𝒱.V) (E : Set ℕ) (i : grid0.Coords) (arg2 : Memref sig .tc .vmem S1x32x16x3200 .bf16) (harg2 : arg2.IsWhole) (arg3 : Memref sig .tc .vmem S1x12800 .f32) (harg3 : arg3.IsWhole) (arg4 : Memref sig .tc .vmem S1x12800 .f32) (harg4 : arg4.IsWhole) (arg5 : Memref sig .tc .vmem S1x128x12800 .fp8e4m3) (harg5 : arg5.IsWhole) (arg6 : Memref sig .tc .vmem S1x128x128 .f32) (harg6 : arg6.IsWhole) (arg7 : Memref sig .tc .vmem S50x136x128 .i32) (harg7 : arg7.IsWhole) (arg8 : Memref sig .tc .vmem S128x12800 .f32) (harg8 : arg8.IsWhole) (X2 : BufTy.Contents (Elt F) arg2.view.ty) :
    LoopInvTy_k0_t1 (F := F) Unit ℕ (UR sig nD τ) ℕ 𝒱 c bd E i arg2 harg2 arg3 harg3 arg4 harg4 arg5 harg5 arg6 harg6 arg7 harg7 arg8 harg8 where
  inv k _ := iprop((arg2.view.loc (c : Thread nD τ) ↦[arg2.view.set]{fullShare} X2) ∗ (∃ f, (arg7.view.loc (c : Thread nD τ) ↦[Finset.univ]{fullShare} f)))
  step k acc := by
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    iintro ⟨H2, ⟨%f, H7⟩⟩
    sl_exec
    sl_step
    isplitl [H2]; · iexact H2
    iexists _; iexact H7

set_option warn.classDefReducibility false in
set_option maxHeartbeats 8000000 in
@[sl_loop] def li2 (𝒱 : Variants) (c : Dev nD) (bd : Option 𝒱.V) (E : Set ℕ) (i : grid0.Coords) (arg2 : Memref sig .tc .vmem S1x32x16x3200 .bf16) (harg2 : arg2.IsWhole) (arg3 : Memref sig .tc .vmem S1x12800 .f32) (harg3 : arg3.IsWhole) (arg4 : Memref sig .tc .vmem S1x12800 .f32) (harg4 : arg4.IsWhole) (arg5 : Memref sig .tc .vmem S1x128x12800 .fp8e4m3) (harg5 : arg5.IsWhole) (arg6 : Memref sig .tc .vmem S1x128x128 .f32) (harg6 : arg6.IsWhole) (arg7 : Memref sig .tc .vmem S50x136x128 .i32) (harg7 : arg7.IsWhole) (arg8 : Memref sig .tc .vmem S128x12800 .f32) (harg8 : arg8.IsWhole) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (X7 : BufTy.Contents (Elt F) arg7.view.ty) :
    LoopInvTy_k0_t2 (F := F) Unit ℕ (UR sig nD τ) ℕ 𝒱 c bd E i arg2 harg2 arg3 harg3 arg4 harg4 arg5 harg5 arg6 harg6 arg7 harg7 arg8 harg8 init where
  inv k _ := iprop((arg7.view.loc (c : Thread nD τ) ↦[Finset.univ]{fullShare} X7))
  step k acc := by
    unfold k0_t2_body
    simp only [k0_part10_eq_skeleton, k0_part11_eq_skeleton, k0_part12_eq_skeleton, k0_part13_eq_skeleton]
    iintro H7
    sl_exec
    sl_step
    iexact H7

set_option warn.classDefReducibility false in
set_option maxHeartbeats 8000000 in
@[sl_loop] def li3 (𝒱 : Variants) (c : Dev nD) (bd : Option 𝒱.V) (E : Set ℕ) (i : grid0.Coords) (arg2 : Memref sig .tc .vmem S1x32x16x3200 .bf16) (harg2 : arg2.IsWhole) (arg3 : Memref sig .tc .vmem S1x12800 .f32) (harg3 : arg3.IsWhole) (arg4 : Memref sig .tc .vmem S1x12800 .f32) (harg4 : arg4.IsWhole) (arg5 : Memref sig .tc .vmem S1x128x12800 .fp8e4m3) (harg5 : arg5.IsWhole) (arg6 : Memref sig .tc .vmem S1x128x128 .f32) (harg6 : arg6.IsWhole) (arg7 : Memref sig .tc .vmem S50x136x128 .i32) (harg7 : arg7.IsWhole) (arg8 : Memref sig .tc .vmem S128x12800 .f32) (harg8 : arg8.IsWhole) (v1 : FVec F S8x128 .f32) (v3_13 : FVec F S8x128 .f32) (v3_14 : FVec F S8x128 .f32) (v3_15 : FVec F S8x128 .f32) (v9 : FVec F S8x128 .f32) (v15 : FVec F S8x128 .f32) (v21 : FVec F S8x128 .f32) (v27 : FVec F S8x128 .f32) (v33 : FVec F S8x128 .f32) (v39 : FVec F S8x128 .f32) (v45 : FVec F S8x128 .f32) (v51 : FVec F S8x128 .f32) (v57 : FVec F S8x128 .f32) (v63 : FVec F S8x128 .f32) (v69 : FVec F S8x128 .f32) (v75 : FVec F S8x128 .f32) (v81 : FVec F S8x128 .f32) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (X7 : BufTy.Contents (Elt F) arg7.view.ty) :
    LoopInvTy_k0_t3 (F := F) Unit ℕ (UR sig nD τ) ℕ 𝒱 c bd E i arg2 harg2 arg3 harg3 arg4 harg4 arg5 harg5 arg6 harg6 arg7 harg7 arg8 harg8 v1 v3_13 v3_14 v3_15 v9 v15 v21 v27 v33 v39 v45 v51 v57 v63 v69 v75 v81 init where
  inv k _ := iprop((arg7.view.loc (c : Thread nD τ) ↦[Finset.univ]{fullShare} X7))
  step k acc := by
    unfold k0_t3_body
    simp only [k0_part14_eq_skeleton, k0_part15_eq_skeleton, k0_part16_eq_skeleton, k0_part17_eq_skeleton, k0_part18_eq_skeleton]
    iintro H7
    sl_exec
    sl_step
    iexact H7

set_option warn.classDefReducibility false in
set_option maxHeartbeats 8000000 in
@[sl_loop] def li4 (𝒱 : Variants) (c : Dev nD) (bd : Option 𝒱.V) (E : Set ℕ) (i : grid0.Coords) (arg2 : Memref sig .tc .vmem S1x32x16x3200 .bf16) (harg2 : arg2.IsWhole) (arg3 : Memref sig .tc .vmem S1x12800 .f32) (harg3 : arg3.IsWhole) (arg4 : Memref sig .tc .vmem S1x12800 .f32) (harg4 : arg4.IsWhole) (arg5 : Memref sig .tc .vmem S1x128x12800 .fp8e4m3) (harg5 : arg5.IsWhole) (arg6 : Memref sig .tc .vmem S1x128x128 .f32) (harg6 : arg6.IsWhole) (arg7 : Memref sig .tc .vmem S50x136x128 .i32) (harg7 : arg7.IsWhole) (arg8 : Memref sig .tc .vmem S128x12800 .f32) (harg8 : arg8.IsWhole) (v1 : FVec F S8x128 .f32) (v9 : FVec F S8x128 .f32) (v15 : FVec F S8x128 .f32) (v21 : FVec F S8x128 .f32) (v27 : FVec F S8x128 .f32) (v33 : FVec F S8x128 .f32) (v39 : FVec F S8x128 .f32) (v45 : FVec F S8x128 .f32) (v51 : FVec F S8x128 .f32) (v57 : FVec F S8x128 .f32) (v63 : FVec F S8x128 .f32) (v69 : FVec F S8x128 .f32) (v75 : FVec F S8x128 .f32) (v81 : FVec F S8x128 .f32) (v87 : FVec F S8x128 .f32) (v93 : FVec F S8x128 .f32) (v99 : FVec F S8x128 .f32) (v101_13 : FVec F S8x128 .f32) (v101_14 : FVec F S8x128 .f32) (v101_15 : FVec F S8x128 .f32) (v110 : FVec F S8x128 .f32) (v119 : FVec F S8x128 .f32) (v128 : FVec F S8x128 .f32) (v137 : FVec F S8x128 .f32) (v146 : FVec F S8x128 .f32) (v155 : FVec F S8x128 .f32) (v164 : FVec F S8x128 .f32) (v173 : FVec F S8x128 .f32) (v182 : FVec F S8x128 .f32) (v191 : FVec F S8x128 .f32) (v200 : FVec F S8x128 .f32) (v209 : FVec F S8x128 .f32) (v213 : FVec F S8x1 .f32) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (X3 : BufTy.Contents (Elt F) arg3.view.ty) (X4 : BufTy.Contents (Elt F) arg4.view.ty) (X7 : BufTy.Contents (Elt F) arg7.view.ty) :
    LoopInvTy_k0_t4 (F := F) Unit ℕ (UR sig nD τ) ℕ 𝒱 c bd E i arg2 harg2 arg3 harg3 arg4 harg4 arg5 harg5 arg6 harg6 arg7 harg7 arg8 harg8 v1 v9 v15 v21 v27 v33 v39 v45 v51 v57 v63 v69 v75 v81 v87 v93 v99 v101_13 v101_14 v101_15 v110 v119 v128 v137 v146 v155 v164 v173 v182 v191 v200 v209 v213 init where
  inv k _ := iprop((arg7.view.loc (c : Thread nD τ) ↦[Finset.univ]{fullShare} X7) ∗ (arg3.view.loc (c : Thread nD τ) ↦[arg3.view.set]{fullShare} X3) ∗ (arg4.view.loc (c : Thread nD τ) ↦[arg4.view.set]{fullShare} X4) ∗ (∃ f, (arg8.view.loc (c : Thread nD τ) ↦[arg8.view.set]{fullShare} f)))
  step k acc := by
    unfold k0_t4_body
    simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    iintro ⟨H7, H3, H4, ⟨%f, H8⟩⟩
    sl_exec
    sl_step
    isplitl [H7]; · iexact H7
    isplitl [H3]; · iexact H3
    isplitl [H4]; · iexact H4
    iexists _; iexact H8

end Cert.Ln.Body

end
-- ==== Proof.LnRun.lean ====
/-
  The body of the layer norm kernel, run once at a symbolic grid point.
-/
module

public import proofs.«01_k».proof.Proof.Gen.Ln.Frame
public import proofs.«01_k».proof.Proof.Gen.Ln.Loops
public import proofs.«01_k».proof.Proof.LnLoops
public import Idealize.ShloMosaic.Lib.Claim

@[expose] public section

set_option maxRecDepth 16384

noncomputable section

namespace Cert.Ln.Body

open Cert.Ln Cert.Ln.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option maxHeartbeats 16000000 in
/-- The body: it reads the block of patches, the weights and the offsets, and writes both outputs and both scratch
    buffers. -/
theorem run (c : Dev nD) (i : grid0.Coords) (arg2 : Memref sig .tc .vmem S1x32x16x3200 .bf16) (harg2 : arg2.IsWhole) (arg3 : Memref sig .tc .vmem S1x12800 .f32) (harg3 : arg3.IsWhole) (arg4 : Memref sig .tc .vmem S1x12800 .f32) (harg4 : arg4.IsWhole) (arg5 : Memref sig .tc .vmem S1x128x12800 .fp8e4m3) (harg5 : arg5.IsWhole) (arg6 : Memref sig .tc .vmem S1x128x128 .f32) (harg6 : arg6.IsWhole) (arg7 : Memref sig .tc .vmem S50x136x128 .i32) (harg7 : arg7.IsWhole) (arg8 : Memref sig .tc .vmem S128x12800 .f32) (harg8 : arg8.IsWhole)
    (x0 : Vec F S1x32x16x3200 .bf16) (x1 : Vec F S1x12800 .f32) (x2 : Vec F S1x12800 .f32) (xo5 : Vec F S1x128x12800 .fp8e4m3) (xo6 : Vec F S1x128x128 .f32) (xs7 : Vec F S50x136x128 .i32) (xs8 : Vec F S128x12800 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare xo5 ∗ owns (c : Thread nD τ) arg6 fullShare xo6 ∗ owns (c : Thread nD τ) arg7 fullShare xs7 ∗ owns (c : Thread nD τ) arg8 fullShare xs8
            ∗ (iprop(owns (c : Thread nD τ) arg2 fullShare x0 ∗ owns (c : Thread nD τ) arg3 fullShare x1 ∗ owns (c : Thread nD τ) arg4 fullShare x2 ∗ (∃ y, owns (c : Thread nD τ) arg5 fullShare y) ∗ (∃ y, owns (c : Thread nD τ) arg6 fullShare y) ∗ (∃ y, owns (c : Thread nD τ) arg7 fullShare y) ∗ (∃ y, owns (c : Thread nD τ) arg8 fullShare y)) -∗ K ⟨⟩))
          ⊢ wp frame (wpE (defs₀ (F := F)) Variants.none c none) E (cc0_ln_quant i arg2 harg2 arg3 harg3 arg4 harg4 arg5 harg5 arg6 harg6 arg7 harg7 arg8 harg8) K := by
    simp only [cc0_ln_quant_eq_skeleton]; unfold cc0_ln_quant_skel
    simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2
    rw [harg7.set_eq_univ]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexists _; isplitr
      swap; · iexact H5
      ipureintro; rfl
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Ln.Body

end
-- ==== Proof.LnBody.lean ====
/-
  The layer norm kernel's body at every grid point, and the frame of the whole call: nothing is said of what the two
  outputs hold, only that the run neither faults nor changes an argument.
-/
module

public import proofs.«01_k».proof.Proof.Gen.Ln.Frame
public import proofs.«01_k».proof.Proof.LnRun
public import Idealize.ShloMosaic.Lib.Claim

@[expose] public section

set_option maxRecDepth 16384

noncomputable section

namespace Cert.Ln.Body

open Cert.Ln Cert.Ln.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat RDat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The scratch buffers. -/
abbrev scM0_0 : Memref sig .tc .vmem S50x136x128 .i32 := Memref.whole cc0_scratch0
abbrev scM0_1 : Memref sig .tc .vmem S128x12800 .f32 := Memref.whole cc0_scratch1

/-- The frame kit's own invariant: the scratch at any contents. -/
theorem PhiA0_eq (c : Dev nD) : (Pipeline.ΦA spec0 c : sProp 𝕄)
    = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The outputs are forgotten. -/
def fgt : Fin cfg0.W → Bool := fun w => decide (3 ≤ w.val)

/-- The pipeline's proof data: inputs at their blocks; of the outputs nothing is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Each window's staging buffer at a grid point, and that it is a whole buffer. -/
abbrev ms0_0 (t : Fin cfg0.N) : Memref sig .tc .vmem S1x32x16x3200 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x12800 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x12800 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x12800 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x128 .f32 := win0_4.stage (cfg0.slots t 4)
abbrev hs0_4 (t : Fin cfg0.N) : (ms0_4 t).IsWhole := hstage0_4 ((cfg0.slots t 4).cast nbuf0_4)

set_option maxHeartbeats 3000000 in
/-- The body at any grid point. -/
theorem sound_body (c : Dev nD) (t : Fin cfg0.N) :
    iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ X, owns (c : Thread nD τ) (ms0_3 t) fullShare X)
    ∗ (∃ X, owns (c : Thread nD τ) (ms0_4 t) fullShare X))
    ⊢ wp frame (wpE (defs₀ (F := F)) Variants.none c none) Set.univ (bodyAt0 t) (fun _ =>
    iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ X, owns (c : Thread nD τ) (ms0_3 t) fullShare X)
    ∗ (∃ X, owns (c : Thread nD τ) (ms0_4 t) fullShare X))) := by
  unfold bodyAt0
  simp only [before0_0, before0_1, before0_2, after0_0, after0_1, after0_2]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨⟨%G, HS0⟩, ⟨%A, HS1⟩⟩, Hg⟩, Ho, ⟨%d0, H0⟩, ⟨%d1, H1⟩, ⟨%d2, H2⟩, ⟨%d3, H3⟩, ⟨%d4, H4⟩⟩
  iapply (run c (grid0.coords t) _ _ _ _ _ _ _ _ _ _ _ _ _ _ (iblk m c 0 t) (iblk m c 1 t) (iblk m c 2 t) d3 d4 G A Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at a grid point is the body there. -/
theorem defs₀_row (t : Fin cfg0.N) :
    defs₀ (F := F) .tc cfg0.body (cfg0.bodyArgs t (cfg0.slots t)) = bodyAt0 t := by
  unfold defs₀; rw [Defs.onTc_tc]

/-- The body's obligation at every grid point. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- Every weakly fair run of the call ends with every input as it was, every counter at zero. -/
theorem run_main_quiescent : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the arguments end as they were launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ ⟨h, hz⟩ => ⟨fun c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩, hz⟩) (run_main_quiescent m ρ)

end Cert.Ln.Body

end
-- ==== Proof.LnPreserves.lean ====
/-
  The rewrites between the layer norm kernel's program and its idealization keep its meaning.
-/
module

public import proofs.«01_k».proof.Defs
public import Idealize.ShloMosaic.Lib.Bf16PairInverse
public import Idealize.ShloMosaic.Lib.Bf16Pair

@[expose] public section

noncomputable section

namespace Cert.Proof

open Idealize.ShloMosaic

/-- Each rewrite by its rule's own statement. -/
theorem ln_preserves : Cert.preserves_Ln_LnIdeal :=
  ⟨IdealRules.bf16_pair.bufferStatement _ _, IdealRules.bf16_pair.statement _ _, IdealRules.bf16_pair.statement _ _,
   IdealRules.bf16_pair.statement _ _, IdealRules.named_const.statement _ _ _ _ _ (by rfl)⟩

end Cert.Proof

end
-- ==== Proof.LnIdealSlab.lean ====
/-
  The word scratch of the layer norm's kernel: what a strided store into one slab of it leaves, what a load of eight rows
  of a slab reads, and the table of the input block that the transposing loop makes of it.
-/
module

public import proofs.«01_k».proof.Proof.Gen.LnIdeal.Frame
public import proofs.«01_k».proof.Proof.Gen.LnIdeal.Loops
public import Idealize.ShloMosaic.Lib.Claim
public import Idealize.ShloMosaic.Lib.Pipeline.ValueKit
public import Idealize.ShloMosaic.Lib.ValueLayout
public import Idealize.ShloMosaic.Lib.WritesUnit
public import Idealize.ShloMosaic.Lib.Pointwise

@[expose] public section

set_option maxRecDepth 16384

noncomputable section

namespace Cert.LnIdeal.Body

open Cert.LnIdeal Cert.LnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Where row `r`, pair member `p`, lane `l` of slab `s` lies: the element under the slab's squeezed view. -/
theorem slab_emb (m : Memref sig .tc .vmem S50x136x2x128 .bf16) {off : Fin 4 → ℕ} (inb : ∀ a, off a + S1x136x2x128.size a ≤ S50x136x2x128.size a) {s : ℕ} (hs : s < 50) (ho : off = ![s, 0, 0, 0])
    (hst : ∀ a, (Rect.unit (s := S50x136x2x128) off S1x136x2x128.size inb).stride a = 1) (z : S136x2x128.Idx) :
    ((m.slice (Rect.unit (s := S50x136x2x128) off S1x136x2x128.size inb) hst).squeeze S136x2x128 squeezes_S1x136x2x128_S136x2x128).view.emb z
      = m.view.emb (ix4 (⟨s, hs⟩ : Fin 50) (z 0 : Fin 136) (z 1 : Fin 2) (z 2 : Fin 128)) := by
  subst ho
  have hz : z = ix3 (z 0 : Fin 136) (z 1 : Fin 2) (z 2 : Fin 128) := eq_ix3 z
  show m.view.emb ((Rect.unit (s := S50x136x2x128) ![s, 0, 0, 0] S1x136x2x128.size inb).emb (Shape.reshapeEquiv _ z)) = _
  congr 1
  rw [hz]
  erw [Idealize.ShloMosaic.ValueIdx.reshapeEquiv_ix3_1abc]
  funext a
  refine Fin.ext ?_
  fin_cases a
  · show s + 1 * 0 = s; omega
  · show 0 + 1 * (z 0).val = (z 0).val; omega
  · show 0 + 1 * (z 1).val = (z 1).val; omega
  · show 0 + 1 * (z 2).val = (z 2).val; omega

/-- A load of eight rows of slab `s`, from row `o`. -/
theorem slab_load (m : Memref sig .tc .vmem S50x136x2x128 .bf16) {off : Fin 4 → ℕ} (inb : ∀ a, off a + S1x136x2x128.size a ≤ S50x136x2x128.size a) {s : ℕ} (hs : s < 50) (ho : off = ![s, 0, 0, 0])
    (hst : ∀ a, (Rect.unit (s := S50x136x2x128) off S1x136x2x128.size inb).stride a = 1) {o : ℕ} (inb' : ∀ a, (![o, 0, 0] : Fin 3 → ℕ) a + S8x2x128.size a ≤ S136x2x128.size a) (hb : o + 8 ≤ 136)
    (f : BufTy.Contents (Elt F) m.view.ty) (z : S8x2x128.Idx) :
    ((m.slice (Rect.unit (s := S50x136x2x128) off S1x136x2x128.size inb) hst).squeeze S136x2x128 squeezes_S1x136x2x128_S136x2x128).view.readAt (Elt F) (Rect.unit (s := S136x2x128) ![o, 0, 0] S8x2x128.size inb').toLoadRect f z
      = m.view.read (Elt F) f (ix4 (⟨s, hs⟩ : Fin 50) (⟨o + (z 0).val, by have := (z 0).isLt; change (z 0).val < 8 at this; omega⟩ : Fin 136) (z 1 : Fin 2) (z 2 : Fin 128)) := by
  rw [View.readAt_apply, View.read_apply, View.read_apply]
  have e := slab_emb m inb hs ho hst ((Rect.unit (s := S136x2x128) ![o, 0, 0] S8x2x128.size inb').toLoadRect.idx z)
  have e2 : (ix4 (⟨s, hs⟩ : Fin 50) ((Rect.unit (s := S136x2x128) ![o, 0, 0] S8x2x128.size inb').toLoadRect.idx z 0 : Fin 136) ((Rect.unit (s := S136x2x128) ![o, 0, 0] S8x2x128.size inb').toLoadRect.idx z 1 : Fin 2) ((Rect.unit (s := S136x2x128) ![o, 0, 0] S8x2x128.size inb').toLoadRect.idx z 2 : Fin 128))
      = ix4 (⟨s, hs⟩ : Fin 50) (⟨o + (z 0).val, by have := (z 0).isLt; change (z 0).val < 8 at this; omega⟩ : Fin 136) (z 1 : Fin 2) (z 2 : Fin 128) := by
    funext a
    refine Fin.ext ?_
    fin_cases a
    · rfl
    · show o + 1 * (z 0).val = o + (z 0).val; omega
    · show 0 + 1 * (z 1).val = (z 1).val; omega
    · show 0 + 1 * (z 2).val = (z 2).val; omega
  exact congrArg (fun q => cast (congrArg (Elt F) m.view.elt_eq) (f q)) (e.trans (congrArg m.view.emb e2))

/-- A store of rows `i, i + 17, …` of slab `s`. -/
theorem slab_write (m : Memref sig .tc .vmem S50x136x2x128 .bf16) {off : Fin 4 → ℕ} (inb : ∀ a, off a + S1x136x2x128.size a ≤ S50x136x2x128.size a) {s : ℕ} (hs : s < 50) (ho : off = ![s, 0, 0, 0])
    (hst : ∀ a, (Rect.unit (s := S50x136x2x128) off S1x136x2x128.size inb).stride a = 1) {i : ℕ} (hi : i < 17) (inb') (pos)
    (f : BufTy.Contents (Elt F) m.view.ty) (w : S8x2x128.Idx → Elt F .bf16) (y : S50x136x2x128.Idx) :
    m.view.read (Elt F) (View.write (Elt F) (((m.slice (Rect.unit (s := S50x136x2x128) off S1x136x2x128.size inb) hst).squeeze S136x2x128 squeezes_S1x136x2x128_S136x2x128).access ⟨(⟨![i, 0, 0], S8x2x128.size, ![17, 1, 1], inb'⟩ : LoadRect S136x2x128), pos⟩) f w Finset.univ) y
      = if (y 0).val = s ∧ (y 1).val % 17 = i then w (ix3 (⟨(y 1).val / 17, by have := (y 1).isLt; change (y 1).val < 136 at this; omega⟩ : Fin 8) (y 2 : Fin 2) (y 3 : Fin 128)) else m.view.read (Elt F) f y := by
  have h0 : (y 0).val < 50 := (y 0).isLt
  have h1 : (y 1).val < 136 := (y 1).isLt
  have key : ∀ x : S8x2x128.Idx, (((m.slice (Rect.unit (s := S50x136x2x128) off S1x136x2x128.size inb) hst).squeeze S136x2x128 squeezes_S1x136x2x128_S136x2x128).access ⟨(⟨![i, 0, 0], S8x2x128.size, ![17, 1, 1], inb'⟩ : LoadRect S136x2x128), pos⟩).emb x
      = m.view.emb (ix4 (⟨s, hs⟩ : Fin 50) (⟨i + 17 * (x 0).val, by have := (x 0).isLt; change (x 0).val < 8 at this; omega⟩ : Fin 136) (x 1 : Fin 2) (x 2 : Fin 128)) := by
    intro x
    refine (slab_emb m inb hs ho hst _).trans (congrArg m.view.emb ?_)
    funext a
    refine Fin.ext ?_
    fin_cases a
    · rfl
    · rfl
    · show 0 + 1 * (x 1).val = (x 1).val; omega
    · show 0 + 1 * (x 2).val = (x 2).val; omega
  split
  · rename_i h
    rw [View.read_apply]
    have e : m.view.emb y = (((m.slice (Rect.unit (s := S50x136x2x128) off S1x136x2x128.size inb) hst).squeeze S136x2x128 squeezes_S1x136x2x128_S136x2x128).access ⟨(⟨![i, 0, 0], S8x2x128.size, ![17, 1, 1], inb'⟩ : LoadRect S136x2x128), pos⟩).emb (ix3 (⟨(y 1).val / 17, by omega⟩ : Fin 8) (y 2 : Fin 2) (y 3 : Fin 128)) := by
      rw [key]
      congr 1
      funext a
      refine Fin.ext ?_
      fin_cases a
      · exact h.1
      · show (y 1).val = i + 17 * ((y 1).val / 17); omega
      · rfl
      · rfl
    have e2 := View.write_emb_of_mem (v := (((m.slice (Rect.unit (s := S50x136x2x128) off S1x136x2x128.size inb) hst).squeeze S136x2x128 squeezes_S1x136x2x128_S136x2x128).access ⟨(⟨![i, 0, 0], S8x2x128.size, ![17, 1, 1], inb'⟩ : LoadRect S136x2x128), pos⟩)) (Val := Elt F) f w (M := Finset.univ) (Finset.mem_univ (ix3 (⟨(y 1).val / 17, by omega⟩ : Fin 8) (y 2 : Fin 2) (y 3 : Fin 128)))
    refine (congrArg (fun q => cast (congrArg (Elt F) m.view.elt_eq) (View.write (Elt F) (((m.slice (Rect.unit (s := S50x136x2x128) off S1x136x2x128.size inb) hst).squeeze S136x2x128 squeezes_S1x136x2x128_S136x2x128).access ⟨(⟨![i, 0, 0], S8x2x128.size, ![17, 1, 1], inb'⟩ : LoadRect S136x2x128), pos⟩) f w Finset.univ q)) e).trans ?_
    refine (congrArg (cast (congrArg (Elt F) m.view.elt_eq)) e2).trans ?_
    rw [cast_cast, cast_eq]
    rfl
  · rename_i h
    rw [View.read_apply, View.read_apply]
    refine congrArg (cast (congrArg (Elt F) m.view.elt_eq)) (View.write_of_not_mem _ _ _ fun hm => h ?_)
    obtain ⟨x, -, e⟩ := Finset.mem_map.mp hm
    have e' := m.view.emb.injective ((key x).symm.trans e)
    have e0 := congrArg (fun q : S50x136x2x128.Idx => (q 0).val) e'
    have e1 := congrArg (fun q : S50x136x2x128.Idx => (q 1).val) e'
    have hx : (x 0).val < 8 := (x 0).isLt
    change s = (y 0).val at e0
    change i + 17 * (x 0).val = (y 1).val at e1
    exact ⟨e0.symm, by omega⟩

/-- The table of the input block: slab `25 q + ch`, row `17 j + i`, pair member `p`, lane `l` is image row `2 i + q`, image
    column `2 j + p`, channel `128 ch + l`. -/
def tab (x0 : Vec F S1x32x16x3200 .bf16) : Vec F S50x136x2x128 .bf16 := fun y =>
  x0 (ix4 (⟨0, by decide⟩ : Fin 1) (⟨(2 * ((y 1).val % 17) + (y 0).val / 25) % 32, Nat.mod_lt _ (by decide)⟩ : Fin 32)
    (⟨(2 * ((y 1).val / 17) + (y 2).val) % 16, Nat.mod_lt _ (by decide)⟩ : Fin 16) (⟨(128 * ((y 0).val % 25) + (y 3).val) % 3200, Nat.mod_lt _ (by decide)⟩ : Fin 3200))

/-- Rows interleaved by pair member. -/
theorem interleave_apply (lo hi : S8x1x128.Idx → Elt F .bf16) (a : Fin 8) (p : Fin 2) (l : Fin 128) :
    interleaveRows S8x2x128 lo hi bitcasts_S8x2x128_w16_S8x1x128_w32 (ix3 a p l) = if p.val = 0 then lo (ix3 a (0 : Fin 1) l) else hi (ix3 a (0 : Fin 1) l) := by
  have hr : S8x2x128.row (ix3 a p l) = p.val := rfl
  unfold interleaveRows
  dsimp only
  rw [hr]
  have hj : ∀ g : S8x1x128.Idx → Elt F .bf16, ∀ j : S8x1x128.Idx, (j 0).val = a.val → (j 2).val = l.val → g j = g (ix3 a (0 : Fin 1) l) := by
    intro g j h0 h2
    congr 1
    rw [eq_ix3 j]
    funext b
    refine Fin.ext ?_
    fin_cases b
    · exact h0
    · have := (j 1).isLt; change (j 1).val < 1 at this; show (j 1).val = 0; omega
    · exact h2
  have hp := p.isLt
  by_cases h : p.val = 0
  · rw [if_pos h, if_pos (by omega)]; exact hj lo _ rfl rfl
  · rw [if_neg h, if_neg (by omega)]; exact hj hi _ rfl rfl

/-- The words of a load of sixteen image columns, as eight rows of pairs. -/
theorem pair_apply (raw : Vec F S1x1x16x128 .bf16) (a : Fin 8) (p : Fin 2) (l : Fin 128) :
    k0_pay3 raw (ix3 a p l) = raw (ix4 (0 : Fin 1) (0 : Fin 1) (⟨2 * a.val + p.val, by omega⟩ : Fin 16) l) := by
  have ea : ∀ g : S1x1x8x128.Idx → Elt F .bf16, shapeCast S8x1x128 (shapeCast S8x128 g shapeCasts_S1x1x8x128_S8x128) shapeCasts_S8x128_S8x1x128 (ix3 a (0 : Fin 1) l) = g (ix4 (0 : Fin 1) (0 : Fin 1) a l) := by
    intro g
    refine (shapeCast_apply _ _ _ (ix2 a l) ?_).trans (shapeCast_apply _ _ _ _ ?_)
    · rw [Shape.rowMajor_val_three, Shape.rowMajor_val_two]
      show a.val * 128 + l.val = (a.val * 1 + 0) * 128 + l.val
      omega
    · rw [Shape.rowMajor_val_four, Shape.rowMajor_val_two]
      show ((0 * 1 + 0) * 8 + a.val) * 128 + l.val = a.val * 128 + l.val
      omega
  show interleaveRows S8x2x128 (shapeCast S8x1x128 (shapeCast S8x128 (rowsOfParity 0 S1x1x8x128 raw bitcasts_S1x1x16x128_w16_S1x1x8x128_w32) shapeCasts_S1x1x8x128_S8x128) shapeCasts_S8x128_S8x1x128)
    (shapeCast S8x1x128 (shapeCast S8x128 (rowsOfParity 1 S1x1x8x128 raw bitcasts_S1x1x16x128_w16_S1x1x8x128_w32) shapeCasts_S1x1x8x128_S8x128) shapeCasts_S8x128_S8x1x128) bitcasts_S8x2x128_w16_S8x1x128_w32 (ix3 a p l) = _
  rw [interleave_apply]
  have hp := p.isLt
  split
  · rename_i h
    refine (ea _).trans ?_
    show raw _ = raw _
    congr 1
    funext b
    refine Fin.ext ?_
    fin_cases b
    · rfl
    · rfl
    · show 2 * a.val + 0 = 2 * a.val + p.val; omega
    · rfl
  · rename_i h
    refine (ea _).trans ?_
    show raw _ = raw _
    congr 1
    funext b
    refine Fin.ext ?_
    fin_cases b
    · rfl
    · rfl
    · show 2 * a.val + 1 = 2 * a.val + p.val; omega
    · rfl

/-- The word scratch holds the table in the slabs of the channel blocks before `k` and, of channel block `k`, in the first
    `n` of its thirty-two row classes. -/
def Has (x0 : Vec F S1x32x16x3200 .bf16) (m : Memref sig .tc .vmem S50x136x2x128 .bf16) (k n : ℕ) (f : BufTy.Contents (Elt F) m.view.ty) : Prop :=
  ∀ y : S50x136x2x128.Idx, (y 1).val % 17 < 16 → ((y 0).val % 25 < k ∨ ((y 0).val % 25 = k ∧ 16 * ((y 0).val / 25) + (y 1).val % 17 < n)) → m.view.read (Elt F) f y = tab x0 y

/-- One strided store extends it by one row class. -/
theorem Has.step {x0 : Vec F S1x32x16x3200 .bf16} {m2 : Memref sig .tc .vmem S1x32x16x3200 .bf16} (h2 : m2.IsWhole) {m : Memref sig .tc .vmem S50x136x2x128 .bf16} {k n : ℕ} (hk : k < 25)
    {f : BufTy.Contents (Elt F) m.view.ty} (hf : Has x0 m k n f) (q i : ℕ) (hq : q < 2) (hi : i < 16) (hn : n = 16 * q + i)
    {off : Fin 4 → ℕ} (inb : ∀ a, off a + S1x136x2x128.size a ≤ S50x136x2x128.size a) (ho : off = ![k + 25 * q, 0, 0, 0])
    (hst : ∀ a, (Rect.unit (s := S50x136x2x128) off S1x136x2x128.size inb).stride a = 1) (inb') (pos)
    {off1 : Fin 4 → ℕ} (inb1 : ∀ a, off1 a + S1x1x16x128.size a ≤ S1x32x16x3200.size a) (ho1 : off1 = ![0, 2 * i + q, 0, 128 * k]) :
    Has x0 m k (n + 1) (View.write (Elt F) (((m.slice (Rect.unit (s := S50x136x2x128) off S1x136x2x128.size inb) hst).squeeze S136x2x128 squeezes_S1x136x2x128_S136x2x128).access ⟨(⟨![i, 0, 0], S8x2x128.size, ![17, 1, 1], inb'⟩ : LoadRect S136x2x128), pos⟩) f
      (k0_pay3 (m2.view.readAt (Elt F) (Rect.unit (s := S1x32x16x3200) off1 S1x1x16x128.size inb1).toLoadRect (h2.unread x0))) Finset.univ) := by
  intro y hr hy
  have h0 : (y 0).val < 50 := (y 0).isLt
  have h1 : (y 1).val < 136 := (y 1).isLt
  have hy2 : (y 2).val < 2 := (y 2).isLt
  have hy3 : (y 3).val < 128 := (y 3).isLt
  rw [slab_write m inb (s := k + 25 * q) (by omega) ho hst (by omega) inb' pos f _ y]
  subst hn
  by_cases h : (y 0).val = k + 25 * q ∧ (y 1).val % 17 = i
  · rw [if_pos h]
    refine (pair_apply _ _ _ _).trans ?_
    rw [View.readAt_apply, h2.read_unread]
    subst ho1
    unfold tab
    congr 1
    funext a
    refine Fin.ext ?_
    obtain ⟨ha, hb⟩ := h
    fin_cases a
    · rfl
    · show 2 * i + q + 1 * 0 = (2 * ((y 1).val % 17) + (y 0).val / 25) % 32; omega
    · show 0 + 1 * (2 * ((y 1).val / 17) + (y 2).val) = (2 * ((y 1).val / 17) + (y 2).val) % 16; omega
    · show 128 * k + 1 * (y 3).val = (128 * ((y 0).val % 25) + (y 3).val) % 3200; omega
  · rw [if_neg h]
    refine hf y hr ?_
    rcases hy with hy | ⟨hy, hy'⟩
    · exact .inl hy
    · refine .inr ⟨hy, ?_⟩
      by_contra hc
      exact h ⟨by omega, by omega⟩

end Cert.LnIdeal.Body

end
-- ==== Proof.LnIdealOff.lean ====
/-
  The closed forms of the offsets that the layer norm kernel's loops compute.
-/
module

public import proofs.«01_k».proof.Proof.Gen.LnIdeal.Frame
public import proofs.«01_k».proof.Proof.Gen.LnIdeal.Loops
public import Idealize.ShloMosaic.Lib.Claim

@[expose] public section

set_option maxRecDepth 16384

noncomputable section

namespace Cert.LnIdeal.Body

open Cert.LnIdeal Cert.LnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The column of lane block `k` of the half `c` of a patch in the wide scratch. -/
def colOf (k c : ℕ) : ℕ := (2 * (k / 25) + c) * 3200 + (k % 25) * 128

theorem k0_off37_eq0 : ∀ k : Fin k0_t4_loop.trips, k0_off37 k 0#32 = ![0, (2 * (k.val / 25) + 0) * 3200 + (k.val % 25) * 128] := by decide +kernel

instance closedOff_off37_0 (k : Fin k0_t4_loop.trips) : ClosedOff (k0_off37 k 0#32) := ⟨_, k0_off37_eq0 k⟩

theorem k0_off37_eq1 : ∀ k : Fin k0_t4_loop.trips, k0_off37 k 1#32 = ![0, (2 * (k.val / 25) + 1) * 3200 + (k.val % 25) * 128] := by decide +kernel

instance closedOff_off37_1 (k : Fin k0_t4_loop.trips) : ClosedOff (k0_off37 k 1#32) := ⟨_, k0_off37_eq1 k⟩

theorem k0_off38_eq0 : ∀ k : Fin k0_t4_loop.trips, k0_off38 k 0#32 = ![0, (2 * (k.val / 25) + 0) * 3200 + (k.val % 25) * 128] := by decide +kernel

instance closedOff_off38_0 (k : Fin k0_t4_loop.trips) : ClosedOff (k0_off38 k 0#32) := ⟨_, k0_off38_eq0 k⟩

theorem k0_off38_eq1 : ∀ k : Fin k0_t4_loop.trips, k0_off38 k 1#32 = ![0, (2 * (k.val / 25) + 1) * 3200 + (k.val % 25) * 128] := by decide +kernel

instance closedOff_off38_1 (k : Fin k0_t4_loop.trips) : ClosedOff (k0_off38 k 1#32) := ⟨_, k0_off38_eq1 k⟩

theorem k0_off39_eq0 : ∀ k : Fin k0_t4_loop.trips, k0_off39 k 0#32 = ![8, (2 * (k.val / 25) + 0) * 3200 + (k.val % 25) * 128] := by decide +kernel

instance closedOff_off39_0 (k : Fin k0_t4_loop.trips) : ClosedOff (k0_off39 k 0#32) := ⟨_, k0_off39_eq0 k⟩

theorem k0_off39_eq1 : ∀ k : Fin k0_t4_loop.trips, k0_off39 k 1#32 = ![8, (2 * (k.val / 25) + 1) * 3200 + (k.val % 25) * 128] := by decide +kernel

instance closedOff_off39_1 (k : Fin k0_t4_loop.trips) : ClosedOff (k0_off39 k 1#32) := ⟨_, k0_off39_eq1 k⟩

theorem k0_off40_eq0 : ∀ k : Fin k0_t4_loop.trips, k0_off40 k 0#32 = ![16, (2 * (k.val / 25) + 0) * 3200 + (k.val % 25) * 128] := by decide +kernel

instance closedOff_off40_0 (k : Fin k0_t4_loop.trips) : ClosedOff (k0_off40 k 0#32) := ⟨_, k0_off40_eq0 k⟩

theorem k0_off40_eq1 : ∀ k : Fin k0_t4_loop.trips, k0_off40 k 1#32 = ![16, (2 * (k.val / 25) + 1) * 3200 + (k.val % 25) * 128] := by decide +kernel

instance closedOff_off40_1 (k : Fin k0_t4_loop.trips) : ClosedOff (k0_off40 k 1#32) := ⟨_, k0_off40_eq1 k⟩

theorem k0_off41_eq0 : ∀ k : Fin k0_t4_loop.trips, k0_off41 k 0#32 = ![24, (2 * (k.val / 25) + 0) * 3200 + (k.val % 25) * 128] := by decide +kernel

instance closedOff_off41_0 (k : Fin k0_t4_loop.trips) : ClosedOff (k0_off41 k 0#32) := ⟨_, k0_off41_eq0 k⟩

theorem k0_off41_eq1 : ∀ k : Fin k0_t4_loop.trips, k0_off41 k 1#32 = ![24, (2 * (k.val / 25) + 1) * 3200 + (k.val % 25) * 128] := by decide +kernel

instance closedOff_off41_1 (k : Fin k0_t4_loop.trips) : ClosedOff (k0_off41 k 1#32) := ⟨_, k0_off41_eq1 k⟩

theorem k0_off42_eq0 : ∀ k : Fin k0_t4_loop.trips, k0_off42 k 0#32 = ![32, (2 * (k.val / 25) + 0) * 3200 + (k.val % 25) * 128] := by decide +kernel

instance closedOff_off42_0 (k : Fin k0_t4_loop.trips) : ClosedOff (k0_off42 k 0#32) := ⟨_, k0_off42_eq0 k⟩

theorem k0_off42_eq1 : ∀ k : Fin k0_t4_loop.trips, k0_off42 k 1#32 = ![32, (2 * (k.val / 25) + 1) * 3200 + (k.val % 25) * 128] := by decide +kernel

instance closedOff_off42_1 (k : Fin k0_t4_loop.trips) : ClosedOff (k0_off42 k 1#32) := ⟨_, k0_off42_eq1 k⟩

theorem k0_off43_eq0 : ∀ k : Fin k0_t4_loop.trips, k0_off43 k 0#32 = ![40, (2 * (k.val / 25) + 0) * 3200 + (k.val % 25) * 128] := by decide +kernel

instance closedOff_off43_0 (k : Fin k0_t4_loop.trips) : ClosedOff (k0_off43 k 0#32) := ⟨_, k0_off43_eq0 k⟩

theorem k0_off43_eq1 : ∀ k : Fin k0_t4_loop.trips, k0_off43 k 1#32 = ![40, (2 * (k.val / 25) + 1) * 3200 + (k.val % 25) * 128] := by decide +kernel

instance closedOff_off43_1 (k : Fin k0_t4_loop.trips) : ClosedOff (k0_off43 k 1#32) := ⟨_, k0_off43_eq1 k⟩

theorem k0_off44_eq0 : ∀ k : Fin k0_t4_loop.trips, k0_off44 k 0#32 = ![48, (2 * (k.val / 25) + 0) * 3200 + (k.val % 25) * 128] := by decide +kernel

instance closedOff_off44_0 (k : Fin k0_t4_loop.trips) : ClosedOff (k0_off44 k 0#32) := ⟨_, k0_off44_eq0 k⟩

theorem k0_off44_eq1 : ∀ k : Fin k0_t4_loop.trips, k0_off44 k 1#32 = ![48, (2 * (k.val / 25) + 1) * 3200 + (k.val % 25) * 128] := by decide +kernel

instance closedOff_off44_1 (k : Fin k0_t4_loop.trips) : ClosedOff (k0_off44 k 1#32) := ⟨_, k0_off44_eq1 k⟩

theorem k0_off45_eq0 : ∀ k : Fin k0_t4_loop.trips, k0_off45 k 0#32 = ![56, (2 * (k.val / 25) + 0) * 3200 + (k.val % 25) * 128] := by decide +kernel

instance closedOff_off45_0 (k : Fin k0_t4_loop.trips) : ClosedOff (k0_off45 k 0#32) := ⟨_, k0_off45_eq0 k⟩

theorem k0_off45_eq1 : ∀ k : Fin k0_t4_loop.trips, k0_off45 k 1#32 = ![56, (2 * (k.val / 25) + 1) * 3200 + (k.val % 25) * 128] := by decide +kernel

instance closedOff_off45_1 (k : Fin k0_t4_loop.trips) : ClosedOff (k0_off45 k 1#32) := ⟨_, k0_off45_eq1 k⟩

theorem k0_off46_eq0 : ∀ k : Fin k0_t4_loop.trips, k0_off46 k 0#32 = ![64, (2 * (k.val / 25) + 0) * 3200 + (k.val % 25) * 128] := by decide +kernel

instance closedOff_off46_0 (k : Fin k0_t4_loop.trips) : ClosedOff (k0_off46 k 0#32) := ⟨_, k0_off46_eq0 k⟩

theorem k0_off46_eq1 : ∀ k : Fin k0_t4_loop.trips, k0_off46 k 1#32 = ![64, (2 * (k.val / 25) + 1) * 3200 + (k.val % 25) * 128] := by decide +kernel

instance closedOff_off46_1 (k : Fin k0_t4_loop.trips) : ClosedOff (k0_off46 k 1#32) := ⟨_, k0_off46_eq1 k⟩

theorem k0_off47_eq0 : ∀ k : Fin k0_t4_loop.trips, k0_off47 k 0#32 = ![72, (2 * (k.val / 25) + 0) * 3200 + (k.val % 25) * 128] := by decide +kernel

instance closedOff_off47_0 (k : Fin k0_t4_loop.trips) : ClosedOff (k0_off47 k 0#32) := ⟨_, k0_off47_eq0 k⟩

theorem k0_off47_eq1 : ∀ k : Fin k0_t4_loop.trips, k0_off47 k 1#32 = ![72, (2 * (k.val / 25) + 1) * 3200 + (k.val % 25) * 128] := by decide +kernel

instance closedOff_off47_1 (k : Fin k0_t4_loop.trips) : ClosedOff (k0_off47 k 1#32) := ⟨_, k0_off47_eq1 k⟩

theorem k0_off48_eq0 : ∀ k : Fin k0_t4_loop.trips, k0_off48 k 0#32 = ![80, (2 * (k.val / 25) + 0) * 3200 + (k.val % 25) * 128] := by decide +kernel

instance closedOff_off48_0 (k : Fin k0_t4_loop.trips) : ClosedOff (k0_off48 k 0#32) := ⟨_, k0_off48_eq0 k⟩

theorem k0_off48_eq1 : ∀ k : Fin k0_t4_loop.trips, k0_off48 k 1#32 = ![80, (2 * (k.val / 25) + 1) * 3200 + (k.val % 25) * 128] := by decide +kernel

instance closedOff_off48_1 (k : Fin k0_t4_loop.trips) : ClosedOff (k0_off48 k 1#32) := ⟨_, k0_off48_eq1 k⟩

theorem k0_off49_eq0 : ∀ k : Fin k0_t4_loop.trips, k0_off49 k 0#32 = ![88, (2 * (k.val / 25) + 0) * 3200 + (k.val % 25) * 128] := by decide +kernel

instance closedOff_off49_0 (k : Fin k0_t4_loop.trips) : ClosedOff (k0_off49 k 0#32) := ⟨_, k0_off49_eq0 k⟩

theorem k0_off49_eq1 : ∀ k : Fin k0_t4_loop.trips, k0_off49 k 1#32 = ![88, (2 * (k.val / 25) + 1) * 3200 + (k.val % 25) * 128] := by decide +kernel

instance closedOff_off49_1 (k : Fin k0_t4_loop.trips) : ClosedOff (k0_off49 k 1#32) := ⟨_, k0_off49_eq1 k⟩

theorem k0_off50_eq0 : ∀ k : Fin k0_t4_loop.trips, k0_off50 k 0#32 = ![96, (2 * (k.val / 25) + 0) * 3200 + (k.val % 25) * 128] := by decide +kernel

instance closedOff_off50_0 (k : Fin k0_t4_loop.trips) : ClosedOff (k0_off50 k 0#32) := ⟨_, k0_off50_eq0 k⟩

theorem k0_off50_eq1 : ∀ k : Fin k0_t4_loop.trips, k0_off50 k 1#32 = ![96, (2 * (k.val / 25) + 1) * 3200 + (k.val % 25) * 128] := by decide +kernel

instance closedOff_off50_1 (k : Fin k0_t4_loop.trips) : ClosedOff (k0_off50 k 1#32) := ⟨_, k0_off50_eq1 k⟩

theorem k0_off51_eq0 : ∀ k : Fin k0_t4_loop.trips, k0_off51 k 0#32 = ![104, (2 * (k.val / 25) + 0) * 3200 + (k.val % 25) * 128] := by decide +kernel

instance closedOff_off51_0 (k : Fin k0_t4_loop.trips) : ClosedOff (k0_off51 k 0#32) := ⟨_, k0_off51_eq0 k⟩

theorem k0_off51_eq1 : ∀ k : Fin k0_t4_loop.trips, k0_off51 k 1#32 = ![104, (2 * (k.val / 25) + 1) * 3200 + (k.val % 25) * 128] := by decide +kernel

instance closedOff_off51_1 (k : Fin k0_t4_loop.trips) : ClosedOff (k0_off51 k 1#32) := ⟨_, k0_off51_eq1 k⟩

theorem k0_off52_eq0 : ∀ k : Fin k0_t4_loop.trips, k0_off52 k 0#32 = ![112, (2 * (k.val / 25) + 0) * 3200 + (k.val % 25) * 128] := by decide +kernel

instance closedOff_off52_0 (k : Fin k0_t4_loop.trips) : ClosedOff (k0_off52 k 0#32) := ⟨_, k0_off52_eq0 k⟩

theorem k0_off52_eq1 : ∀ k : Fin k0_t4_loop.trips, k0_off52 k 1#32 = ![112, (2 * (k.val / 25) + 1) * 3200 + (k.val % 25) * 128] := by decide +kernel

instance closedOff_off52_1 (k : Fin k0_t4_loop.trips) : ClosedOff (k0_off52 k 1#32) := ⟨_, k0_off52_eq1 k⟩

theorem k0_off53_eq0 : ∀ k : Fin k0_t4_loop.trips, k0_off53 k 0#32 = ![120, (2 * (k.val / 25) + 0) * 3200 + (k.val % 25) * 128] := by decide +kernel

instance closedOff_off53_0 (k : Fin k0_t4_loop.trips) : ClosedOff (k0_off53 k 0#32) := ⟨_, k0_off53_eq0 k⟩

theorem k0_off53_eq1 : ∀ k : Fin k0_t4_loop.trips, k0_off53 k 1#32 = ![120, (2 * (k.val / 25) + 1) * 3200 + (k.val % 25) * 128] := by decide +kernel

instance closedOff_off53_1 (k : Fin k0_t4_loop.trips) : ClosedOff (k0_off53 k 1#32) := ⟨_, k0_off53_eq1 k⟩

theorem k0_off34_eq : ∀ k : Fin k0_t2_loop.trips, k0_off34 k = ![k.val, 0, 0, 0] := by decide +kernel

theorem k0_off35_eq : ∀ k : Fin k0_t3_loop.trips, k0_off35 k = ![k.val, 0, 0, 0] := by decide +kernel

theorem k0_off36_eq : ∀ k : Fin k0_t4_loop.trips, k0_off36 k = ![k.val, 0, 0, 0] := by decide +kernel

theorem k0_off2_eq0 : ∀ k : Fin k0_t1_loop.trips, k0_off2 k 0#32 = ![k.val, 0, 0, 0] := by decide +kernel

theorem k0_off2_eq1 : ∀ k : Fin k0_t1_loop.trips, k0_off2 k 25#32 = ![25 + k.val, 0, 0, 0] := by decide +kernel

theorem k0_off1_eq : ∀ k : Fin k0_t1_loop.trips, k0_off1 k = ![0, 0, 0, 128 * k.val] := by decide +kernel

theorem k0_off3_eq : ∀ k : Fin k0_t1_loop.trips, k0_off3 k = ![0, 2, 0, 128 * k.val] := by decide +kernel

theorem k0_off4_eq : ∀ k : Fin k0_t1_loop.trips, k0_off4 k = ![0, 4, 0, 128 * k.val] := by decide +kernel

theorem k0_off5_eq : ∀ k : Fin k0_t1_loop.trips, k0_off5 k = ![0, 6, 0, 128 * k.val] := by decide +kernel

theorem k0_off6_eq : ∀ k : Fin k0_t1_loop.trips, k0_off6 k = ![0, 8, 0, 128 * k.val] := by decide +kernel

theorem k0_off7_eq : ∀ k : Fin k0_t1_loop.trips, k0_off7 k = ![0, 10, 0, 128 * k.val] := by decide +kernel

theorem k0_off8_eq : ∀ k : Fin k0_t1_loop.trips, k0_off8 k = ![0, 12, 0, 128 * k.val] := by decide +kernel

theorem k0_off9_eq : ∀ k : Fin k0_t1_loop.trips, k0_off9 k = ![0, 14, 0, 128 * k.val] := by decide +kernel

theorem k0_off10_eq : ∀ k : Fin k0_t1_loop.trips, k0_off10 k = ![0, 16, 0, 128 * k.val] := by decide +kernel

theorem k0_off11_eq : ∀ k : Fin k0_t1_loop.trips, k0_off11 k = ![0, 18, 0, 128 * k.val] := by decide +kernel

theorem k0_off12_eq : ∀ k : Fin k0_t1_loop.trips, k0_off12 k = ![0, 20, 0, 128 * k.val] := by decide +kernel

theorem k0_off13_eq : ∀ k : Fin k0_t1_loop.trips, k0_off13 k = ![0, 22, 0, 128 * k.val] := by decide +kernel

theorem k0_off14_eq : ∀ k : Fin k0_t1_loop.trips, k0_off14 k = ![0, 24, 0, 128 * k.val] := by decide +kernel

theorem k0_off15_eq : ∀ k : Fin k0_t1_loop.trips, k0_off15 k = ![0, 26, 0, 128 * k.val] := by decide +kernel

theorem k0_off16_eq : ∀ k : Fin k0_t1_loop.trips, k0_off16 k = ![0, 28, 0, 128 * k.val] := by decide +kernel

theorem k0_off17_eq : ∀ k : Fin k0_t1_loop.trips, k0_off17 k = ![0, 30, 0, 128 * k.val] := by decide +kernel

theorem k0_off18_eq : ∀ k : Fin k0_t1_loop.trips, k0_off18 k = ![0, 1, 0, 128 * k.val] := by decide +kernel

theorem k0_off19_eq : ∀ k : Fin k0_t1_loop.trips, k0_off19 k = ![0, 3, 0, 128 * k.val] := by decide +kernel

theorem k0_off20_eq : ∀ k : Fin k0_t1_loop.trips, k0_off20 k = ![0, 5, 0, 128 * k.val] := by decide +kernel

theorem k0_off21_eq : ∀ k : Fin k0_t1_loop.trips, k0_off21 k = ![0, 7, 0, 128 * k.val] := by decide +kernel

theorem k0_off22_eq : ∀ k : Fin k0_t1_loop.trips, k0_off22 k = ![0, 9, 0, 128 * k.val] := by decide +kernel

theorem k0_off23_eq : ∀ k : Fin k0_t1_loop.trips, k0_off23 k = ![0, 11, 0, 128 * k.val] := by decide +kernel

theorem k0_off24_eq : ∀ k : Fin k0_t1_loop.trips, k0_off24 k = ![0, 13, 0, 128 * k.val] := by decide +kernel

theorem k0_off25_eq : ∀ k : Fin k0_t1_loop.trips, k0_off25 k = ![0, 15, 0, 128 * k.val] := by decide +kernel

theorem k0_off26_eq : ∀ k : Fin k0_t1_loop.trips, k0_off26 k = ![0, 17, 0, 128 * k.val] := by decide +kernel

theorem k0_off27_eq : ∀ k : Fin k0_t1_loop.trips, k0_off27 k = ![0, 19, 0, 128 * k.val] := by decide +kernel

theorem k0_off28_eq : ∀ k : Fin k0_t1_loop.trips, k0_off28 k = ![0, 21, 0, 128 * k.val] := by decide +kernel

theorem k0_off29_eq : ∀ k : Fin k0_t1_loop.trips, k0_off29 k = ![0, 23, 0, 128 * k.val] := by decide +kernel

theorem k0_off30_eq : ∀ k : Fin k0_t1_loop.trips, k0_off30 k = ![0, 25, 0, 128 * k.val] := by decide +kernel

theorem k0_off31_eq : ∀ k : Fin k0_t1_loop.trips, k0_off31 k = ![0, 27, 0, 128 * k.val] := by decide +kernel

theorem k0_off32_eq : ∀ k : Fin k0_t1_loop.trips, k0_off32 k = ![0, 29, 0, 128 * k.val] := by decide +kernel

theorem k0_off33_eq : ∀ k : Fin k0_t1_loop.trips, k0_off33 k = ![0, 31, 0, 128 * k.val] := by decide +kernel

end Cert.LnIdeal.Body

end
-- ==== Proof.LnIdealSpec.lean ====
/-
  What one grid point of the layer norm kernel computes, from the point's block of patches, the weights and the offsets:
  the sums, the means, the sums of squared deviations, the scaled deviations, the row maxima, the scales and the codes,
  each by the kernel's own vector operations, the counted loops as recursions.
-/
module

public import proofs.«01_k».proof.Proof.LnIdealSlab
public import proofs.«01_k».proof.Proof.LnIdealOff
public import Idealize.ShloMosaic.Lib.Claim
public import Idealize.ShloMosaic.Lib.Pipeline.ValueKit
public import Idealize.ShloMosaic.Lib.ValueLayout
public import Idealize.ShloMosaic.Lib.WritesUnit
public import Idealize.ShloMosaic.Lib.Pointwise

@[expose] public section

set_option maxRecDepth 16384

noncomputable section

namespace Cert.LnIdeal.Body

open Cert.LnIdeal Cert.LnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The first table row of accumulator `n`. -/
def rowOf (n : ℕ) : ℕ := 17 * (n / 2) + 8 * (n % 2)

/-- The eight rows of slab `k` that accumulator `n` takes. -/
def raw (x0 : Vec F S1x32x16x3200 .bf16) (k n : ℕ) : Vec F S8x2x128 .bf16 := fun z =>
  tab x0 (ix4 (⟨k % 50, Nat.mod_lt _ (by decide)⟩ : Fin 50) (⟨(rowOf n + (z 0).val) % 136, Nat.mod_lt _ (by decide)⟩ : Fin 136) (z 1 : Fin 2) (z 2 : Fin 128))

/-- The first members of the pairs, and the second. -/
def half (x0 : Vec F S1x32x16x3200 .bf16) (k n : ℕ) : ℕ → FVec F S8x128 .bf16
  | 0 => k0_pay57 (raw x0 k n)
  | _ + 1 => k0_pay58 (raw x0 k n)

/-- The sums of the first `k` slabs. -/
def S1 (x0 : Vec F S1x32x16x3200 .bf16) (n : ℕ) : ℕ → FVec F S8x128 .f32
  | 0 => k0_pay287
  | k + 1 => k0_pay289 (S1 x0 n k) (half x0 k n 0) (half x0 k n 1)

/-- The sums of the squared deviations from `M`. -/
def S2 (x0 : Vec F S1x32x16x3200 .bf16) (M : FVec F S8x128 .f32) (n : ℕ) : ℕ → FVec F S8x128 .f32
  | 0 => k0_pay287
  | k + 1 => k0_pay134 M (S2 x0 M n k) (half x0 k n 0) (half x0 k n 1)

/-- The lanes of a weight row that go with the half `c` of slab `k`. -/
def lanes1 (x : Vec F S1x12800 .f32) (k c : ℕ) : Vec F S1x128 .f32 := fun z =>
  x (ix2 (⟨0, by decide⟩ : Fin 1) (⟨(colOf k c + (z 1).val) % 12800, Nat.mod_lt _ (by decide)⟩ : Fin 12800))

/-- The normalised values of the half `c` of slab `k`, rows of accumulator `n`. -/
def lnv (x0 : Vec F S1x32x16x3200 .bf16) (x1 x2 : Vec F S1x12800 .f32) (M R : FVec F S8x128 .f32) (n k c : ℕ) : FVec F S8x128 .f32 :=
  k0_pay183 M R (half x0 k n c) (lanes1 x1 k c) (lanes1 x2 k c)

/-- The running maxima of their magnitudes. -/
def S3 (x0 : Vec F S1x32x16x3200 .bf16) (x1 x2 : Vec F S1x12800 .f32) (M R : FVec F S8x128 .f32) (n : ℕ) : ℕ → FVec F S8x128 .f32
  | 0 => k0_pay287
  | k + 1 => maximumf (maximumf (S3 x0 x1 x2 M R n k) (absf (lnv x0 x1 x2 M R n k 0))) (absf (lnv x0 x1 x2 M R n k 1))

theorem rowOf_class (n a : ℕ) (ha : a < 8) : (rowOf n + a) % 17 < 16 := by
  have e : rowOf n + a = 17 * (n / 2) + (8 * (n % 2) + a) := by unfold rowOf; omega
  have h : n % 2 < 2 := Nat.mod_lt _ (by decide)
  rw [e, Nat.mul_add_mod, Nat.mod_eq_of_lt (by omega)]
  omega

/-- A load of eight rows of slab `k` of a scratch that holds the table. -/
theorem load_raw {x0 : Vec F S1x32x16x3200 .bf16} {m : Memref sig .tc .vmem S50x136x2x128 .bf16} {f : BufTy.Contents (Elt F) m.view.ty} (hf : Has x0 m 25 0 f)
    {k n : ℕ} (hk : k < 50) (hn : n < 16) {off : Fin 4 → ℕ} (inb : ∀ a, off a + S1x136x2x128.size a ≤ S50x136x2x128.size a) (ho : off = ![k, 0, 0, 0])
    (hst : ∀ a, (Rect.unit (s := S50x136x2x128) off S1x136x2x128.size inb).stride a = 1) {o : ℕ} (inb' : ∀ a, (![o, 0, 0] : Fin 3 → ℕ) a + S8x2x128.size a ≤ S136x2x128.size a) (hb : o = rowOf n) :
    ((m.slice (Rect.unit (s := S50x136x2x128) off S1x136x2x128.size inb) hst).squeeze S136x2x128 squeezes_S1x136x2x128_S136x2x128).view.readAt (Elt F) (Rect.unit (s := S136x2x128) ![o, 0, 0] S8x2x128.size inb').toLoadRect f
      = raw x0 k n := by
  funext z
  have hz : (z 0).val < 8 := (z 0).isLt
  have hr : rowOf n + 8 ≤ 136 := by unfold rowOf; omega
  refine (slab_load m inb hk ho hst inb' (by omega) f z).trans ?_
  refine (hf _ ?_ (.inl ?_)).trans ?_
  · subst hb
    exact rowOf_class n _ hz
  · show k % 25 < 25
    omega
  · unfold raw
    congr 1
    funext a
    refine Fin.ext ?_
    fin_cases a
    · show k = k % 50; omega
    · show o + (z 0).val = (rowOf n + (z 0).val) % 136; omega
    · rfl
    · rfl

theorem sum_step {x0 : Vec F S1x32x16x3200 .bf16} {k n : ℕ} {L : Vec F S8x2x128 .bf16} (h : L = raw x0 k n) :
    k0_pay289 (S1 x0 n k) (k0_pay57 L) (k0_pay58 L) = S1 x0 n (k + 1) := by rw [h]; rfl

theorem sq_step {x0 : Vec F S1x32x16x3200 .bf16} {M : FVec F S8x128 .f32} {k n : ℕ} {L : Vec F S8x2x128 .bf16} (h : L = raw x0 k n) :
    k0_pay134 M (S2 x0 M n k) (k0_pay57 L) (k0_pay58 L) = S2 x0 M n (k + 1) := by rw [h]; rfl

/-- Nothing is asked of the scratch before the first channel block. -/
theorem Has.zero {x0 : Vec F S1x32x16x3200 .bf16} {m : Memref sig .tc .vmem S50x136x2x128 .bf16} {f : BufTy.Contents (Elt F) m.view.ty} : Has x0 m 0 0 f :=
  fun y _ h => by rcases h with h | ⟨_, h⟩ <;> exact absurd h (Nat.not_lt_zero _)

theorem Has.next {x0 : Vec F S1x32x16x3200 .bf16} {m : Memref sig .tc .vmem S50x136x2x128 .bf16} {k : ℕ} {f : BufTy.Contents (Elt F) m.view.ty} (h : Has x0 m k 32 f) : Has x0 m (k + 1) 0 f :=
  fun y hr hy => h y hr (by have := (y 0).isLt; change (y 0).val < 50 at this; rcases hy with hy | ⟨_, hy⟩ <;> omega)

/-- The member of a list of sixteen. -/
def fam (l : List (FVec F S8x128 .f32)) (n : ℕ) : FVec F S8x128 .f32 := l.getD n k0_pay287

/-- The normalised rows as the wide scratch holds them. -/
def wide (x0 : Vec F S1x32x16x3200 .bf16) (x1 x2 : Vec F S1x12800 .f32) (Ms Rs : ℕ → FVec F S8x128 .f32) : Vec F S128x12800 .f32 := fun y =>
  lnv x0 x1 x2 (Ms ((y 0).val / 8)) (Rs ((y 0).val / 8)) ((y 0).val / 8) (25 * ((y 1).val / 6400) + (y 1).val / 128 % 25) ((y 1).val / 3200 % 2)
    (ix2 (⟨(y 0).val % 8, Nat.mod_lt _ (by decide)⟩ : Fin 8) (⟨(y 1).val % 128, Nat.mod_lt _ (by decide)⟩ : Fin 128))

/-- The wide scratch holds the columns of the first `k` slabs. -/
def Has8 (x0 : Vec F S1x32x16x3200 .bf16) (x1 x2 : Vec F S1x12800 .f32) (Ms Rs : ℕ → FVec F S8x128 .f32) (m : Memref sig .tc .vmem S128x12800 .f32) (k : ℕ) (f : BufTy.Contents (Elt F) m.view.ty) : Prop :=
  ∀ y : S128x12800.Idx, 25 * ((y 1).val / 6400) + (y 1).val / 128 % 25 < k → m.view.read (Elt F) f y = wide x0 x1 x2 Ms Rs y

/-- The wide scratch holds the columns of the first `k` slabs and the first `j` row blocks of slab `k`. -/
def Has8' (x0 : Vec F S1x32x16x3200 .bf16) (x1 x2 : Vec F S1x12800 .f32) (Ms Rs : ℕ → FVec F S8x128 .f32) (m : Memref sig .tc .vmem S128x12800 .f32) (k j : ℕ) (f : BufTy.Contents (Elt F) m.view.ty) : Prop :=
  ∀ y : S128x12800.Idx, (25 * ((y 1).val / 6400) + (y 1).val / 128 % 25 < k ∨ (25 * ((y 1).val / 6400) + (y 1).val / 128 % 25 = k ∧ 16 * ((y 1).val / 3200 % 2) + (y 0).val / 8 < j)) → m.view.read (Elt F) f y = wide x0 x1 x2 Ms Rs y

variable {x0 : Vec F S1x32x16x3200 .bf16} {x1 x2 : Vec F S1x12800 .f32} {Ms Rs : ℕ → FVec F S8x128 .f32}

theorem Has8.zero {m : Memref sig .tc .vmem S128x12800 .f32} {f : BufTy.Contents (Elt F) m.view.ty} : Has8 x0 x1 x2 Ms Rs m 0 f := fun _ h => absurd h (Nat.not_lt_zero _)

theorem Has8.start {m : Memref sig .tc .vmem S128x12800 .f32} {k : ℕ} {f : BufTy.Contents (Elt F) m.view.ty} (h : Has8 x0 x1 x2 Ms Rs m k f) : Has8' x0 x1 x2 Ms Rs m k 0 (m.view.writes (Elt F) f []) := fun y hy => h y (by omega)

theorem Has8'.next {m : Memref sig .tc .vmem S128x12800 .f32} {k : ℕ} {f : BufTy.Contents (Elt F) m.view.ty} (h : Has8' x0 x1 x2 Ms Rs m k 32 f) : Has8 x0 x1 x2 Ms Rs m (k + 1) f := fun y hy => h y (by
  have : (y 0).val < 128 := (y 0).isLt
  omega)

/-- One store of a row block extends it. -/
theorem Has8'.step {m : Memref sig .tc .vmem S128x12800 .f32} {k j : ℕ} (hk : k < 50) {f : BufTy.Contents (Elt F) m.view.ty} {L : List (View.Piece (Elt F) S128x12800 .f32)}
    (hf : Has8' x0 x1 x2 Ms Rs m k j (m.view.writes (Elt F) f L)) (n c : ℕ) (hn : n < 16) (hc : c < 2) (hj : j = 16 * c + n)
    {off : Fin 2 → ℕ} (inb : ∀ a, off a + S8x128.size a ≤ S128x12800.size a) (ho : off = ![8 * n, (2 * (k / 25) + c) * 3200 + (k % 25) * 128])
    {w : FVec F S8x128 .f32} (hw : w = lnv x0 x1 x2 (Ms n) (Rs n) n k c) :
    Has8' x0 x1 x2 Ms Rs m k (j + 1) (m.view.writes (Elt F) f ((⟨Rect.unit (s := S128x12800) off S8x128.size inb, w⟩ : View.Piece (Elt F) S128x12800 .f32) :: L)) := by
  intro y hy
  have h0 : (y 0).val < 128 := (y 0).isLt
  have h1 : (y 1).val < 12800 := (y 1).isLt
  by_cases h : (y 0).val / 8 = n ∧ (y 1).val / 128 = (2 * (k / 25) + c) * 25 + k % 25
  · obtain ⟨ha, hb⟩ := h
    refine (View.read_writes_cons_unit_of_mem _ _ _ _ _ y (ix2 (⟨(y 0).val % 8, Nat.mod_lt _ (by decide)⟩ : Fin 8) (⟨(y 1).val % 128, Nat.mod_lt _ (by decide)⟩ : Fin 128)) ho fun a => ?_).trans ?_
    · fin_cases a
      · show (y 0).val = 8 * n + (y 0).val % 8; omega
      · show (y 1).val = ((2 * (k / 25) + c) * 3200 + (k % 25) * 128) + (y 1).val % 128; omega
    · have e1 : 25 * ((y 1).val / 6400) + (y 1).val / 128 % 25 = k := by omega
      have e2 : (y 1).val / 3200 % 2 = c := by omega
      rw [hw]; unfold wide
      rw [ha, e1, e2]
  · have hlt : (y 1).val / 128 < 100 := by omega
    by_cases ha : (y 0).val / 8 = n
    · have hb : ¬ (y 1).val / 128 = (2 * (k / 25) + c) * 25 + k % 25 := fun e => h ⟨ha, e⟩
      refine (View.read_writes_cons_unit_of_not_mem _ _ _ _ _ y ho 1 ?_).trans (hf y ?_)
      · show (y 1).val < ((2 * (k / 25) + c) * 3200 + (k % 25) * 128) ∨ ((2 * (k / 25) + c) * 3200 + (k % 25) * 128) + 128 ≤ (y 1).val
        omega
      · omega
    · refine (View.read_writes_cons_unit_of_not_mem _ _ _ _ _ y ho 0 ?_).trans (hf y ?_)
      · show (y 0).val < 8 * n ∨ 8 * n + 8 ≤ (y 0).val
        omega
      · omega

/-- A load of the lanes of a weight row. -/
theorem load_lanes {m : Memref sig .tc .vmem S1x12800 .f32} (h : m.IsWhole) {x : Vec F S1x12800 .f32} {k c : ℕ} (hk : k < 50) (hc : c < 2) {off : Fin 2 → ℕ}
    (inb : ∀ a, off a + S1x128.size a ≤ S1x12800.size a) (ho : off = ![0, (2 * (k / 25) + c) * 3200 + (k % 25) * 128]) :
    m.view.readAt (Elt F) (Rect.unit (s := S1x12800) off S1x128.size inb).toLoadRect (h.unread x) = lanes1 x k c := by
  funext z
  rw [View.readAt_apply, h.read_unread]
  subst ho
  have h1 : (z 1).val < 128 := (z 1).isLt
  have h0 : (z 0).val < 1 := (z 0).isLt
  unfold lanes1 colOf
  congr 1
  funext a
  refine Fin.ext ?_
  fin_cases a
  · show 0 + 1 * (z 0).val = 0; omega
  · show ((2 * (k / 25) + c) * 3200 + (k % 25) * 128) + 1 * (z 1).val = (((2 * (k / 25) + c) * 3200 + (k % 25) * 128) + (z 1).val) % 12800; omega

theorem max_step {M R : FVec F S8x128 .f32} {k n : ℕ} {L : Vec F S8x2x128 .bf16} (h : L = raw x0 k n) {G0 B0 G1 B1 : Vec F S1x128 .f32}
    (g0 : G0 = lanes1 x1 k 0) (b0 : B0 = lanes1 x2 k 0) (g1 : G1 = lanes1 x1 k 1) (b1 : B1 = lanes1 x2 k 1) :
    maximumf (maximumf (S3 x0 x1 x2 M R n k) (absf (k0_pay183 M R (k0_pay57 L) G0 B0))) (absf (k0_pay183 M R (k0_pay58 L) G1 B1)) = S3 x0 x1 x2 M R n (k + 1) := by
  subst h g0 b0 g1 b1; rfl

theorem lnv_lo {M R : FVec F S8x128 .f32} {k n : ℕ} {L : Vec F S8x2x128 .bf16} (h : L = raw x0 k n) {G0 B0 : Vec F S1x128 .f32}
    (g0 : G0 = lanes1 x1 k 0) (b0 : B0 = lanes1 x2 k 0) : shapeCast S8x128 (k0_pay183 M R (k0_pay57 L) G0 B0) shapeCasts_S8x128_S8x128 = lnv x0 x1 x2 M R n k 0 := by
  subst h g0 b0; exact shapeCast_self _ _

theorem lnv_hi {M R : FVec F S8x128 .f32} {k n : ℕ} {L : Vec F S8x2x128 .bf16} (h : L = raw x0 k n) {G0 B0 : Vec F S1x128 .f32}
    (g0 : G0 = lanes1 x1 k 1) (b0 : B0 = lanes1 x2 k 1) : shapeCast S8x128 (k0_pay183 M R (k0_pay58 L) G0 B0) shapeCasts_S8x128_S8x128 = lnv x0 x1 x2 M R n k 1 := by
  subst h g0 b0; exact shapeCast_self _ _

/-- The columns of the first `k` slabs as a scratch holds them, the rest as they ought to be. -/
def patch (x0 : Vec F S1x32x16x3200 .bf16) (x1 x2 : Vec F S1x12800 .f32) (Ms Rs : ℕ → FVec F S8x128 .f32) (m : Memref sig .tc .vmem S128x12800 .f32) (f : BufTy.Contents (Elt F) m.view.ty) : ℕ → Vec F S128x12800 .f32
  | 0 => wide x0 x1 x2 Ms Rs
  | k + 1 => fun y => if 25 * ((y 1).val / 6400) + (y 1).val / 128 % 25 < k + 1 then m.view.read (Elt F) f y else wide x0 x1 x2 Ms Rs y

theorem has8_of_patch {m : Memref sig .tc .vmem S128x12800 .f32} {k : ℕ} {f : BufTy.Contents (Elt F) m.view.ty} (h : patch x0 x1 x2 Ms Rs m f k = wide x0 x1 x2 Ms Rs) : Has8 x0 x1 x2 Ms Rs m k f := by
  cases k with
  | zero => exact Has8.zero
  | succ k =>
    intro y hy
    have e := congrFun h y
    simp only [patch] at e
    rwa [if_pos hy] at e

theorem patch_of_has8 {m : Memref sig .tc .vmem S128x12800 .f32} {k : ℕ} {f : BufTy.Contents (Elt F) m.view.ty} (h : Has8 x0 x1 x2 Ms Rs m k f) : patch x0 x1 x2 Ms Rs m f k = wide x0 x1 x2 Ms Rs := by
  cases k with
  | zero => rfl
  | succ k =>
    funext y
    simp only [patch]
    by_cases hy : 25 * ((y 1).val / 6400) + (y 1).val / 128 % 25 < k + 1
    · rw [if_pos hy]; exact h y hy
    · rw [if_neg hy]

end Cert.LnIdeal.Body

end
-- ==== Proof.LnIdealVal1.lean ====
/-
  The counted loops of the layer norm kernel by invariants that say what they have computed: the scratch table after the
  channel blocks done, the sums after the slabs done.
-/
module

public import proofs.«01_k».proof.Proof.Gen.LnIdeal.Frame
public import proofs.«01_k».proof.Proof.Gen.LnIdeal.Loops
public import proofs.«01_k».proof.Proof.LnIdealSpec
public import Idealize.ShloMosaic.Lib.Claim
public import Idealize.ShloMosaic.Lib.Claim
public import Idealize.ShloMosaic.Lib.Pipeline.ValueKit
public import Idealize.ShloMosaic.Lib.ValueLayout
public import Idealize.ShloMosaic.Lib.WritesUnit
public import Idealize.ShloMosaic.Lib.Pointwise

@[expose] public section

set_option maxRecDepth 16384

noncomputable section

namespace Cert.LnIdeal.Body

open Cert.LnIdeal Cert.LnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option warn.classDefReducibility false in
set_option maxHeartbeats 8000000 in
@[sl_loop] def lv1 (𝒱 : Variants) (c : Dev nD) (bd : Option 𝒱.V) (E : Set ℕ) (i : grid0.Coords) (arg2 : Memref sig .tc .vmem S1x32x16x3200 .bf16) (harg2 : arg2.IsWhole) (arg3 : Memref sig .tc .vmem S1x12800 .f32) (harg3 : arg3.IsWhole) (arg4 : Memref sig .tc .vmem S1x12800 .f32) (harg4 : arg4.IsWhole) (arg5 : Memref sig .tc .vmem S1x128x12800 .fp8e4m3) (harg5 : arg5.IsWhole) (arg6 : Memref sig .tc .vmem S1x128x128 .f32) (harg6 : arg6.IsWhole) (arg7 : Memref sig .tc .vmem S50x136x2x128 .bf16) (harg7 : arg7.IsWhole) (arg8 : Memref sig .tc .vmem S128x12800 .f32) (harg8 : arg8.IsWhole) (x0 : Vec F S1x32x16x3200 .bf16) :
    LoopInvTy_k0_t1 (F := F) Unit ℕ (UR sig nD τ) ℕ 𝒱 c bd E i arg2 harg2 arg3 harg3 arg4 harg4 arg5 harg5 arg6 harg6 arg7 harg7 arg8 harg8 where
  inv k acc := iprop((arg2.view.loc (c : Thread nD τ) ↦[arg2.view.set]{fullShare} harg2.unread x0) ∗ (∃ f, (arg7.view.loc (c : Thread nD τ) ↦[Finset.univ]{fullShare} f) ∗ ⌜Has x0 arg7 k 0 f⌝))
  step k acc := by
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    iintro ⟨H2, ⟨%f, H7, %hf⟩⟩
    sl_exec
    sl_step
    isplitl [H2]; · iexact H2
    iexists _; isplitl [H7]; · iexact H7
    ipureintro
    have hk : k.val < 25 := k.isLt
    refine Has.next ?_
    refine Has.step harg2 hk ?_ 1 15 (by decide) (by decide) rfl _ ((k0_off2_eq1 k).trans (by rw [Nat.add_comm])) (fun _ => rfl) _ _ _ (k0_off33_eq k)
    refine Has.step harg2 hk ?_ 1 14 (by decide) (by decide) rfl _ ((k0_off2_eq1 k).trans (by rw [Nat.add_comm])) (fun _ => rfl) _ _ _ (k0_off32_eq k)
    refine Has.step harg2 hk ?_ 1 13 (by decide) (by decide) rfl _ ((k0_off2_eq1 k).trans (by rw [Nat.add_comm])) (fun _ => rfl) _ _ _ (k0_off31_eq k)
    refine Has.step harg2 hk ?_ 1 12 (by decide) (by decide) rfl _ ((k0_off2_eq1 k).trans (by rw [Nat.add_comm])) (fun _ => rfl) _ _ _ (k0_off30_eq k)
    refine Has.step harg2 hk ?_ 1 11 (by decide) (by decide) rfl _ ((k0_off2_eq1 k).trans (by rw [Nat.add_comm])) (fun _ => rfl) _ _ _ (k0_off29_eq k)
    refine Has.step harg2 hk ?_ 1 10 (by decide) (by decide) rfl _ ((k0_off2_eq1 k).trans (by rw [Nat.add_comm])) (fun _ => rfl) _ _ _ (k0_off28_eq k)
    refine Has.step harg2 hk ?_ 1 9 (by decide) (by decide) rfl _ ((k0_off2_eq1 k).trans (by rw [Nat.add_comm])) (fun _ => rfl) _ _ _ (k0_off27_eq k)
    refine Has.step harg2 hk ?_ 1 8 (by decide) (by decide) rfl _ ((k0_off2_eq1 k).trans (by rw [Nat.add_comm])) (fun _ => rfl) _ _ _ (k0_off26_eq k)
    refine Has.step harg2 hk ?_ 1 7 (by decide) (by decide) rfl _ ((k0_off2_eq1 k).trans (by rw [Nat.add_comm])) (fun _ => rfl) _ _ _ (k0_off25_eq k)
    refine Has.step harg2 hk ?_ 1 6 (by decide) (by decide) rfl _ ((k0_off2_eq1 k).trans (by rw [Nat.add_comm])) (fun _ => rfl) _ _ _ (k0_off24_eq k)
    refine Has.step harg2 hk ?_ 1 5 (by decide) (by decide) rfl _ ((k0_off2_eq1 k).trans (by rw [Nat.add_comm])) (fun _ => rfl) _ _ _ (k0_off23_eq k)
    refine Has.step harg2 hk ?_ 1 4 (by decide) (by decide) rfl _ ((k0_off2_eq1 k).trans (by rw [Nat.add_comm])) (fun _ => rfl) _ _ _ (k0_off22_eq k)
    refine Has.step harg2 hk ?_ 1 3 (by decide) (by decide) rfl _ ((k0_off2_eq1 k).trans (by rw [Nat.add_comm])) (fun _ => rfl) _ _ _ (k0_off21_eq k)
    refine Has.step harg2 hk ?_ 1 2 (by decide) (by decide) rfl _ ((k0_off2_eq1 k).trans (by rw [Nat.add_comm])) (fun _ => rfl) _ _ _ (k0_off20_eq k)
    refine Has.step harg2 hk ?_ 1 1 (by decide) (by decide) rfl _ ((k0_off2_eq1 k).trans (by rw [Nat.add_comm])) (fun _ => rfl) _ _ _ (k0_off19_eq k)
    refine Has.step harg2 hk ?_ 1 0 (by decide) (by decide) rfl _ ((k0_off2_eq1 k).trans (by rw [Nat.add_comm])) (fun _ => rfl) _ _ _ (k0_off18_eq k)
    refine Has.step harg2 hk ?_ 0 15 (by decide) (by decide) rfl _ (k0_off2_eq0 k) (fun _ => rfl) _ _ _ (k0_off17_eq k)
    refine Has.step harg2 hk ?_ 0 14 (by decide) (by decide) rfl _ (k0_off2_eq0 k) (fun _ => rfl) _ _ _ (k0_off16_eq k)
    refine Has.step harg2 hk ?_ 0 13 (by decide) (by decide) rfl _ (k0_off2_eq0 k) (fun _ => rfl) _ _ _ (k0_off15_eq k)
    refine Has.step harg2 hk ?_ 0 12 (by decide) (by decide) rfl _ (k0_off2_eq0 k) (fun _ => rfl) _ _ _ (k0_off14_eq k)
    refine Has.step harg2 hk ?_ 0 11 (by decide) (by decide) rfl _ (k0_off2_eq0 k) (fun _ => rfl) _ _ _ (k0_off13_eq k)
    refine Has.step harg2 hk ?_ 0 10 (by decide) (by decide) rfl _ (k0_off2_eq0 k) (fun _ => rfl) _ _ _ (k0_off12_eq k)
    refine Has.step harg2 hk ?_ 0 9 (by decide) (by decide) rfl _ (k0_off2_eq0 k) (fun _ => rfl) _ _ _ (k0_off11_eq k)
    refine Has.step harg2 hk ?_ 0 8 (by decide) (by decide) rfl _ (k0_off2_eq0 k) (fun _ => rfl) _ _ _ (k0_off10_eq k)
    refine Has.step harg2 hk ?_ 0 7 (by decide) (by decide) rfl _ (k0_off2_eq0 k) (fun _ => rfl) _ _ _ (k0_off9_eq k)
    refine Has.step harg2 hk ?_ 0 6 (by decide) (by decide) rfl _ (k0_off2_eq0 k) (fun _ => rfl) _ _ _ (k0_off8_eq k)
    refine Has.step harg2 hk ?_ 0 5 (by decide) (by decide) rfl _ (k0_off2_eq0 k) (fun _ => rfl) _ _ _ (k0_off7_eq k)
    refine Has.step harg2 hk ?_ 0 4 (by decide) (by decide) rfl _ (k0_off2_eq0 k) (fun _ => rfl) _ _ _ (k0_off6_eq k)
    refine Has.step harg2 hk ?_ 0 3 (by decide) (by decide) rfl _ (k0_off2_eq0 k) (fun _ => rfl) _ _ _ (k0_off5_eq k)
    refine Has.step harg2 hk ?_ 0 2 (by decide) (by decide) rfl _ (k0_off2_eq0 k) (fun _ => rfl) _ _ _ (k0_off4_eq k)
    refine Has.step harg2 hk ?_ 0 1 (by decide) (by decide) rfl _ (k0_off2_eq0 k) (fun _ => rfl) _ _ _ (k0_off3_eq k)
    refine Has.step harg2 hk ?_ 0 0 (by decide) (by decide) rfl _ (k0_off2_eq0 k) (fun _ => rfl) _ _ _ (k0_off1_eq k)
    exact hf

end Cert.LnIdeal.Body

end
-- ==== Proof.LnIdealVal2.lean ====
/-
  The counted loops of the layer norm kernel by invariants that say what they have computed: the scratch table after the
  channel blocks done, the sums after the slabs done.
-/
module

public import proofs.«01_k».proof.Proof.Gen.LnIdeal.Frame
public import proofs.«01_k».proof.Proof.Gen.LnIdeal.Loops
public import proofs.«01_k».proof.Proof.LnIdealSpec
public import Idealize.ShloMosaic.Lib.Claim
public import Idealize.ShloMosaic.Lib.Claim
public import Idealize.ShloMosaic.Lib.Pipeline.ValueKit
public import Idealize.ShloMosaic.Lib.ValueLayout
public import Idealize.ShloMosaic.Lib.WritesUnit
public import Idealize.ShloMosaic.Lib.Pointwise

@[expose] public section

set_option maxRecDepth 16384

noncomputable section

namespace Cert.LnIdeal.Body

open Cert.LnIdeal Cert.LnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A tuple of sixteen by its members. -/
theorem tup16 {α : Type} {a0 a1 a2 a3 a4 a5 a6 a7 a8 a9 a10 a11 a12 a13 a14 a15 b0 b1 b2 b3 b4 b5 b6 b7 b8 b9 b10 b11 b12 b13 b14 b15 : α} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    (a0, a1, a2, a3, a4, a5, a6, a7, a8, a9, a10, a11, a12, a13, a14, a15) = (b0, b1, b2, b3, b4, b5, b6, b7, b8, b9, b10, b11, b12, b13, b14, b15) := by
  subst h0 h1 h2 h3 h4 h5 h6 h7 h8 h9 h10 h11 h12 h13 h14 h15; rfl

set_option warn.classDefReducibility false in
set_option maxHeartbeats 8000000 in
@[sl_loop] def lv2 (𝒱 : Variants) (c : Dev nD) (bd : Option 𝒱.V) (E : Set ℕ) (i : grid0.Coords) (arg2 : Memref sig .tc .vmem S1x32x16x3200 .bf16) (harg2 : arg2.IsWhole) (arg3 : Memref sig .tc .vmem S1x12800 .f32) (harg3 : arg3.IsWhole) (arg4 : Memref sig .tc .vmem S1x12800 .f32) (harg4 : arg4.IsWhole) (arg5 : Memref sig .tc .vmem S1x128x12800 .fp8e4m3) (harg5 : arg5.IsWhole) (arg6 : Memref sig .tc .vmem S1x128x128 .f32) (harg6 : arg6.IsWhole) (arg7 : Memref sig .tc .vmem S50x136x2x128 .bf16) (harg7 : arg7.IsWhole) (arg8 : Memref sig .tc .vmem S128x12800 .f32) (harg8 : arg8.IsWhole) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (x0 : Vec F S1x32x16x3200 .bf16) :
    LoopInvTy_k0_t2 (F := F) Unit ℕ (UR sig nD τ) ℕ 𝒱 c bd E i arg2 harg2 arg3 harg3 arg4 harg4 arg5 harg5 arg6 harg6 arg7 harg7 arg8 harg8 init where
  inv k acc := iprop((arg2.view.loc (c : Thread nD τ) ↦[arg2.view.set]{fullShare} harg2.unread x0) ∗ (∃ f, (arg7.view.loc (c : Thread nD τ) ↦[Finset.univ]{fullShare} f) ∗ ⌜Has x0 arg7 25 0 f⌝) ∗ ⌜acc = (S1 x0 0 k, S1 x0 1 k, S1 x0 2 k, S1 x0 3 k, S1 x0 4 k, S1 x0 5 k, S1 x0 6 k, S1 x0 7 k, S1 x0 8 k, S1 x0 9 k, S1 x0 10 k, S1 x0 11 k, S1 x0 12 k, S1 x0 13 k, S1 x0 14 k, S1 x0 15 k)⌝)
  step k acc := by
    unfold k0_t2_body
    simp only [k0_part14_eq_skeleton, k0_part15_eq_skeleton, k0_part16_eq_skeleton, k0_part17_eq_skeleton]
    iintro ⟨H2, ⟨%f, H7, %hf⟩, %hacc⟩
    sl_exec
    sl_step
    isplitl [H2]; · iexact H2
    isplitl [H7]
    · iexists _; isplitl [H7]; · iexact H7
      ipureintro; exact hf
    ipureintro
    subst hacc
    have hk : k.val < 50 := k.isLt
    have ho := k0_off34_eq k
    exact tup16 (sum_step (load_raw (o := 0) (n := 0) hf hk (by decide) _ ho _ _ rfl)) (sum_step (load_raw (o := 8) (n := 1) hf hk (by decide) _ ho _ _ rfl)) (sum_step (load_raw (o := 17) (n := 2) hf hk (by decide) _ ho _ _ rfl)) (sum_step (load_raw (o := 25) (n := 3) hf hk (by decide) _ ho _ _ rfl)) (sum_step (load_raw (o := 34) (n := 4) hf hk (by decide) _ ho _ _ rfl)) (sum_step (load_raw (o := 42) (n := 5) hf hk (by decide) _ ho _ _ rfl)) (sum_step (load_raw (o := 51) (n := 6) hf hk (by decide) _ ho _ _ rfl)) (sum_step (load_raw (o := 59) (n := 7) hf hk (by decide) _ ho _ _ rfl)) (sum_step (load_raw (o := 68) (n := 8) hf hk (by decide) _ ho _ _ rfl)) (sum_step (load_raw (o := 76) (n := 9) hf hk (by decide) _ ho _ _ rfl)) (sum_step (load_raw (o := 85) (n := 10) hf hk (by decide) _ ho _ _ rfl)) (sum_step (load_raw (o := 93) (n := 11) hf hk (by decide) _ ho _ _ rfl)) (sum_step (load_raw (o := 102) (n := 12) hf hk (by decide) _ ho _ _ rfl)) (sum_step (load_raw (o := 110) (n := 13) hf hk (by decide) _ ho _ _ rfl)) (sum_step (load_raw (o := 119) (n := 14) hf hk (by decide) _ ho _ _ rfl)) (sum_step (load_raw (o := 127) (n := 15) hf hk (by decide) _ ho _ _ rfl))

end Cert.LnIdeal.Body

end
-- ==== Proof.LnIdealVal3.lean ====
/-
  The counted loops of the layer norm kernel by invariants that say what they have computed: the scratch table after the
  channel blocks done, the sums after the slabs done.
-/
module

public import proofs.«01_k».proof.Proof.Gen.LnIdeal.Frame
public import proofs.«01_k».proof.Proof.Gen.LnIdeal.Loops
public import proofs.«01_k».proof.Proof.LnIdealVal2
public import Idealize.ShloMosaic.Lib.Claim
public import Idealize.ShloMosaic.Lib.Claim
public import Idealize.ShloMosaic.Lib.Pipeline.ValueKit
public import Idealize.ShloMosaic.Lib.ValueLayout
public import Idealize.ShloMosaic.Lib.WritesUnit
public import Idealize.ShloMosaic.Lib.Pointwise

@[expose] public section

set_option maxRecDepth 16384

noncomputable section

namespace Cert.LnIdeal.Body

open Cert.LnIdeal Cert.LnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option warn.classDefReducibility false in
set_option maxHeartbeats 8000000 in
@[sl_loop] def lv3 (𝒱 : Variants) (c : Dev nD) (bd : Option 𝒱.V) (E : Set ℕ) (i : grid0.Coords) (arg2 : Memref sig .tc .vmem S1x32x16x3200 .bf16) (harg2 : arg2.IsWhole) (arg3 : Memref sig .tc .vmem S1x12800 .f32) (harg3 : arg3.IsWhole) (arg4 : Memref sig .tc .vmem S1x12800 .f32) (harg4 : arg4.IsWhole) (arg5 : Memref sig .tc .vmem S1x128x12800 .fp8e4m3) (harg5 : arg5.IsWhole) (arg6 : Memref sig .tc .vmem S1x128x128 .f32) (harg6 : arg6.IsWhole) (arg7 : Memref sig .tc .vmem S50x136x2x128 .bf16) (harg7 : arg7.IsWhole) (arg8 : Memref sig .tc .vmem S128x12800 .f32) (harg8 : arg8.IsWhole) (v1 : FVec F S8x128 .f32) (v3_13 : FVec F S8x128 .f32) (v3_14 : FVec F S8x128 .f32) (v3_15 : FVec F S8x128 .f32) (v9 : FVec F S8x128 .f32) (v15 : FVec F S8x128 .f32) (v21 : FVec F S8x128 .f32) (v27 : FVec F S8x128 .f32) (v33 : FVec F S8x128 .f32) (v39 : FVec F S8x128 .f32) (v45 : FVec F S8x128 .f32) (v51 : FVec F S8x128 .f32) (v57 : FVec F S8x128 .f32) (v63 : FVec F S8x128 .f32) (v69 : FVec F S8x128 .f32) (v75 : FVec F S8x128 .f32) (v81 : FVec F S8x128 .f32) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (x0 : Vec F S1x32x16x3200 .bf16) :
    LoopInvTy_k0_t3 (F := F) Unit ℕ (UR sig nD τ) ℕ 𝒱 c bd E i arg2 harg2 arg3 harg3 arg4 harg4 arg5 harg5 arg6 harg6 arg7 harg7 arg8 harg8 v1 v3_13 v3_14 v3_15 v9 v15 v21 v27 v33 v39 v45 v51 v57 v63 v69 v75 v81 init where
  inv k acc := iprop((arg2.view.loc (c : Thread nD τ) ↦[arg2.view.set]{fullShare} harg2.unread x0) ∗ (∃ f, (arg7.view.loc (c : Thread nD τ) ↦[Finset.univ]{fullShare} f) ∗ ⌜Has x0 arg7 25 0 f⌝) ∗ ⌜acc = (S2 x0 v9 0 k, S2 x0 v15 1 k, S2 x0 v21 2 k, S2 x0 v27 3 k, S2 x0 v33 4 k, S2 x0 v39 5 k, S2 x0 v45 6 k, S2 x0 v51 7 k, S2 x0 v57 8 k, S2 x0 v63 9 k, S2 x0 v69 10 k, S2 x0 v75 11 k, S2 x0 v81 12 k, S2 x0 (k0_pay293 v3_13) 13 k, S2 x0 (k0_pay293 v3_14) 14 k, S2 x0 (k0_pay293 v3_15) 15 k)⌝)
  step k acc := by
    unfold k0_t3_body
    simp only [k0_part18_eq_skeleton, k0_part19_eq_skeleton, k0_part20_eq_skeleton, k0_part21_eq_skeleton, k0_part22_eq_skeleton]
    iintro ⟨H2, ⟨%f, H7, %hf⟩, %hacc⟩
    sl_exec
    sl_step
    isplitl [H2]; · iexact H2
    isplitl [H7]
    · iexists _; isplitl [H7]; · iexact H7
      ipureintro; exact hf
    ipureintro
    subst hacc
    have hk : k.val < 50 := k.isLt
    have ho := k0_off35_eq k
    exact tup16 (sq_step (load_raw (o := 0) (n := 0) hf hk (by decide) _ ho _ _ rfl)) (sq_step (load_raw (o := 8) (n := 1) hf hk (by decide) _ ho _ _ rfl)) (sq_step (load_raw (o := 17) (n := 2) hf hk (by decide) _ ho _ _ rfl)) (sq_step (load_raw (o := 25) (n := 3) hf hk (by decide) _ ho _ _ rfl)) (sq_step (load_raw (o := 34) (n := 4) hf hk (by decide) _ ho _ _ rfl)) (sq_step (load_raw (o := 42) (n := 5) hf hk (by decide) _ ho _ _ rfl)) (sq_step (load_raw (o := 51) (n := 6) hf hk (by decide) _ ho _ _ rfl)) (sq_step (load_raw (o := 59) (n := 7) hf hk (by decide) _ ho _ _ rfl)) (sq_step (load_raw (o := 68) (n := 8) hf hk (by decide) _ ho _ _ rfl)) (sq_step (load_raw (o := 76) (n := 9) hf hk (by decide) _ ho _ _ rfl)) (sq_step (load_raw (o := 85) (n := 10) hf hk (by decide) _ ho _ _ rfl)) (sq_step (load_raw (o := 93) (n := 11) hf hk (by decide) _ ho _ _ rfl)) (sq_step (load_raw (o := 102) (n := 12) hf hk (by decide) _ ho _ _ rfl)) (sq_step (load_raw (o := 110) (n := 13) hf hk (by decide) _ ho _ _ rfl)) (sq_step (load_raw (o := 119) (n := 14) hf hk (by decide) _ ho _ _ rfl)) (sq_step (load_raw (o := 127) (n := 15) hf hk (by decide) _ ho _ _ rfl))

end Cert.LnIdeal.Body

end
-- ==== Proof.LnIdealVal4.lean ====
/-
  The counted loops of the layer norm kernel by invariants that say what they have computed: the scratch table after the
  channel blocks done, the sums after the slabs done.
-/
module

public import proofs.«01_k».proof.Proof.Gen.LnIdeal.Frame
public import proofs.«01_k».proof.Proof.Gen.LnIdeal.Loops
public import proofs.«01_k».proof.Proof.LnIdealVal2
public import Idealize.ShloMosaic.Lib.Claim
public import Idealize.ShloMosaic.Lib.Claim
public import Idealize.ShloMosaic.Lib.Pipeline.ValueKit
public import Idealize.ShloMosaic.Lib.ValueLayout
public import Idealize.ShloMosaic.Lib.WritesUnit
public import Idealize.ShloMosaic.Lib.Pointwise

@[expose] public section

set_option maxRecDepth 16384

noncomputable section

namespace Cert.LnIdeal.Body

open Cert.LnIdeal Cert.LnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option warn.classDefReducibility false in
set_option maxHeartbeats 8000000 in
@[sl_loop] def lv4 (𝒱 : Variants) (c : Dev nD) (bd : Option 𝒱.V) (E : Set ℕ) (i : grid0.Coords) (arg2 : Memref sig .tc .vmem S1x32x16x3200 .bf16) (harg2 : arg2.IsWhole) (arg3 : Memref sig .tc .vmem S1x12800 .f32) (harg3 : arg3.IsWhole) (arg4 : Memref sig .tc .vmem S1x12800 .f32) (harg4 : arg4.IsWhole) (arg5 : Memref sig .tc .vmem S1x128x12800 .fp8e4m3) (harg5 : arg5.IsWhole) (arg6 : Memref sig .tc .vmem S1x128x128 .f32) (harg6 : arg6.IsWhole) (arg7 : Memref sig .tc .vmem S50x136x2x128 .bf16) (harg7 : arg7.IsWhole) (arg8 : Memref sig .tc .vmem S128x12800 .f32) (harg8 : arg8.IsWhole) (v1 : FVec F S8x128 .f32) (v9 : FVec F S8x128 .f32) (v15 : FVec F S8x128 .f32) (v21 : FVec F S8x128 .f32) (v27 : FVec F S8x128 .f32) (v33 : FVec F S8x128 .f32) (v39 : FVec F S8x128 .f32) (v45 : FVec F S8x128 .f32) (v51 : FVec F S8x128 .f32) (v57 : FVec F S8x128 .f32) (v63 : FVec F S8x128 .f32) (v69 : FVec F S8x128 .f32) (v75 : FVec F S8x128 .f32) (v81 : FVec F S8x128 .f32) (v87 : FVec F S8x128 .f32) (v93 : FVec F S8x128 .f32) (v99 : FVec F S8x128 .f32) (v101_13 : FVec F S8x128 .f32) (v101_14 : FVec F S8x128 .f32) (v101_15 : FVec F S8x128 .f32) (v110 : FVec F S8x128 .f32) (v119 : FVec F S8x128 .f32) (v128 : FVec F S8x128 .f32) (v137 : FVec F S8x128 .f32) (v146 : FVec F S8x128 .f32) (v155 : FVec F S8x128 .f32) (v164 : FVec F S8x128 .f32) (v173 : FVec F S8x128 .f32) (v182 : FVec F S8x128 .f32) (v191 : FVec F S8x128 .f32) (v200 : FVec F S8x128 .f32) (v209 : FVec F S8x128 .f32) (v213 : FVec F S8x1 .f32) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (x0 : Vec F S1x32x16x3200 .bf16) (x1 x2 : Vec F S1x12800 .f32) :
    LoopInvTy_k0_t4 (F := F) Unit ℕ (UR sig nD τ) ℕ 𝒱 c bd E i arg2 harg2 arg3 harg3 arg4 harg4 arg5 harg5 arg6 harg6 arg7 harg7 arg8 harg8 v1 v9 v15 v21 v27 v33 v39 v45 v51 v57 v63 v69 v75 v81 v87 v93 v99 v101_13 v101_14 v101_15 v110 v119 v128 v137 v146 v155 v164 v173 v182 v191 v200 v209 v213 init where
  inv k acc := iprop((arg2.view.loc (c : Thread nD τ) ↦[arg2.view.set]{fullShare} harg2.unread x0) ∗ (∃ f, (arg7.view.loc (c : Thread nD τ) ↦[Finset.univ]{fullShare} f) ∗ ⌜Has x0 arg7 25 0 f⌝) ∗ (arg3.view.loc (c : Thread nD τ) ↦[arg3.view.set]{fullShare} harg3.unread x1) ∗ (arg4.view.loc (c : Thread nD τ) ↦[arg4.view.set]{fullShare} harg4.unread x2) ∗ (∃ f, (arg8.view.loc (c : Thread nD τ) ↦[arg8.view.set]{fullShare} f) ∗ ⌜patch x0 x1 x2 (fam [v9, v15, v21, v27, v33, v39, v45, v51, v57, v63, v69, v75, v81, v87, v93, v99]) (fam [v110, v119, v128, v137, v146, v155, v164, v173, v182, v191, v200, v209, (k0_pay329 v213), (k0_pay330 v101_13), (k0_pay331 v101_14), (k0_pay332 v101_15)]) arg8 f k = wide x0 x1 x2 (fam [v9, v15, v21, v27, v33, v39, v45, v51, v57, v63, v69, v75, v81, v87, v93, v99]) (fam [v110, v119, v128, v137, v146, v155, v164, v173, v182, v191, v200, v209, (k0_pay329 v213), (k0_pay330 v101_13), (k0_pay331 v101_14), (k0_pay332 v101_15)])⌝) ∗ ⌜acc = (S3 x0 x1 x2 v9 v110 0 k, S3 x0 x1 x2 v15 v119 1 k, S3 x0 x1 x2 v21 v128 2 k, S3 x0 x1 x2 v27 v137 3 k, S3 x0 x1 x2 v33 v146 4 k, S3 x0 x1 x2 v39 v155 5 k, S3 x0 x1 x2 v45 v164 6 k, S3 x0 x1 x2 v51 v173 7 k, S3 x0 x1 x2 v57 v182 8 k, S3 x0 x1 x2 v63 v191 9 k, S3 x0 x1 x2 v69 v200 10 k, S3 x0 x1 x2 v75 v209 11 k, S3 x0 x1 x2 v81 (k0_pay329 v213) 12 k, S3 x0 x1 x2 v87 (k0_pay330 v101_13) 13 k, S3 x0 x1 x2 v93 (k0_pay331 v101_14) 14 k, S3 x0 x1 x2 v99 (k0_pay332 v101_15) 15 k)⌝)
  step k acc := by
    unfold k0_t4_body
    simp only [k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    iintro ⟨H2, ⟨%f, H7, %hf⟩, H3, H4, ⟨%f8, H8, %hf8⟩, %hacc⟩
    sl_exec
    sl_step
    isplitl [H2]; · iexact H2
    isplitl [H7]
    · iexists _; isplitl [H7]; · iexact H7
      ipureintro; exact hf
    isplitl [H3]; · iexact H3
    isplitl [H4]; · iexact H4
    have hk : k.val < 50 := k.isLt
    have ho := k0_off36_eq k
    subst hacc
    isplitl [H8]
    · iexists _; isplitl [H8]; · iexact H8
      ipureintro
      refine patch_of_has8 (Has8'.next ?_)
      refine Has8'.step hk ?_ 15 1 (by decide) (by decide) rfl _ (k0_off53_eq1 k) (lnv_hi (load_raw (o := 127) (n := 15) hf hk (by decide) _ ho _ _ rfl) (load_lanes harg3 hk (by decide) _ (k0_off37_eq1 k)) (load_lanes harg4 hk (by decide) _ (k0_off37_eq1 k)))
      refine Has8'.step hk ?_ 14 1 (by decide) (by decide) rfl _ (k0_off52_eq1 k) (lnv_hi (load_raw (o := 119) (n := 14) hf hk (by decide) _ ho _ _ rfl) (load_lanes harg3 hk (by decide) _ (k0_off37_eq1 k)) (load_lanes harg4 hk (by decide) _ (k0_off37_eq1 k)))
      refine Has8'.step hk ?_ 13 1 (by decide) (by decide) rfl _ (k0_off51_eq1 k) (lnv_hi (load_raw (o := 110) (n := 13) hf hk (by decide) _ ho _ _ rfl) (load_lanes harg3 hk (by decide) _ (k0_off37_eq1 k)) (load_lanes harg4 hk (by decide) _ (k0_off37_eq1 k)))
      refine Has8'.step hk ?_ 12 1 (by decide) (by decide) rfl _ (k0_off50_eq1 k) (lnv_hi (load_raw (o := 102) (n := 12) hf hk (by decide) _ ho _ _ rfl) (load_lanes harg3 hk (by decide) _ (k0_off37_eq1 k)) (load_lanes harg4 hk (by decide) _ (k0_off37_eq1 k)))
      refine Has8'.step hk ?_ 11 1 (by decide) (by decide) rfl _ (k0_off49_eq1 k) (lnv_hi (load_raw (o := 93) (n := 11) hf hk (by decide) _ ho _ _ rfl) (load_lanes harg3 hk (by decide) _ (k0_off37_eq1 k)) (load_lanes harg4 hk (by decide) _ (k0_off37_eq1 k)))
      refine Has8'.step hk ?_ 10 1 (by decide) (by decide) rfl _ (k0_off48_eq1 k) (lnv_hi (load_raw (o := 85) (n := 10) hf hk (by decide) _ ho _ _ rfl) (load_lanes harg3 hk (by decide) _ (k0_off37_eq1 k)) (load_lanes harg4 hk (by decide) _ (k0_off37_eq1 k)))
      refine Has8'.step hk ?_ 9 1 (by decide) (by decide) rfl _ (k0_off47_eq1 k) (lnv_hi (load_raw (o := 76) (n := 9) hf hk (by decide) _ ho _ _ rfl) (load_lanes harg3 hk (by decide) _ (k0_off37_eq1 k)) (load_lanes harg4 hk (by decide) _ (k0_off37_eq1 k)))
      refine Has8'.step hk ?_ 8 1 (by decide) (by decide) rfl _ (k0_off46_eq1 k) (lnv_hi (load_raw (o := 68) (n := 8) hf hk (by decide) _ ho _ _ rfl) (load_lanes harg3 hk (by decide) _ (k0_off37_eq1 k)) (load_lanes harg4 hk (by decide) _ (k0_off37_eq1 k)))
      refine Has8'.step hk ?_ 7 1 (by decide) (by decide) rfl _ (k0_off45_eq1 k) (lnv_hi (load_raw (o := 59) (n := 7) hf hk (by decide) _ ho _ _ rfl) (load_lanes harg3 hk (by decide) _ (k0_off37_eq1 k)) (load_lanes harg4 hk (by decide) _ (k0_off37_eq1 k)))
      refine Has8'.step hk ?_ 6 1 (by decide) (by decide) rfl _ (k0_off44_eq1 k) (lnv_hi (load_raw (o := 51) (n := 6) hf hk (by decide) _ ho _ _ rfl) (load_lanes harg3 hk (by decide) _ (k0_off37_eq1 k)) (load_lanes harg4 hk (by decide) _ (k0_off37_eq1 k)))
      refine Has8'.step hk ?_ 5 1 (by decide) (by decide) rfl _ (k0_off43_eq1 k) (lnv_hi (load_raw (o := 42) (n := 5) hf hk (by decide) _ ho _ _ rfl) (load_lanes harg3 hk (by decide) _ (k0_off37_eq1 k)) (load_lanes harg4 hk (by decide) _ (k0_off37_eq1 k)))
      refine Has8'.step hk ?_ 4 1 (by decide) (by decide) rfl _ (k0_off42_eq1 k) (lnv_hi (load_raw (o := 34) (n := 4) hf hk (by decide) _ ho _ _ rfl) (load_lanes harg3 hk (by decide) _ (k0_off37_eq1 k)) (load_lanes harg4 hk (by decide) _ (k0_off37_eq1 k)))
      refine Has8'.step hk ?_ 3 1 (by decide) (by decide) rfl _ (k0_off41_eq1 k) (lnv_hi (load_raw (o := 25) (n := 3) hf hk (by decide) _ ho _ _ rfl) (load_lanes harg3 hk (by decide) _ (k0_off37_eq1 k)) (load_lanes harg4 hk (by decide) _ (k0_off37_eq1 k)))
      refine Has8'.step hk ?_ 2 1 (by decide) (by decide) rfl _ (k0_off40_eq1 k) (lnv_hi (load_raw (o := 17) (n := 2) hf hk (by decide) _ ho _ _ rfl) (load_lanes harg3 hk (by decide) _ (k0_off37_eq1 k)) (load_lanes harg4 hk (by decide) _ (k0_off37_eq1 k)))
      refine Has8'.step hk ?_ 1 1 (by decide) (by decide) rfl _ (k0_off39_eq1 k) (lnv_hi (load_raw (o := 8) (n := 1) hf hk (by decide) _ ho _ _ rfl) (load_lanes harg3 hk (by decide) _ (k0_off37_eq1 k)) (load_lanes harg4 hk (by decide) _ (k0_off37_eq1 k)))
      refine Has8'.step hk ?_ 0 1 (by decide) (by decide) rfl _ (k0_off38_eq1 k) (lnv_hi (load_raw (o := 0) (n := 0) hf hk (by decide) _ ho _ _ rfl) (load_lanes harg3 hk (by decide) _ (k0_off37_eq1 k)) (load_lanes harg4 hk (by decide) _ (k0_off37_eq1 k)))
      refine Has8'.step hk ?_ 15 0 (by decide) (by decide) rfl _ (k0_off53_eq0 k) (lnv_lo (load_raw (o := 127) (n := 15) hf hk (by decide) _ ho _ _ rfl) (load_lanes harg3 hk (by decide) _ (k0_off37_eq0 k)) (load_lanes harg4 hk (by decide) _ (k0_off37_eq0 k)))
      refine Has8'.step hk ?_ 14 0 (by decide) (by decide) rfl _ (k0_off52_eq0 k) (lnv_lo (load_raw (o := 119) (n := 14) hf hk (by decide) _ ho _ _ rfl) (load_lanes harg3 hk (by decide) _ (k0_off37_eq0 k)) (load_lanes harg4 hk (by decide) _ (k0_off37_eq0 k)))
      refine Has8'.step hk ?_ 13 0 (by decide) (by decide) rfl _ (k0_off51_eq0 k) (lnv_lo (load_raw (o := 110) (n := 13) hf hk (by decide) _ ho _ _ rfl) (load_lanes harg3 hk (by decide) _ (k0_off37_eq0 k)) (load_lanes harg4 hk (by decide) _ (k0_off37_eq0 k)))
      refine Has8'.step hk ?_ 12 0 (by decide) (by decide) rfl _ (k0_off50_eq0 k) (lnv_lo (load_raw (o := 102) (n := 12) hf hk (by decide) _ ho _ _ rfl) (load_lanes harg3 hk (by decide) _ (k0_off37_eq0 k)) (load_lanes harg4 hk (by decide) _ (k0_off37_eq0 k)))
      refine Has8'.step hk ?_ 11 0 (by decide) (by decide) rfl _ (k0_off49_eq0 k) (lnv_lo (load_raw (o := 93) (n := 11) hf hk (by decide) _ ho _ _ rfl) (load_lanes harg3 hk (by decide) _ (k0_off37_eq0 k)) (load_lanes harg4 hk (by decide) _ (k0_off37_eq0 k)))
      refine Has8'.step hk ?_ 10 0 (by decide) (by decide) rfl _ (k0_off48_eq0 k) (lnv_lo (load_raw (o := 85) (n := 10) hf hk (by decide) _ ho _ _ rfl) (load_lanes harg3 hk (by decide) _ (k0_off37_eq0 k)) (load_lanes harg4 hk (by decide) _ (k0_off37_eq0 k)))
      refine Has8'.step hk ?_ 9 0 (by decide) (by decide) rfl _ (k0_off47_eq0 k) (lnv_lo (load_raw (o := 76) (n := 9) hf hk (by decide) _ ho _ _ rfl) (load_lanes harg3 hk (by decide) _ (k0_off37_eq0 k)) (load_lanes harg4 hk (by decide) _ (k0_off37_eq0 k)))
      refine Has8'.step hk ?_ 8 0 (by decide) (by decide) rfl _ (k0_off46_eq0 k) (lnv_lo (load_raw (o := 68) (n := 8) hf hk (by decide) _ ho _ _ rfl) (load_lanes harg3 hk (by decide) _ (k0_off37_eq0 k)) (load_lanes harg4 hk (by decide) _ (k0_off37_eq0 k)))
      refine Has8'.step hk ?_ 7 0 (by decide) (by decide) rfl _ (k0_off45_eq0 k) (lnv_lo (load_raw (o := 59) (n := 7) hf hk (by decide) _ ho _ _ rfl) (load_lanes harg3 hk (by decide) _ (k0_off37_eq0 k)) (load_lanes harg4 hk (by decide) _ (k0_off37_eq0 k)))
      refine Has8'.step hk ?_ 6 0 (by decide) (by decide) rfl _ (k0_off44_eq0 k) (lnv_lo (load_raw (o := 51) (n := 6) hf hk (by decide) _ ho _ _ rfl) (load_lanes harg3 hk (by decide) _ (k0_off37_eq0 k)) (load_lanes harg4 hk (by decide) _ (k0_off37_eq0 k)))
      refine Has8'.step hk ?_ 5 0 (by decide) (by decide) rfl _ (k0_off43_eq0 k) (lnv_lo (load_raw (o := 42) (n := 5) hf hk (by decide) _ ho _ _ rfl) (load_lanes harg3 hk (by decide) _ (k0_off37_eq0 k)) (load_lanes harg4 hk (by decide) _ (k0_off37_eq0 k)))
      refine Has8'.step hk ?_ 4 0 (by decide) (by decide) rfl _ (k0_off42_eq0 k) (lnv_lo (load_raw (o := 34) (n := 4) hf hk (by decide) _ ho _ _ rfl) (load_lanes harg3 hk (by decide) _ (k0_off37_eq0 k)) (load_lanes harg4 hk (by decide) _ (k0_off37_eq0 k)))
      refine Has8'.step hk ?_ 3 0 (by decide) (by decide) rfl _ (k0_off41_eq0 k) (lnv_lo (load_raw (o := 25) (n := 3) hf hk (by decide) _ ho _ _ rfl) (load_lanes harg3 hk (by decide) _ (k0_off37_eq0 k)) (load_lanes harg4 hk (by decide) _ (k0_off37_eq0 k)))
      refine Has8'.step hk ?_ 2 0 (by decide) (by decide) rfl _ (k0_off40_eq0 k) (lnv_lo (load_raw (o := 17) (n := 2) hf hk (by decide) _ ho _ _ rfl) (load_lanes harg3 hk (by decide) _ (k0_off37_eq0 k)) (load_lanes harg4 hk (by decide) _ (k0_off37_eq0 k)))
      refine Has8'.step hk ?_ 1 0 (by decide) (by decide) rfl _ (k0_off39_eq0 k) (lnv_lo (load_raw (o := 8) (n := 1) hf hk (by decide) _ ho _ _ rfl) (load_lanes harg3 hk (by decide) _ (k0_off37_eq0 k)) (load_lanes harg4 hk (by decide) _ (k0_off37_eq0 k)))
      refine Has8'.step hk ?_ 0 0 (by decide) (by decide) rfl _ (k0_off38_eq0 k) (lnv_lo (load_raw (o := 0) (n := 0) hf hk (by decide) _ ho _ _ rfl) (load_lanes harg3 hk (by decide) _ (k0_off37_eq0 k)) (load_lanes harg4 hk (by decide) _ (k0_off37_eq0 k)))
      exact Has8.start (has8_of_patch hf8)
    ipureintro
    exact tup16 (max_step (load_raw (o := 0) (n := 0) hf hk (by decide) _ ho _ _ rfl) (load_lanes harg3 hk (by decide) _ (k0_off37_eq0 k)) (load_lanes harg4 hk (by decide) _ (k0_off37_eq0 k)) (load_lanes harg3 hk (by decide) _ (k0_off37_eq1 k)) (load_lanes harg4 hk (by decide) _ (k0_off37_eq1 k))) (max_step (load_raw (o := 8) (n := 1) hf hk (by decide) _ ho _ _ rfl) (load_lanes harg3 hk (by decide) _ (k0_off37_eq0 k)) (load_lanes harg4 hk (by decide) _ (k0_off37_eq0 k)) (load_lanes harg3 hk (by decide) _ (k0_off37_eq1 k)) (load_lanes harg4 hk (by decide) _ (k0_off37_eq1 k))) (max_step (load_raw (o := 17) (n := 2) hf hk (by decide) _ ho _ _ rfl) (load_lanes harg3 hk (by decide) _ (k0_off37_eq0 k)) (load_lanes harg4 hk (by decide) _ (k0_off37_eq0 k)) (load_lanes harg3 hk (by decide) _ (k0_off37_eq1 k)) (load_lanes harg4 hk (by decide) _ (k0_off37_eq1 k))) (max_step (load_raw (o := 25) (n := 3) hf hk (by decide) _ ho _ _ rfl) (load_lanes harg3 hk (by decide) _ (k0_off37_eq0 k)) (load_lanes harg4 hk (by decide) _ (k0_off37_eq0 k)) (load_lanes harg3 hk (by decide) _ (k0_off37_eq1 k)) (load_lanes harg4 hk (by decide) _ (k0_off37_eq1 k))) (max_step (load_raw (o := 34) (n := 4) hf hk (by decide) _ ho _ _ rfl) (load_lanes harg3 hk (by decide) _ (k0_off37_eq0 k)) (load_lanes harg4 hk (by decide) _ (k0_off37_eq0 k)) (load_lanes harg3 hk (by decide) _ (k0_off37_eq1 k)) (load_lanes harg4 hk (by decide) _ (k0_off37_eq1 k))) (max_step (load_raw (o := 42) (n := 5) hf hk (by decide) _ ho _ _ rfl) (load_lanes harg3 hk (by decide) _ (k0_off37_eq0 k)) (load_lanes harg4 hk (by decide) _ (k0_off37_eq0 k)) (load_lanes harg3 hk (by decide) _ (k0_off37_eq1 k)) (load_lanes harg4 hk (by decide) _ (k0_off37_eq1 k))) (max_step (load_raw (o := 51) (n := 6) hf hk (by decide) _ ho _ _ rfl) (load_lanes harg3 hk (by decide) _ (k0_off37_eq0 k)) (load_lanes harg4 hk (by decide) _ (k0_off37_eq0 k)) (load_lanes harg3 hk (by decide) _ (k0_off37_eq1 k)) (load_lanes harg4 hk (by decide) _ (k0_off37_eq1 k))) (max_step (load_raw (o := 59) (n := 7) hf hk (by decide) _ ho _ _ rfl) (load_lanes harg3 hk (by decide) _ (k0_off37_eq0 k)) (load_lanes harg4 hk (by decide) _ (k0_off37_eq0 k)) (load_lanes harg3 hk (by decide) _ (k0_off37_eq1 k)) (load_lanes harg4 hk (by decide) _ (k0_off37_eq1 k))) (max_step (load_raw (o := 68) (n := 8) hf hk (by decide) _ ho _ _ rfl) (load_lanes harg3 hk (by decide) _ (k0_off37_eq0 k)) (load_lanes harg4 hk (by decide) _ (k0_off37_eq0 k)) (load_lanes harg3 hk (by decide) _ (k0_off37_eq1 k)) (load_lanes harg4 hk (by decide) _ (k0_off37_eq1 k))) (max_step (load_raw (o := 76) (n := 9) hf hk (by decide) _ ho _ _ rfl) (load_lanes harg3 hk (by decide) _ (k0_off37_eq0 k)) (load_lanes harg4 hk (by decide) _ (k0_off37_eq0 k)) (load_lanes harg3 hk (by decide) _ (k0_off37_eq1 k)) (load_lanes harg4 hk (by decide) _ (k0_off37_eq1 k))) (max_step (load_raw (o := 85) (n := 10) hf hk (by decide) _ ho _ _ rfl) (load_lanes harg3 hk (by decide) _ (k0_off37_eq0 k)) (load_lanes harg4 hk (by decide) _ (k0_off37_eq0 k)) (load_lanes harg3 hk (by decide) _ (k0_off37_eq1 k)) (load_lanes harg4 hk (by decide) _ (k0_off37_eq1 k))) (max_step (load_raw (o := 93) (n := 11) hf hk (by decide) _ ho _ _ rfl) (load_lanes harg3 hk (by decide) _ (k0_off37_eq0 k)) (load_lanes harg4 hk (by decide) _ (k0_off37_eq0 k)) (load_lanes harg3 hk (by decide) _ (k0_off37_eq1 k)) (load_lanes harg4 hk (by decide) _ (k0_off37_eq1 k))) (max_step (load_raw (o := 102) (n := 12) hf hk (by decide) _ ho _ _ rfl) (load_lanes harg3 hk (by decide) _ (k0_off37_eq0 k)) (load_lanes harg4 hk (by decide) _ (k0_off37_eq0 k)) (load_lanes harg3 hk (by decide) _ (k0_off37_eq1 k)) (load_lanes harg4 hk (by decide) _ (k0_off37_eq1 k))) (max_step (load_raw (o := 110) (n := 13) hf hk (by decide) _ ho _ _ rfl) (load_lanes harg3 hk (by decide) _ (k0_off37_eq0 k)) (load_lanes harg4 hk (by decide) _ (k0_off37_eq0 k)) (load_lanes harg3 hk (by decide) _ (k0_off37_eq1 k)) (load_lanes harg4 hk (by decide) _ (k0_off37_eq1 k))) (max_step (load_raw (o := 119) (n := 14) hf hk (by decide) _ ho _ _ rfl) (load_lanes harg3 hk (by decide) _ (k0_off37_eq0 k)) (load_lanes harg4 hk (by decide) _ (k0_off37_eq0 k)) (load_lanes harg3 hk (by decide) _ (k0_off37_eq1 k)) (load_lanes harg4 hk (by decide) _ (k0_off37_eq1 k))) (max_step (load_raw (o := 127) (n := 15) hf hk (by decide) _ ho _ _ rfl) (load_lanes harg3 hk (by decide) _ (k0_off37_eq0 k)) (load_lanes harg4 hk (by decide) _ (k0_off37_eq0 k)) (load_lanes harg3 hk (by decide) _ (k0_off37_eq1 k)) (load_lanes harg4 hk (by decide) _ (k0_off37_eq1 k)))

end Cert.LnIdeal.Body

end
-- ==== Proof.LnIdealOut.lean ====
/-
  The two output blocks of one grid point of the layer norm kernel, and what the stores into their buffers leave.
-/
module

public import proofs.«01_k».proof.Proof.Gen.LnIdeal.Frame
public import proofs.«01_k».proof.Proof.Gen.LnIdeal.Loops
public import proofs.«01_k».proof.Proof.LnIdealSpec
public import Idealize.ShloMosaic.Lib.Claim
public import Idealize.ShloMosaic.Lib.Claim
public import Idealize.ShloMosaic.Lib.Pipeline.ValueKit
public import Idealize.ShloMosaic.Lib.ValueLayout
public import Idealize.ShloMosaic.Lib.WritesUnit
public import Idealize.ShloMosaic.Lib.Pointwise

@[expose] public section

set_option maxRecDepth 16384

noncomputable section

namespace Cert.LnIdeal.Body

open Cert.LnIdeal Cert.LnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The means of the sixteen row blocks. -/
def mean (x0 : Vec F S1x32x16x3200 .bf16) (n : ℕ) : FVec F S8x128 .f32 := k0_pay293 (S1 x0 n 50)

/-- The inverse standard deviations. -/
def rstd (x0 : Vec F S1x32x16x3200 .bf16) (n : ℕ) : FVec F S8x128 .f32 := k0_pay319 (S2 x0 (mean x0 n) n 50)

/-- The lane maxima of the magnitudes. -/
def top (x0 : Vec F S1x32x16x3200 .bf16) (x1 x2 : Vec F S1x12800 .f32) (n : ℕ) : FVec F S8x128 .f32 := S3 x0 x1 x2 (mean x0 n) (rstd x0 n) n 50

/-- The field the scales are made of. -/
def word (A : FVec F S8x128 .f32) : IVec S8x128 32 := k0_pay339 (k0_pay336 A) k0_pay337 k0_pay338

/-- The scales of a row block. -/
def scl (A : FVec F S8x128 .f32) : FVec F S1x8x128 .f32 := k0_pay343 (word A) k0_pay340

/-- Their reciprocals. -/
def rcp (A : FVec F S8x128 .f32) : FVec F S8x128 .f32 := k0_pay342 (word A) k0_pay340

/-- The block of scales. -/
def out6 (x0 : Vec F S1x32x16x3200 .bf16) (x1 x2 : Vec F S1x12800 .f32) : Vec F S1x128x128 .f32 := fun y =>
  scl (top x0 x1 x2 ((y 1).val / 8)) (ix3 (⟨0, by decide⟩ : Fin 1) (⟨(y 1).val % 8, Nat.mod_lt _ (by decide)⟩ : Fin 8) (y 2 : Fin 128))

/-- All the reciprocals. -/
def cat (x0 : Vec F S1x32x16x3200 .bf16) (x1 x2 : Vec F S1x12800 .f32) : FVec F S128x128 .f32 :=
  concatenate S128x128 0 [⟨S8x128, rcp (top x0 x1 x2 0)⟩, ⟨S8x128, rcp (top x0 x1 x2 1)⟩, ⟨S8x128, rcp (top x0 x1 x2 2)⟩, ⟨S8x128, rcp (top x0 x1 x2 3)⟩, ⟨S8x128, rcp (top x0 x1 x2 4)⟩, ⟨S8x128, rcp (top x0 x1 x2 5)⟩, ⟨S8x128, rcp (top x0 x1 x2 6)⟩, ⟨S8x128, rcp (top x0 x1 x2 7)⟩, ⟨S8x128, rcp (top x0 x1 x2 8)⟩, ⟨S8x128, rcp (top x0 x1 x2 9)⟩, ⟨S8x128, rcp (top x0 x1 x2 10)⟩, ⟨S8x128, rcp (top x0 x1 x2 11)⟩, ⟨S8x128, rcp (top x0 x1 x2 12)⟩, ⟨S8x128, rcp (top x0 x1 x2 13)⟩, ⟨S8x128, rcp (top x0 x1 x2 14)⟩, ⟨S8x128, rcp (top x0 x1 x2 15)⟩] concatenates_S8x128_S8x128_S8x128_S8x128_S8x128_S8x128_S8x128_S8x128_S8x128_S8x128_S8x128_S8x128_S8x128_S8x128_S8x128_S8x128_S128x128_d0

/-- The codes of a wide block by the reciprocals `I`. -/
def codes (I : FVec F S128x128 .f32) (W : Vec F S128x12800 .f32) : Vec F S1x128x12800 .fp8e4m3 := fun y =>
  k0_pay2 I (fun z => W (ix2 (z 0 : Fin 128) (⟨(128 * ((y 2).val / 128) + (z 1).val) % 12800, Nat.mod_lt _ (by decide)⟩ : Fin 12800)))
    (ix3 (⟨0, by decide⟩ : Fin 1) (y 1 : Fin 128) (⟨(y 2).val % 128, Nat.mod_lt _ (by decide)⟩ : Fin 128))

/-- The block of codes. -/
def out5 (x0 : Vec F S1x32x16x3200 .bf16) (x1 x2 : Vec F S1x12800 .f32) : Vec F S1x128x12800 .fp8e4m3 :=
  codes (cat x0 x1 x2) (wide x0 x1 x2 (mean x0) (rstd x0))

theorem k0_off54_eq : ∀ k : Fin k0_t5_loop.trips, k0_off54 k = ![0, 128 * k.val] := by decide +kernel

theorem k0_off55_eq : ∀ k : Fin k0_t5_loop.trips, k0_off55 k = ![0, 0, 128 * k.val] := by decide +kernel

/-- What the trips before `k` leave in the code buffer, at a column they have written. -/
theorem pieces_codes (c : Dev nD) (i : grid0.Coords) (arg2 : Memref sig .tc .vmem S1x32x16x3200 .bf16) (harg2 : arg2.IsWhole) (arg3 : Memref sig .tc .vmem S1x12800 .f32) (harg3 : arg3.IsWhole) (arg4 : Memref sig .tc .vmem S1x12800 .f32) (harg4 : arg4.IsWhole) (arg5 : Memref sig .tc .vmem S1x128x12800 .fp8e4m3) (harg5 : arg5.IsWhole) (arg6 : Memref sig .tc .vmem S1x128x128 .f32) (harg6 : arg6.IsWhole) (arg7 : Memref sig .tc .vmem S50x136x2x128 .bf16) (harg7 : arg7.IsWhole) (arg8 : Memref sig .tc .vmem S128x12800 .f32) (harg8 : arg8.IsWhole) (I : FVec F S128x128 .f32) (X8 : BufTy.Contents (Elt F) arg8.view.ty) (f : BufTy.Contents (Elt F) arg5.view.ty) (k : ℕ) (hk : k ≤ 100) (y : S1x128x12800.Idx) (hy : (y 2).val < 128 * k) :
    arg5.view.read (Elt F) (arg5.view.writes (Elt F) f (pb_k0_t5 Variants.none c none i arg2 harg2 arg3 harg3 arg4 harg4 arg5 harg5 arg6 harg6 arg7 harg7 arg8 harg8 I X8 k)) y
      = codes I (arg8.view.read (Elt F) X8) y := by
  have htr : k0_t5_loop.trips = 100 := by decide +kernel
  induction k with
  | zero => omega
  | succ k ih =>
    have hk' : k < k0_t5_loop.trips := by omega
    have h2 : (y 2).val < 12800 := (y 2).isLt
    have h1 : (y 1).val < 128 := (y 1).isLt
    have h0 : (y 0).val < 1 := (y 0).isLt
    rw [pb_k0_t5_succ Variants.none c none i arg2 harg2 arg3 harg3 arg4 harg4 arg5 harg5 arg6 harg6 arg7 harg7 arg8 harg8 I X8 ⟨k, hk'⟩]
    unfold tripL_k0_t5 trip_k0_t5
    dsimp only
    rw [List.cons_append, List.nil_append]
    by_cases h : 128 * k ≤ (y 2).val
    · refine (View.read_writes_cons_unit_of_mem _ _ _ _ _ y (ix3 (⟨0, by decide⟩ : Fin 1) (y 1) (⟨(y 2).val % 128, Nat.mod_lt _ (by decide)⟩ : Fin 128)) (k0_off55_eq ⟨k, hk'⟩) fun a => ?_).trans ?_
      · fin_cases a
        · show (y 0).val = 0 + 0; omega
        · show (y 1).val = 0 + (y 1).val; omega
        · show (y 2).val = 128 * k + (y 2).val % 128; omega
      · have hq : (y 2).val / 128 = k := by omega
        unfold codes
        refine congrFun (congrArg (k0_pay2 I) (funext fun z => ?_)) _
        refine (View.readAt_apply _ _ _).trans ?_
        refine congrArg (arg8.view.read (Elt F) X8) (funext fun a => Fin.ext ?_)
        have ho := k0_off54_eq ⟨k, hk'⟩
        have hz : (z 1).val < 128 := (z 1).isLt
        fin_cases a
        · show k0_off54 ⟨k, hk'⟩ 0 + 1 * (z 0).val = (z 0).val
          rw [ho]; show 0 + 1 * (z 0).val = (z 0).val; omega
        · show k0_off54 ⟨k, hk'⟩ 1 + 1 * (z 1).val = (128 * ((y 2).val / 128) + (z 1).val) % 12800
          rw [ho]; show 128 * k + 1 * (z 1).val = (128 * ((y 2).val / 128) + (z 1).val) % 12800; omega
    · refine (View.read_writes_cons_unit_of_not_mem _ _ _ _ _ y (k0_off55_eq ⟨k, hk'⟩) 2 ?_).trans ?_
      · show (y 2).val < 128 * k ∨ 128 * k + 128 ≤ (y 2).val; omega
      · exact ih (by omega) (by omega)

/-- The scale buffer holds the first `j` row blocks. -/
def Has6 (x0 : Vec F S1x32x16x3200 .bf16) (x1 x2 : Vec F S1x12800 .f32) (m : Memref sig .tc .vmem S1x128x128 .f32) (j : ℕ) (f : BufTy.Contents (Elt F) m.view.ty) : Prop :=
  ∀ y : S1x128x128.Idx, (y 1).val / 8 < j → m.view.read (Elt F) f y = out6 x0 x1 x2 y

theorem Has6.zero {x0 : Vec F S1x32x16x3200 .bf16} {x1 x2 : Vec F S1x12800 .f32} {m : Memref sig .tc .vmem S1x128x128 .f32} {f : BufTy.Contents (Elt F) m.view.ty} : Has6 x0 x1 x2 m 0 f := fun _ h => absurd h (Nat.not_lt_zero _)

theorem Has6.step {x0 : Vec F S1x32x16x3200 .bf16} {x1 x2 : Vec F S1x12800 .f32} {m : Memref sig .tc .vmem S1x128x128 .f32} {f : BufTy.Contents (Elt F) m.view.ty} {L : List (View.Piece (Elt F) S1x128x128 .f32)} (j : ℕ)
    (hf : Has6 x0 x1 x2 m j (m.view.writes (Elt F) f L)) {o : ℕ} (hb : o = 8 * j) (inb : ∀ a, (![0, o, 0] : Fin 3 → ℕ) a + S1x8x128.size a ≤ S1x128x128.size a)
    {w : FVec F S1x8x128 .f32} (hw : w = scl (top x0 x1 x2 j)) :
    Has6 x0 x1 x2 m (j + 1) (m.view.writes (Elt F) f ((⟨Rect.unit (s := S1x128x128) ![0, o, 0] S1x8x128.size inb, w⟩ : View.Piece (Elt F) S1x128x128 .f32) :: L)) := by
  intro y hy
  have h0 : (y 0).val < 1 := (y 0).isLt
  by_cases h : (y 1).val / 8 = j
  · refine (View.read_writes_cons_unit_of_mem _ _ _ _ _ y (ix3 (⟨0, by decide⟩ : Fin 1) (⟨(y 1).val % 8, Nat.mod_lt _ (by decide)⟩ : Fin 8) (y 2)) rfl fun a => ?_).trans ?_
    · fin_cases a
      · show (y 0).val = 0 + 0; omega
      · show (y 1).val = o + (y 1).val % 8; omega
      · show (y 2).val = 0 + (y 2).val; omega
    · rw [hw]; unfold out6; rw [h]; rfl
  · refine (View.read_writes_cons_unit_of_not_mem _ _ _ _ _ y rfl 1 ?_).trans (hf y (by omega))
    show (y 1).val < o ∨ o + 8 ≤ (y 1).val
    omega

/-- The wide rows depend on the means and the inverse deviations of the sixteen row blocks only. -/
theorem wide_congr {x0 : Vec F S1x32x16x3200 .bf16} {x1 x2 : Vec F S1x12800 .f32} {Ms Rs Ms' Rs' : ℕ → FVec F S8x128 .f32} (hM : ∀ n, n < 16 → Ms n = Ms' n) (hR : ∀ n, n < 16 → Rs n = Rs' n) (y : S128x12800.Idx) :
    wide x0 x1 x2 Ms Rs y = wide x0 x1 x2 Ms' Rs' y := by
  have h0 : (y 0).val < 128 := (y 0).isLt
  unfold wide
  rw [hM _ (by omega), hR _ (by omega)]

end Cert.LnIdeal.Body

end
-- ==== Proof.LnIdealVRun.lean ====
/-
  The body of the layer norm kernel, run once at a symbolic grid point, with what it leaves in the output buffers.
-/
module

public import proofs.«01_k».proof.Proof.Gen.LnIdeal.Frame
public import proofs.«01_k».proof.Proof.Gen.LnIdeal.Loops
public import proofs.«01_k».proof.Proof.LnIdealVal1
public import proofs.«01_k».proof.Proof.LnIdealVal2
public import proofs.«01_k».proof.Proof.LnIdealVal3
public import proofs.«01_k».proof.Proof.LnIdealVal4
public import proofs.«01_k».proof.Proof.LnIdealOut
public import Idealize.ShloMosaic.Lib.Claim

@[expose] public section

set_option maxRecDepth 16384

noncomputable section

namespace Cert.LnIdeal.Body

open Cert.LnIdeal Cert.LnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 16000000 in
/-- The body: it keeps the block of patches, the weights and the offsets, leaves the block of codes and the block of
    scales, and something in both scratch buffers. -/
theorem run (c : Dev nD) (i : grid0.Coords) (arg2 : Memref sig .tc .vmem S1x32x16x3200 .bf16) (harg2 : arg2.IsWhole) (arg3 : Memref sig .tc .vmem S1x12800 .f32) (harg3 : arg3.IsWhole) (arg4 : Memref sig .tc .vmem S1x12800 .f32) (harg4 : arg4.IsWhole) (arg5 : Memref sig .tc .vmem S1x128x12800 .fp8e4m3) (harg5 : arg5.IsWhole) (arg6 : Memref sig .tc .vmem S1x128x128 .f32) (harg6 : arg6.IsWhole) (arg7 : Memref sig .tc .vmem S50x136x2x128 .bf16) (harg7 : arg7.IsWhole) (arg8 : Memref sig .tc .vmem S128x12800 .f32) (harg8 : arg8.IsWhole)
    (x0 : Vec F S1x32x16x3200 .bf16) (x1 : Vec F S1x12800 .f32) (x2 : Vec F S1x12800 .f32) (xo5 : Vec F S1x128x12800 .fp8e4m3) (xo6 : Vec F S1x128x128 .f32) (xs7 : Vec F S50x136x2x128 .bf16) (xs8 : Vec F S128x12800 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare xo5 ∗ owns (c : Thread nD τ) arg6 fullShare xo6 ∗ owns (c : Thread nD τ) arg7 fullShare xs7 ∗ owns (c : Thread nD τ) arg8 fullShare xs8
            ∗ (iprop(owns (c : Thread nD τ) arg2 fullShare x0 ∗ owns (c : Thread nD τ) arg3 fullShare x1 ∗ owns (c : Thread nD τ) arg4 fullShare x2 ∗ owns (c : Thread nD τ) arg5 fullShare (out5 x0 x1 x2) ∗ owns (c : Thread nD τ) arg6 fullShare (out6 x0 x1 x2) ∗ (∃ y, owns (c : Thread nD τ) arg7 fullShare y) ∗ (∃ y, owns (c : Thread nD τ) arg8 fullShare y)) -∗ K ⟨⟩))
          ⊢ wp frame (wpE (defs₀ (F := F)) Variants.none c none) E (cc0_ln_quant i arg2 harg2 arg3 harg3 arg4 harg4 arg5 harg5 arg6 harg6 arg7 harg7 arg8 harg8) K := by
    simp only [cc0_ln_quant_eq_skeleton]; unfold cc0_ln_quant_skel
    simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
    unfold owns
    iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2
    rw [harg7.set_eq_univ]
    have hz7 : Has x0 arg7 0 0 f7 := Has.zero
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr
      swap; · iexact H5
      ipureintro
      rename patch _ _ _ _ _ _ _ _ = _ => hp
      have h8 := has8_of_patch hp
      refine funext fun y => (pieces_codes c i arg2 harg2 arg3 harg3 arg4 harg4 arg5 harg5 arg6 harg6 arg7 harg7 arg8 harg8 _ _ _ 100 le_rfl y (y 2).isLt).trans (congrFun (congrArg₂ codes rfl ?_) y)
      refine funext fun y => (h8 y ?_).trans (wide_congr (fun n hn => ?_) (fun n hn => ?_) y)
      · have h1 : (y 1).val < 12800 := (y 1).isLt
        show 25 * ((y 1).val / 6400) + (y 1).val / 128 % 25 < 50
        omega
      · interval_cases n <;> rfl
      · interval_cases n <;> rfl
    isplitl [H6]
    · iexists _; isplitr
      swap; · iexact H6
      ipureintro
      have h6 : Has6 x0 x1 x2 arg6 16 (arg6.view.writes (Elt F) arg6.view.junk (run.sl.H6_16 x0 x1 x2)) := by
        refine Has6.step 15 ?_ rfl _ rfl
        refine Has6.step 14 ?_ rfl _ rfl
        refine Has6.step 13 ?_ rfl _ rfl
        refine Has6.step 12 ?_ rfl _ rfl
        refine Has6.step 11 ?_ rfl _ rfl
        refine Has6.step 10 ?_ rfl _ rfl
        refine Has6.step 9 ?_ rfl _ rfl
        refine Has6.step 8 ?_ rfl _ rfl
        refine Has6.step 7 ?_ rfl _ rfl
        refine Has6.step 6 ?_ rfl _ rfl
        refine Has6.step 5 ?_ rfl _ rfl
        refine Has6.step 4 ?_ rfl _ rfl
        refine Has6.step 3 ?_ rfl _ rfl
        refine Has6.step 2 ?_ rfl _ rfl
        refine Has6.step 1 ?_ rfl _ rfl
        refine Has6.step 0 ?_ rfl _ rfl
        exact Has6.zero
      refine funext fun y => h6 y ?_
      have h1 : (y 1).val < 128 := (y 1).isLt
      omega
    isplitl [H7]
    · iexists _; iexists _; isplitr
      swap; · iexact H7
      ipureintro; rfl
    iexists _; iexists _; isplitr
    swap; · iexact H8
    ipureintro; rfl

end Cert.LnIdeal.Body

end
-- ==== Proof.LnIdealBody.lean ====
/-
  The layer norm kernel's body at every grid point; the run of the whole call and its frame follow.
-/
module

public import proofs.«01_k».proof.Proof.Gen.LnIdeal.Frame
public import proofs.«01_k».proof.Proof.LnIdealVRun
public import Idealize.ShloMosaic.Lib.Claim

@[expose] public section

set_option maxRecDepth 16384

noncomputable section

namespace Cert.LnIdeal.Body

open Cert.LnIdeal Cert.LnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch buffers. -/
abbrev scM0_0 : Memref sig .tc .vmem S50x136x2x128 .bf16 := Memref.whole cc0_scratch0
abbrev scM0_1 : Memref sig .tc .vmem S128x12800 .f32 := Memref.whole cc0_scratch1

/-- The frame kit's own invariant: the scratch at any contents. -/
theorem PhiA0_eq (c : Dev nD) : (Pipeline.ΦA spec0 c : sProp 𝕄)
    = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The pipeline's proof data: inputs at their blocks, the outputs at the codes and the scales of the point's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out5 (iblk m c 0 t) (iblk m c 1 t) (iblk m c 2 t)
    | ⟨4, _⟩ => out6 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem after0_3 (c : Dev nD) (t : Fin cfg0.N) : (dats m 0 c).after 3 t = out5 (iblk m c 0 t) (iblk m c 1 t) (iblk m c 2 t) := by dsimp only [dats]
theorem after0_4 (c : Dev nD) (t : Fin cfg0.N) : (dats m 0 c).after 4 t = out6 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Each window's staging buffer at a grid point, and that it is a whole buffer. -/
abbrev ms0_0 (t : Fin cfg0.N) : Memref sig .tc .vmem S1x32x16x3200 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x12800 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x12800 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x12800 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x128 .f32 := win0_4.stage (cfg0.slots t 4)
abbrev hs0_4 (t : Fin cfg0.N) : (ms0_4 t).IsWhole := hstage0_4 ((cfg0.slots t 4).cast nbuf0_4)

set_option maxHeartbeats 3000000 in
/-- The body at any grid point. -/
theorem sound_body (c : Dev nD) (t : Fin cfg0.N) :
    iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))
    ⊢ wp frame (wpE (defs₀ (F := F)) Variants.none c none) Set.univ (bodyAt0 t) (fun _ =>
    iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)) := by
  unfold bodyAt0
  simp only [before0_0, before0_1, before0_2]
  rw [show (dats m 0 c).leavesExact 0 t = owns (c : Thread nD τ) (ms0_0 t) fullShare (iblk m c 0 t) from by
    unfold Dat.leavesExact; rw [show cfg0.idle 0 (cfg0.grid.coords t) = false from rfl, after0_0]]
  rw [show (dats m 0 c).leavesExact 1 t = owns (c : Thread nD τ) (ms0_1 t) fullShare (iblk m c 1 t) from by
    unfold Dat.leavesExact; rw [show cfg0.idle 1 (cfg0.grid.coords t) = false from rfl, after0_1]]
  rw [show (dats m 0 c).leavesExact 2 t = owns (c : Thread nD τ) (ms0_2 t) fullShare (iblk m c 2 t) from by
    unfold Dat.leavesExact; rw [show cfg0.idle 2 (cfg0.grid.coords t) = false from rfl, after0_2]]
  rw [show (dats m 0 c).leavesExact 3 t = owns (c : Thread nD τ) (ms0_3 t) fullShare (out5 (iblk m c 0 t) (iblk m c 1 t) (iblk m c 2 t)) from by
    unfold Dat.leavesExact; rw [show cfg0.idle 3 (cfg0.grid.coords t) = false from rfl, after0_3]]
  rw [show (dats m 0 c).leavesExact 4 t = owns (c : Thread nD τ) (ms0_4 t) fullShare (out6 (iblk m c 0 t) (iblk m c 1 t) (iblk m c 2 t)) from by
    unfold Dat.leavesExact; rw [show cfg0.idle 4 (cfg0.grid.coords t) = false from rfl, after0_4]]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨⟨%G, HS0⟩, ⟨%A, HS1⟩⟩, Hg⟩, Ho, ⟨%d0, H0⟩, ⟨%d1, H1⟩, ⟨%d2, H2⟩, ⟨%d3, H3⟩, ⟨%d4, H4⟩⟩
  iapply (run c (grid0.coords t) _ _ _ _ _ _ _ _ _ _ _ _ _ _ (iblk m c 0 t) (iblk m c 1 t) (iblk m c 2 t) _ _ G A Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at a grid point is the body there. -/
theorem defs₀_row (t : Fin cfg0.N) :
    defs₀ (F := F) .tc cfg0.body (cfg0.bodyArgs t (cfg0.slots t)) = bodyAt0 t := by
  unfold defs₀; rw [Defs.onTc_tc]

/-- The body's obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every weakly fair run of the call ends with every array at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The two results after the run, by the proof data; the arguments unchanged. -/
theorem run_blocks : θ_run defs (onTc (τ := τ) (main (F := F))) ⟨m, fun _ => 0, ρ⟩ (fun r => ∀ c : Dev nD,
      r.2.mem ((c.tc : Thread nD τ).loc main_v2_0) = (dats m 0 c).arrAt 3 cfg0.N
      ∧ r.2.mem ((c.tc : Thread nD τ).loc main_v2_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.2 c).1 3, (h.2 c).1 4, h.1 c⟩) (θ_run_and (frame_of m ρ (dats m) (A_eq m) (run_main m ρ)) (run_main m ρ))

end Cert.LnIdeal.Body

end
-- ==== Proof.LnSpec.lean ====
/- What the layer norm's call and its reference both compute, over the whole arrays: a token is a two by two patch of the input
   with its channels, normalised, scaled and shifted, and quantised by the power of two above its largest magnitude over 448. -/
module

public import proofs.«01_k».proof.LnIdeal
public import proofs.«01_k».proof.Proof.Pow2Scale
public import Idealize.ShloMosaic.Lib.Pipeline.ValueKit
public import Idealize.ShloMosaic.Lib.Pointwise

@[expose] public section

set_option maxRecDepth 16384

noncomputable section

open Idealize.ShloMosaic Idealize.SL.Sem

namespace Cert.LnSpec

/-- The mean of a token's values. -/
def mu (f : Fin 12800 → EReal) : EReal := (∑ j : Fin 12800, f j) * ((1 / 12800 : ℝ) : EReal)

/-- One over the root of the mean squared deviation from `M`, plus a small constant. -/
def sd (f : Fin 12800 → EReal) (M : EReal) : EReal :=
  Ideal.rsqrt ((∑ j : Fin 12800, (f j - M) * (f j - M)) * ((1 / 12800 : ℝ) : EReal) + Ideal.ofBits .f32 0x3727C5AC#32)

/-- The normalised value of a feature, scaled by `g` and shifted by `b`. -/
def nrm (f g b : Fin 12800 → EReal) (j : Fin 12800) : EReal := (f j - mu f) * sd f (mu f) * g j + b j

/-- The magnitude of an extended real. -/
def mag (x : EReal) : EReal := max x (-x)

theorem mag_nonneg (x : EReal) : 0 ≤ mag x := by
  unfold mag
  rcases le_total 0 x with h | h
  · exact le_max_of_le_left h
  · exact le_max_of_le_right (EReal.neg_nonneg.mpr h)

/-- A token's largest magnitude, over 448 (times the nearest float of 1/448). -/
def quot (f g b : Fin 12800 → EReal) : EReal :=
  (Finset.univ : Finset (Fin 12800)).fold max (Ideal.ofBits .f32 0xFF800000#32) (fun j => mag (nrm f g b j)) * Ideal.ofBits .f32 0x3B124925#32

/-- `v` times `i`, clipped to ±448. -/
def clip (v i : EReal) : EReal := min (Ideal.ofBits .f32 0x43E00000#32) (max (Ideal.ofBits .f32 0xC3E00000#32) (v * i))

/-- The code of a feature. -/
def code (f g b : Fin 12800 → EReal) (j : Fin 12800) : EReal := clip (nrm f g b j) (Ideal.exp2 (0 - Cert.Pow2.level (quot f g b)))

/-- The scale of a token. -/
def scale (f g b : Fin 12800 → EReal) : EReal := Ideal.exp2 (Cert.Pow2.level (quot f g b))

/-- Feature `j` of token `r` of image `n`: the patch is row pair `r % 16`, column pair `r / 16`; the feature is the patch's row,
    then its column, then the channel. -/
def feat (x : FVec Ideal Cert.LnIdeal.S13x32x32x3200 .bf16) (n : Fin 13) (r : Fin 256) (j : Fin 12800) : EReal :=
  x (ix4 n (⟨2 * (r.val % 16) + j.val / 6400, by omega⟩ : Fin 32) (⟨2 * (r.val / 16) + j.val / 3200 % 2, by omega⟩ : Fin 32)
    (⟨j.val % 3200, by omega⟩ : Fin 3200))

/-- The codes. -/
def codes (x : FVec Ideal Cert.LnIdeal.S13x32x32x3200 .bf16) (g b : FVec Ideal Cert.LnIdeal.S12800 .f32) :
    FVec Ideal Cert.LnIdeal.S13x256x12800 .fp8e4m3 := fun i =>
  code (feat x (i 0) (i 1)) (fun j => g (ix1 j)) (fun j => b (ix1 j)) (i 2)

/-- The scales, one per token, repeated along the lanes. -/
def scales (x : FVec Ideal Cert.LnIdeal.S13x32x32x3200 .bf16) (g b : FVec Ideal Cert.LnIdeal.S12800 .f32) :
    FVec Ideal Cert.LnIdeal.S13x256x128 .f32 := fun i =>
  scale (feat x (i 0) (i 1)) (fun j => g (ix1 j)) (fun j => b (ix1 j))

/-! ### The features by slab, half and lane -/

/-- The feature on lane `l` of the half `c` of slab `k`. -/
def col (k c l : ℕ) : Fin 12800 := ⟨((2 * (k / 25) + c) * 3200 + (k % 25) * 128 + l) % 12800, Nat.mod_lt _ (by decide)⟩

/-- Every feature is on one lane of one half of one slab. -/
theorem col_of (j : Fin 12800) : col (25 * (j.val / 6400) + j.val / 128 % 25) (j.val / 3200 % 2) (j.val % 128) = j := by
  apply Fin.ext
  show ((2 * ((25 * (j.val / 6400) + j.val / 128 % 25) / 25) + j.val / 3200 % 2) * 3200 + ((25 * (j.val / 6400) + j.val / 128 % 25) % 25) * 128 + j.val % 128) % 12800 = j.val
  omega

theorem col_val (k c l : ℕ) (hk : k < 50) (hc : c < 2) (hl : l < 128) : (col k c l).val = (2 * (k / 25) + c) * 3200 + (k % 25) * 128 + l :=
  Nat.mod_eq_of_lt (by omega)

/-- Lanes, slabs and halves against features. -/
def cols : Fin 128 × Fin 50 × Fin 2 ≃ Fin 12800 where
  toFun p := col p.2.1.val p.2.2.val p.1.val
  invFun j := (⟨j.val % 128, by omega⟩, ⟨25 * (j.val / 6400) + j.val / 128 % 25, by omega⟩, ⟨j.val / 3200 % 2, by omega⟩)
  left_inv := by
    rintro ⟨l, k, c⟩
    have h := col_val k.val c.val l.val k.isLt c.isLt l.isLt
    have hl := l.isLt
    have hk := k.isLt
    have hc := c.isLt
    refine Prod.ext (Fin.ext ?_) (Prod.ext (Fin.ext ?_) (Fin.ext ?_))
    · show (col k.val c.val l.val).val % 128 = l.val
      omega
    · show 25 * ((col k.val c.val l.val).val / 6400) + (col k.val c.val l.val).val / 128 % 25 = k.val
      omega
    · show (col k.val c.val l.val).val / 3200 % 2 = c.val
      omega
  right_inv := col_of

/-- The sums of all lanes, slabs and halves are the sum of the features. -/
theorem sum_cols (f : Fin 12800 → EReal) :
    ∑ l : Fin 128, ∑ k ∈ Finset.range 50, (f (col k 0 l.val) + f (col k 1 l.val)) = ∑ j : Fin 12800, f j := by
  rw [← Equiv.sum_comp cols f, Fintype.sum_prod_type]
  refine Finset.sum_congr rfl fun l _ => ?_
  rw [Fintype.sum_prod_type, Finset.sum_range]
  refine Finset.sum_congr rfl fun k _ => ?_
  rw [Fin.sum_univ_two]
  rfl

end Cert.LnSpec

end
-- ==== Proof.LnIdealPoint.lean ====
/- The blocks of codes and scales that the layer norm's body leaves, read at an index, over any blocks: every one is what
   `Cert.LnSpec` states of the token's features. -/
module

public import proofs.«01_k».proof.Proof.LnIdealOut
public import proofs.«01_k».proof.Proof.LnSpec

@[expose] public section

set_option maxRecDepth 16384

noncomputable section

open Idealize.ShloMosaic Idealize.ShloMosaic.TcCoe Idealize.SL.Sem

namespace Cert.LnIdeal.Final

open Cert.LnIdeal Cert.LnIdeal.Gen Cert.LnIdeal.Body Cert.LnSpec

/-- Feature `j` of row `p` of a block. -/
def bfeat (x0 : FVec Ideal S1x32x16x3200 .bf16) (p : ℕ) (j : Fin 12800) : EReal :=
  x0 (ix4 (⟨0, by decide⟩ : Fin 1) (⟨(2 * (p % 16) + j.val / 6400) % 32, Nat.mod_lt _ (by decide)⟩ : Fin 32)
    (⟨(2 * (p / 16) + j.val / 3200 % 2) % 16, Nat.mod_lt _ (by decide)⟩ : Fin 16) (⟨j.val % 3200, Nat.mod_lt _ (by decide)⟩ : Fin 3200))

/-- A row of weights. -/
def wrow (x : FVec Ideal S1x12800 .f32) (j : Fin 12800) : EReal := x (ix2 (⟨0, by decide⟩ : Fin 1) j)

theorem half_zero (R : Vec Ideal S8x2x128 .bf16) (a : Fin 8) (l : Fin 128) : k0_pay57 (F := Ideal) R (ix2 a l) = R (ix3 a (0 : Fin 2) l) := by
  unfold k0_pay57
  refine (shapeCast_apply _ _ _ (ix3 a (0 : Fin 1) l) ?_).trans ?_
  · rw [Shape.rowMajor_val_three, Shape.rowMajor_val_two]
    show (a.val * 1 + 0) * 128 + l.val = a.val * 128 + l.val
    omega
  · refine congrArg R (funext fun b => Fin.ext ?_)
    fin_cases b <;> rfl

theorem half_one (R : Vec Ideal S8x2x128 .bf16) (a : Fin 8) (l : Fin 128) : k0_pay58 (F := Ideal) R (ix2 a l) = R (ix3 a (1 : Fin 2) l) := by
  unfold k0_pay58
  refine (shapeCast_apply _ _ _ (ix3 a (0 : Fin 1) l) ?_).trans ?_
  · rw [Shape.rowMajor_val_three, Shape.rowMajor_val_two]
    show (a.val * 1 + 0) * 128 + l.val = a.val * 128 + l.val
    omega
  · refine congrArg R (funext fun b => Fin.ext ?_)
    fin_cases b <;> rfl

/-- Where the row `a` of accumulator `n` comes from. -/
theorem place_row (n a k c l : ℕ) (hn : n < 16) (ha : a < 8) (hk : k < 50) (hc : c < 2) (hl : l < 128) :
    (2 * ((rowOf n + a) % 136 % 17) + k % 50 / 25) % 32 = (2 * ((8 * n + a) % 16) + ((2 * (k / 25) + c) * 3200 + (k % 25) * 128 + l) % 12800 / 6400) % 32
    ∧ (2 * ((rowOf n + a) % 136 / 17) + c) % 16 = (2 * ((8 * n + a) / 16) + ((2 * (k / 25) + c) * 3200 + (k % 25) * 128 + l) % 12800 / 3200 % 2) % 16
    ∧ (128 * (k % 50 % 25) + l) % 3200 = ((2 * (k / 25) + c) * 3200 + (k % 25) * 128 + l) % 12800 % 3200 := by
  have h1 : ((2 * (k / 25) + c) * 3200 + (k % 25) * 128 + l) % 12800 = (2 * (k / 25) + c) * 3200 + (k % 25) * 128 + l := Nat.mod_eq_of_lt (by omega)
  rw [h1]
  rw [Nat.mod_eq_of_lt hk]
  obtain ⟨u, v, hv, hu, rfl⟩ : ∃ u v, v < 2 ∧ u < 8 ∧ n = 2 * u + v := ⟨n / 2, n % 2, by omega, by omega, by omega⟩
  obtain ⟨q, w, hw, hq, rfl⟩ : ∃ q w, w < 25 ∧ q < 2 ∧ k = 25 * q + w := ⟨k / 25, k % 25, by omega, by omega, by omega⟩
  have e1 : rowOf (2 * u + v) = 17 * u + 8 * v := by unfold rowOf; omega
  have e2 : (25 * q + w) / 25 = q := by omega
  have e3 : (25 * q + w) % 25 = w := by omega
  have e4 : (17 * u + 8 * v + a) % 136 = 17 * u + 8 * v + a := by omega
  have e5 : (17 * u + 8 * v + a) % 17 = 8 * v + a := by omega
  have e6 : (17 * u + 8 * v + a) / 17 = u := by omega
  have e7 : (8 * (2 * u + v) + a) % 16 = 8 * v + a := by omega
  have e8 : (8 * (2 * u + v) + a) / 16 = u := by omega
  have e9 : ((2 * q + c) * 3200 + w * 128 + l) / 6400 = q := by omega
  have e10 : ((2 * q + c) * 3200 + w * 128 + l) / 3200 % 2 = c := by omega
  have e11 : ((2 * q + c) * 3200 + w * 128 + l) % 3200 = 128 * w + l := by omega
  rw [e1, e2, e3, e4, e5, e6, e7, e8, e9, e10, e11]
  exact ⟨rfl, rfl, Nat.mod_eq_of_lt (by omega)⟩

/-- A half of a slab holds the features of its rows. -/
theorem half_apply (x0 : FVec Ideal S1x32x16x3200 .bf16) (n k c : ℕ) (hn : n < 16) (hk : k < 50) (hc : c < 2) (a : Fin 8) (l : Fin 128) :
    (show EReal from half (F := Ideal) x0 k n c (ix2 a l)) = bfeat x0 (8 * n + a.val) (col k c l.val) := by
  obtain ⟨h1, h2, h3⟩ := place_row n a.val k c l.val hn a.isLt hk hc l.isLt
  have key : ∀ p : Fin 2, p.val = c → (show EReal from raw (F := Ideal) x0 k n (ix3 a p l)) = bfeat x0 (8 * n + a.val) (col k c l.val) := by
    intro p hp
    unfold raw tab bfeat col
    refine congrArg x0 ?_
    funext b
    refine Fin.ext ?_
    fin_cases b
    · rfl
    · exact h1
    · subst hp; exact h2
    · exact h3
  match c, hc, key with
  | 0, _, key => exact (half_zero _ a l).trans (key 0 rfl)
  | 1, _, key => exact (half_one _ a l).trans (key 1 rfl)

/-- The running sums. -/
theorem S1_apply (x0 : FVec Ideal S1x32x16x3200 .bf16) (n : ℕ) (hn : n < 16) (a : Fin 8) (l : Fin 128) (K : ℕ) (hK : K ≤ 50) :
    (show EReal from S1 (F := Ideal) x0 n K (ix2 a l))
      = ∑ k ∈ Finset.range K, (bfeat x0 (8 * n + a.val) (col k 0 l.val) + bfeat x0 (8 * n + a.val) (col k 1 l.val)) := by
  induction K with
  | zero => rw [Finset.sum_range_zero]; exact Ideal.ofBits_zero_f32
  | succ K ih =>
    rw [Finset.sum_range_succ, ← ih (by omega), ← half_apply x0 n K 0 hn (by omega) (by omega) a l, ← half_apply x0 n K 1 hn (by omega) (by omega) a l]
    rfl

/-- The named constant is one over the number of features. -/
theorem named_inv_k : (Named.named κ "inv_k" 0x38A3D70A#32 : Ideal .f32) = ((1 / 12800 : ℝ) : EReal) := rfl

theorem pay293_apply (A : FVec Ideal S8x128 .f32) (z : S8x128.Idx) :
    (show EReal from k0_pay293 (F := Ideal) A z) = (∑ l : Fin 128, (show EReal from A (ix2 (z 0) l))) * ((1 / 12800 : ℝ) : EReal) := by
  unfold k0_pay293
  rw [named_inv_k]
  generalize ((1 / 12800 : ℝ) : EReal) = C
  pointwise

theorem pay319_apply (A : FVec Ideal S8x128 .f32) (z : S8x128.Idx) :
    (show EReal from k0_pay319 (F := Ideal) A z)
      = Ideal.rsqrt ((∑ l : Fin 128, (show EReal from A (ix2 (z 0) l))) * ((1 / 12800 : ℝ) : EReal) + Ideal.ofBits .f32 0x3727C5AC#32) := by
  unfold k0_pay319
  rw [named_inv_k]
  generalize ((1 / 12800 : ℝ) : EReal) = C
  pointwise

theorem pay336_apply (A : FVec Ideal S8x128 .f32) (z : S8x128.Idx) :
    (show EReal from k0_pay336 (F := Ideal) A z)
      = (Finset.univ : Finset (Fin 128)).fold max (Ideal.ofBits .f32 0xFF800000#32) (fun l => (show EReal from A (ix2 (z 0) l))) * Ideal.ofBits .f32 0x3B124925#32 := by
  pointwise [k0_pay336]

/-- The means. -/
theorem mean_apply (x0 : FVec Ideal S1x32x16x3200 .bf16) (n : ℕ) (hn : n < 16) (a : Fin 8) (l : Fin 128) :
    (show EReal from mean (F := Ideal) x0 n (ix2 a l)) = mu (bfeat x0 (8 * n + a.val)) := by
  refine (pay293_apply _ _).trans ?_
  unfold mu
  rw [← sum_cols]
  refine congrArg (fun s : EReal => s * ((1 / 12800 : ℝ) : EReal)) (Finset.sum_congr rfl fun l' _ => ?_)
  exact S1_apply x0 n hn a l' 50 le_rfl

/-- The running sums of squared deviations. -/
theorem S2_apply (x0 : FVec Ideal S1x32x16x3200 .bf16) (n : ℕ) (hn : n < 16) (a : Fin 8) (l : Fin 128) (K : ℕ) (hK : K ≤ 50) :
    (show EReal from S2 (F := Ideal) x0 (mean x0 n) n K (ix2 a l))
      = ∑ k ∈ Finset.range K, ((bfeat x0 (8 * n + a.val) (col k 0 l.val) - mu (bfeat x0 (8 * n + a.val))) * (bfeat x0 (8 * n + a.val) (col k 0 l.val) - mu (bfeat x0 (8 * n + a.val)))
        + (bfeat x0 (8 * n + a.val) (col k 1 l.val) - mu (bfeat x0 (8 * n + a.val))) * (bfeat x0 (8 * n + a.val) (col k 1 l.val) - mu (bfeat x0 (8 * n + a.val)))) := by
  induction K with
  | zero => rw [Finset.sum_range_zero]; exact Ideal.ofBits_zero_f32
  | succ K ih =>
    rw [Finset.sum_range_succ, ← ih (by omega), ← half_apply x0 n K 0 hn (by omega) (by omega) a l, ← half_apply x0 n K 1 hn (by omega) (by omega) a l, ← mean_apply x0 n hn a l]
    rfl

/-- The inverse deviations. -/
theorem rstd_apply (x0 : FVec Ideal S1x32x16x3200 .bf16) (n : ℕ) (hn : n < 16) (a : Fin 8) (l : Fin 128) :
    (show EReal from rstd (F := Ideal) x0 n (ix2 a l)) = sd (bfeat x0 (8 * n + a.val)) (mu (bfeat x0 (8 * n + a.val))) := by
  refine (pay319_apply _ _).trans ?_
  unfold sd
  rw [← sum_cols (fun j => (bfeat x0 (8 * n + a.val) j - mu (bfeat x0 (8 * n + a.val))) * (bfeat x0 (8 * n + a.val) j - mu (bfeat x0 (8 * n + a.val))))]
  refine congrArg (fun s : EReal => Ideal.rsqrt (s * ((1 / 12800 : ℝ) : EReal) + Ideal.ofBits .f32 0x3727C5AC#32)) (Finset.sum_congr rfl fun l' _ => ?_)
  exact S2_apply x0 n hn a l' 50 le_rfl

theorem pay183_apply (M R : FVec Ideal S8x128 .f32) (v : FVec Ideal S8x128 .bf16) (g b : FVec Ideal S1x128 .f32) (a : Fin 8) (l : Fin 128) :
    (show EReal from k0_pay183 (F := Ideal) M R v g b (ix2 a l))
      = ((show EReal from v (ix2 a l)) - (show EReal from M (ix2 a l))) * (show EReal from R (ix2 a l)) * (show EReal from g (ix2 (0 : Fin 1) l)) + (show EReal from b (ix2 (0 : Fin 1) l)) := by
  pointwise [k0_pay183, k0_pay181, k0_pay182]

/-- The normalised values. -/
theorem lnv_apply (x0 : FVec Ideal S1x32x16x3200 .bf16) (x1 x2 : FVec Ideal S1x12800 .f32) (n k c : ℕ) (hn : n < 16) (hk : k < 50) (hc : c < 2) (a : Fin 8) (l : Fin 128) :
    (show EReal from lnv (F := Ideal) x0 x1 x2 (mean x0 n) (rstd x0 n) n k c (ix2 a l))
      = nrm (bfeat x0 (8 * n + a.val)) (wrow x1) (wrow x2) (col k c l.val) := by
  unfold lnv nrm
  rw [← half_apply x0 n k c hn hk hc a l, ← rstd_apply x0 n hn a l, ← mean_apply x0 n hn a l]
  exact pay183_apply _ _ _ _ _ a l

/-- The running maximum of a lane is at most `b` when every magnitude it has seen is. -/
theorem S3_le (x0 : FVec Ideal S1x32x16x3200 .bf16) (x1 x2 : FVec Ideal S1x12800 .f32) (n : ℕ) (hn : n < 16) (a : Fin 8) (l : Fin 128) (b : EReal) (hb : 0 ≤ b) (K : ℕ) (hK : K ≤ 50) :
    (show EReal from S3 (F := Ideal) x0 x1 x2 (mean x0 n) (rstd x0 n) n K (ix2 a l)) ≤ b
      ↔ ∀ k, k < K → ∀ c, c < 2 → mag (nrm (bfeat x0 (8 * n + a.val)) (wrow x1) (wrow x2) (col k c l.val)) ≤ b := by
  induction K with
  | zero =>
    refine ⟨fun _ k hk => absurd hk (Nat.not_lt_zero _), fun _ => ?_⟩
    exact le_of_eq_of_le Ideal.ofBits_zero_f32 hb
  | succ K ih =>
    have e : (show EReal from S3 (F := Ideal) x0 x1 x2 (mean x0 n) (rstd x0 n) n (K + 1) (ix2 a l))
        = max (max (show EReal from S3 (F := Ideal) x0 x1 x2 (mean x0 n) (rstd x0 n) n K (ix2 a l))
            (mag (show EReal from lnv (F := Ideal) x0 x1 x2 (mean x0 n) (rstd x0 n) n K 0 (ix2 a l))))
          (mag (show EReal from lnv (F := Ideal) x0 x1 x2 (mean x0 n) (rstd x0 n) n K 1 (ix2 a l))) := rfl
    rw [e, lnv_apply x0 x1 x2 n K 0 hn (by omega) (by omega) a l, lnv_apply x0 x1 x2 n K 1 hn (by omega) (by omega) a l, max_le_iff, max_le_iff, ih (by omega)]
    constructor
    · rintro ⟨⟨h, h0⟩, h1⟩ k hk c hc
      rcases Nat.lt_or_ge k K with h' | h'
      · exact h k h' c hc
      · obtain rfl : k = K := by omega
        match c, hc with
        | 0, _ => exact h0
        | 1, _ => exact h1
    · intro h
      exact ⟨⟨fun k hk => h k (by omega), h K (by omega) 0 (by omega)⟩, h K (by omega) 1 (by omega)⟩

/-- The largest of the lanes' maxima, over 448. -/
theorem quot_top (x0 : FVec Ideal S1x32x16x3200 .bf16) (x1 x2 : FVec Ideal S1x12800 .f32) (n : ℕ) (hn : n < 16) (a : Fin 8) (l : Fin 128) :
    (show EReal from k0_pay336 (F := Ideal) (top x0 x1 x2 n) (ix2 a l)) = quot (bfeat x0 (8 * n + a.val)) (wrow x1) (wrow x2) := by
  refine (pay336_apply _ _).trans ?_
  unfold quot
  refine congrArg (fun s : EReal => s * Ideal.ofBits .f32 0x3B124925#32) ?_
  have hpos : ∀ K, K ≤ 50 → ∀ l' : Fin 128, (0 : EReal) ≤ (show EReal from S3 (F := Ideal) x0 x1 x2 (mean x0 n) (rstd x0 n) n K (ix2 a l')) := by
    intro K
    induction K with
    | zero => exact fun _ l' => le_of_eq Ideal.ofBits_zero_f32.symm
    | succ K ih => exact fun hK l' => le_trans (ih (by omega) l') (le_trans (le_max_left _ _) (le_max_left _ _))
  refine eq_of_forall_ge_iff fun b => ?_
  rw [Finset.fold_max_le, Finset.fold_max_le]
  refine and_congr_right fun _ => ⟨fun h j _ => ?_, fun h l' _ => ?_⟩
  · have hl := h (⟨j.val % 128, Nat.mod_lt _ (by decide)⟩ : Fin 128) (Finset.mem_univ _)
    have hb : 0 ≤ b := le_trans (hpos 50 le_rfl _) hl
    have h' := (S3_le x0 x1 x2 n hn a _ b hb 50 le_rfl).1 hl (25 * (j.val / 6400) + j.val / 128 % 25) (by omega) (j.val / 3200 % 2) (by omega)
    rw [show col (25 * (j.val / 6400) + j.val / 128 % 25) (j.val / 3200 % 2) (⟨j.val % 128, Nat.mod_lt _ (by decide)⟩ : Fin 128).val = j from col_of j] at h'
    exact h'
  · have hb : 0 ≤ b := le_trans (mag_nonneg _) (h (col 0 0 0) (Finset.mem_univ _))
    exact (S3_le x0 x1 x2 n hn a l' b hb 50 le_rfl).2 fun k _ c _ => h _ (Finset.mem_univ _)

theorem pay343_apply (W I : IVec S8x128 32) (a : Fin 8) (l : Fin 128) :
    k0_pay343 (F := Ideal) W I (ix3 (0 : Fin 1) a l)
      = bitcastToFloat (F := Ideal) .f32 (shli (addi (k0_pay341 W I) (broadcast S8x128 127#32)) (broadcast S8x128 23#32)) (ix2 a l) := by
  unfold k0_pay343
  exact ValueIdx.shapeCast_ab_1ab_apply _ _ _ _ _

/-- The scale is the upward power of two of the quotient. -/
theorem scl_apply (A : FVec Ideal S8x128 .f32) (a : Fin 8) (l : Fin 128) :
    (show EReal from scl (F := Ideal) A (ix3 (0 : Fin 1) a l)) = Ideal.exp2 (Cert.Pow2.level (k0_pay336 (F := Ideal) A (ix2 a l))) := by
  refine (pay343_apply _ _ a l).trans (Eq.trans ?_ (Cert.Pow2.both (k0_pay336 (F := Ideal) A (ix2 a l))).1)
  rfl

/-- The reciprocal of the scale is the downward one. -/
theorem rcp_apply (A : FVec Ideal S8x128 .f32) (z : S8x128.Idx) :
    (show EReal from rcp (F := Ideal) A z) = Ideal.exp2 (0 - Cert.Pow2.level (k0_pay336 (F := Ideal) A z)) := by
  refine Eq.trans ?_ (Cert.Pow2.both (k0_pay336 (F := Ideal) A z)).2
  rfl

end Cert.LnIdeal.Final

end
-- ==== Proof.LnKernel.lean ====
/- The layer norm's two result arrays after its run: the blocks at every grid point, read at an index, are the codes and the scales that
   `Cert.LnSpec` states, at the block's place. -/
module

public import proofs.«01_k».proof.Proof.LnIdealBody
public import proofs.«01_k».proof.Proof.LnIdealPoint
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LnIdeal.Final

open Cert.LnIdeal Cert.LnIdeal.Gen Cert.LnIdeal.Body Cert.LnSpec

/-- All the reciprocals, read at an index. -/
theorem cat_apply (x0 : FVec Ideal S1x32x16x3200 .bf16) (x1 x2 : FVec Ideal S1x12800 .f32) (p : Fin 128) (l : Fin 128) :
    cat (F := Ideal) x0 x1 x2 (ix2 p l) = rcp (top x0 x1 x2 (p.val / 8)) (ix2 (⟨p.val % 8, Nat.mod_lt _ (by decide)⟩ : Fin 8) l) := by
  have hp := p.isLt
  exact concatenate_ofFn_apply (t := S128x128) (s₁ := S8x128) 0 (N := 16) (fun n => rcp (F := Ideal) (top x0 x1 x2 n.val)) _ rfl 8 rfl (ix2 p l)
    (⟨p.val / 8, by omega⟩ : Fin 16) rfl (ix2 (⟨p.val % 8, Nat.mod_lt _ (by decide)⟩ : Fin 8) l) rfl (fun b hb => by
      fin_cases b
      · exact absurd rfl hb
      · rfl)

/-- The wide rows are the normalised values. -/
theorem wide_apply (x0 : FVec Ideal S1x32x16x3200 .bf16) (x1 x2 : FVec Ideal S1x12800 .f32) (p : Fin 128) (j : Fin 12800) :
    (show EReal from wide (F := Ideal) x0 x1 x2 (mean x0) (rstd x0) (ix2 p j)) = nrm (bfeat x0 p.val) (wrow x1) (wrow x2) j := by
  have hp := p.isLt
  have hj := j.isLt
  have h := lnv_apply x0 x1 x2 (p.val / 8) (25 * (j.val / 6400) + j.val / 128 % 25) (j.val / 3200 % 2) (by omega) (by omega) (by omega)
    (⟨p.val % 8, Nat.mod_lt _ (by decide)⟩ : Fin 8) (⟨j.val % 128, Nat.mod_lt _ (by decide)⟩ : Fin 128)
  refine (show _ = _ from h).trans ?_
  have e1 : 8 * (p.val / 8) + p.val % 8 = p.val := by omega
  show nrm (bfeat x0 (8 * (p.val / 8) + p.val % 8)) (wrow x1) (wrow x2) (col (25 * (j.val / 6400) + j.val / 128 % 25) (j.val / 3200 % 2) (j.val % 128)) = _
  rw [e1, col_of]

/-- The quotient of a row. -/
theorem quot_row (x0 : FVec Ideal S1x32x16x3200 .bf16) (x1 x2 : FVec Ideal S1x12800 .f32) (p : Fin 128) (l : Fin 128) :
    (show EReal from k0_pay336 (F := Ideal) (top x0 x1 x2 (p.val / 8)) (ix2 (⟨p.val % 8, Nat.mod_lt _ (by decide)⟩ : Fin 8) l))
      = quot (bfeat x0 p.val) (wrow x1) (wrow x2) := by
  have hp := p.isLt
  refine (quot_top x0 x1 x2 (p.val / 8) (by omega) _ l).trans ?_
  have e1 : 8 * (p.val / 8) + p.val % 8 = p.val := by omega
  show quot (bfeat x0 (8 * (p.val / 8) + p.val % 8)) (wrow x1) (wrow x2) = _
  rw [e1]

theorem pay2_apply (I W : FVec Ideal S128x128 .f32) (p l : Fin 128) :
    (show EReal from k0_pay2 (F := Ideal) I W (ix3 (0 : Fin 1) p l)) = clip (W (ix2 p l)) (I (ix2 p l)) := by
  unfold k0_pay2
  exact ValueIdx.shapeCast_ab_1ab_apply _ _ _ _ _

/-- The block of codes, read at an index. -/
theorem out5_apply (x0 : FVec Ideal S1x32x16x3200 .bf16) (x1 x2 : FVec Ideal S1x12800 .f32) (p : Fin 128) (j : Fin 12800) :
    (show EReal from out5 (F := Ideal) x0 x1 x2 (ix3 (0 : Fin 1) p j)) = code (bfeat x0 p.val) (wrow x1) (wrow x2) j := by
  have hj := j.isLt
  have e : (⟨(128 * (j.val / 128) + j.val % 128) % 12800, Nat.mod_lt _ (by decide)⟩ : Fin 12800) = j := Fin.ext (by
    show (128 * (j.val / 128) + j.val % 128) % 12800 = j.val
    omega)
  unfold out5 Body.codes code
  refine (pay2_apply _ _ p _).trans ?_
  refine congrArg₂ clip ?_ ?_
  · refine (congrArg (fun q : Fin 12800 => (show EReal from wide (F := Ideal) x0 x1 x2 (mean x0) (rstd x0) (ix2 p q))) e).trans ?_
    exact wide_apply x0 x1 x2 p j
  · refine (cat_apply x0 x1 x2 p _).trans ((rcp_apply _ _).trans ?_)
    exact congrArg (fun q : EReal => Ideal.exp2 (0 - Cert.Pow2.level q)) (quot_row x0 x1 x2 p _)

/-- The block of scales, read at an index. -/
theorem out6_apply (x0 : FVec Ideal S1x32x16x3200 .bf16) (x1 x2 : FVec Ideal S1x12800 .f32) (p l : Fin 128) :
    (show EReal from out6 (F := Ideal) x0 x1 x2 (ix3 (0 : Fin 1) p l)) = scale (bfeat x0 p.val) (wrow x1) (wrow x2) := by
  unfold out6 scale
  refine (scl_apply _ _ l).trans ?_
  exact congrArg (fun q : EReal => Ideal.exp2 (Cert.Pow2.level q)) (quot_row x0 x1 x2 p l)

/-! ### The blocks in the arrays -/

variable (m : (ℓ : Loc nD τ sig) → Buf (Elt Ideal) ℓ)

/-- Which block every window holds at every grid point. -/
theorem idx : ∀ t : Fin cfg0.N, win0_0.index t = ![t.val / 2, 0, t.val % 2, 0] ∧ win0_1.index t = ![0, 0]
    ∧ win0_2.index t = ![0, 0] ∧ win0_3.index t = ![t.val / 2, t.val % 2, 0] ∧ win0_4.index t = ![t.val / 2, t.val % 2, 0] ∧ t.val / 2 < 13 :=
  (by decide +kernel : ∀ t : Fin grid0.N, _)

/-- A vector laid out as one row, read at an index. -/
theorem row_apply (v : FVec Ideal S12800 .f32) (j : Fin 12800) :
    shapeCast S1x12800 v shapeCasts_S12800_S1x12800 (ix2 (0 : Fin 1) j) = v (ix1 j) := by
  pointwise

/-- The image of a grid point. -/
def img (t : Fin cfg0.N) : Fin 13 := ⟨t.val / 2, (idx t).2.2.2.2.2⟩

/-- The token that row `p` of a grid point's block is. -/
def token (t : Fin cfg0.N) (p : Fin 128) : Fin 256 := ⟨128 * (t.val % 2) + p.val, by have := p.isLt; omega⟩

/-- The input block at a point, read at an index. -/
theorem read0 (c : Dev nD) (t : Fin cfg0.N) (i : Fin 32) (q : Fin 16) (k : Fin 3200) :
    iblk m c 0 t (ix4 (0 : Fin 1) i q k) = m ((c : Thread nD τ).loc main_arg0) (ix4 (img t) i (⟨16 * (t.val % 2) + q.val, by have := q.isLt; omega⟩ : Fin 32) k) := by
  blk_ext [iblk, V, idx t, img]

/-- The features of a row of a block are the token's. -/
theorem bfeat_apply (c : Dev nD) (t : Fin cfg0.N) (p : Fin 128) :
    bfeat (iblk m c 0 t) p.val = feat (m ((c : Thread nD τ).loc main_arg0)) (img t) (token t p) := by
  funext j
  have hp := p.isLt
  have hj := j.isLt
  unfold bfeat feat
  refine (read0 m c t _ _ _).trans ?_
  congr 1
  funext b
  refine Fin.ext ?_
  fin_cases b
  · rfl
  · show (2 * (p.val % 16) + j.val / 6400) % 32 = 2 * ((128 * (t.val % 2) + p.val) % 16) + j.val / 6400
    omega
  · show 16 * (t.val % 2) + (2 * (p.val / 16) + j.val / 3200 % 2) % 16 = 2 * ((128 * (t.val % 2) + p.val) / 16) + j.val / 3200 % 2
    omega
  · rfl

/-- The weights at a point. -/
theorem read1 (c : Dev nD) (t : Fin cfg0.N) : wrow (iblk m c 1 t) = fun j => m ((c : Thread nD τ).loc main_arg1) (ix1 j) := by
  funext j
  have h : V m c main_v0 = shapeCast S1x12800 (m ((c : Thread nD τ).loc main_arg1)) shapeCasts_S12800_S1x12800 := by
    entry_read; rfl
  have h2 : iblk m c 1 t (ix2 (0 : Fin 1) j) = V m c main_v0 (ix2 (0 : Fin 1) j) := by
    blk_ext [iblk, idx t]
  exact h2.trans ((congrFun h _).trans (row_apply _ _))

/-- The biases at a point. -/
theorem read2 (c : Dev nD) (t : Fin cfg0.N) : wrow (iblk m c 2 t) = fun j => m ((c : Thread nD τ).loc main_arg2) (ix1 j) := by
  funext j
  have h : V m c main_v1 = shapeCast S1x12800 (m ((c : Thread nD τ).loc main_arg2)) shapeCasts_S12800_S1x12800 := by
    entry_read; rfl
  have h2 : iblk m c 2 t (ix2 (0 : Fin 1) j) = V m c main_v1 (ix2 (0 : Fin 1) j) := by
    blk_ext [iblk, idx t]
  exact h2.trans ((congrFun h _).trans (row_apply _ _))

theorem code_at (c : Dev nD) (t : Fin cfg0.N) (p : Fin 128) (j : Fin 12800) :
    code (bfeat (iblk m c 0 t) p.val) (wrow (iblk m c 1 t)) (wrow (iblk m c 2 t)) j
      = Cert.LnSpec.codes (m ((c : Thread nD τ).loc main_arg0)) (m ((c : Thread nD τ).loc main_arg1)) (m ((c : Thread nD τ).loc main_arg2)) (ix3 (img t) (token t p) j) := by
  rw [bfeat_apply, read1, read2]
  rfl

theorem scale_at (c : Dev nD) (t : Fin cfg0.N) (p l : Fin 128) :
    scale (bfeat (iblk m c 0 t) p.val) (wrow (iblk m c 1 t)) (wrow (iblk m c 2 t))
      = Cert.LnSpec.scales (m ((c : Thread nD τ).loc main_arg0)) (m ((c : Thread nD τ).loc main_arg1)) (m ((c : Thread nD τ).loc main_arg2)) (ix3 (img t) (token t p) l) := by
  rw [bfeat_apply, read1, read2]
  rfl

/-- The codes after the run. -/
theorem final3 (c : Dev nD) : (dats m 0 c).arrAt 3 (cfgs 0).N
    = Cert.LnSpec.codes (m ((c : Thread nD τ).loc main_arg0)) (m ((c : Thread nD τ).loc main_arg1)) (m ((c : Thread nD τ).loc main_arg2)) := by
  refine (dats m 0 c).arrAt_eq_of_covers 3 _ (by decide +kernel) fun t _ y => ?_
  have hr : ((((cfg0.win 3).blk t).view.emb y : S13x256x12800.Idx)) = ix3 (img t) (token t (y 1)) (y 2) := by
    blk_ext [idx t, img, token]
  refine (show _ = _ from ?_ : (show EReal from (dats m 0 c).after 3 t y) = _)
  rw [after0_3]
  have hy : y = ix3 (0 : Fin 1) (y 1 : Fin 128) (y 2 : Fin 12800) := by
    refine (eq_ix3 y).trans ?_
    congr 1
    exact Fin.ext (by have h0 : (y 0).val < 1 := (y 0).isLt; show (y 0).val = 0; omega)
  refine (congrArg (out5 (F := Ideal) (iblk m c 0 t) (iblk m c 1 t) (iblk m c 2 t)) hy).trans ((out5_apply _ _ _ (y 1) (y 2)).trans ((code_at m c t (y 1) (y 2)).trans ?_))
  show _ = Cert.LnSpec.codes _ _ _ (((cfg0.win 3).blk t).view.emb y)
  rw [hr]
  rfl

/-- The scales after the run. -/
theorem final4 (c : Dev nD) : (dats m 0 c).arrAt 4 (cfgs 0).N
    = Cert.LnSpec.scales (m ((c : Thread nD τ).loc main_arg0)) (m ((c : Thread nD τ).loc main_arg1)) (m ((c : Thread nD τ).loc main_arg2)) := by
  refine (dats m 0 c).arrAt_eq_of_covers 4 _ (by decide +kernel) fun t _ y => ?_
  have hr : ((((cfg0.win 4).blk t).view.emb y : S13x256x128.Idx)) = ix3 (img t) (token t (y 1)) (y 2) := by
    blk_ext [idx t, img, token]
  refine (show _ = _ from ?_ : (show EReal from (dats m 0 c).after 4 t y) = _)
  rw [after0_4]
  have hy : y = ix3 (0 : Fin 1) (y 1 : Fin 128) (y 2 : Fin 128) := by
    refine (eq_ix3 y).trans ?_
    congr 1
    exact Fin.ext (by have h0 : (y 0).val < 1 := (y 0).isLt; show (y 0).val = 0; omega)
  refine (congrArg (out6 (F := Ideal) (iblk m c 0 t) (iblk m c 1 t) (iblk m c 2 t)) hy).trans ((out6_apply _ _ _ (y 1) (y 2)).trans ((scale_at m c t (y 1) (y 2)).trans ?_))
  show _ = Cert.LnSpec.scales _ _ _ (((cfg0.win 4).blk t).view.emb y)
  rw [hr]
  rfl

end Cert.LnIdeal.Final

end
-- ==== Proof.LnRefPoint.lean ====
/- What the layer norm's reference stores, over the whole arrays: every code and every scale is what `Cert.LnSpec` states of the
   token's features. -/
module

public import proofs.«01_k».proof.Proof.Gen.LnRefIdeal.Value
public import proofs.«01_k».proof.Proof.LnSpec

@[expose] public section

set_option maxRecDepth 16384

noncomputable section

open Idealize.ShloMosaic Idealize.ShloMosaic.TcCoe Idealize.SL.Sem
open Idealize.ShloMosaic.Pipeline (Dat)

namespace Cert.LnRefIdeal.Final

open Cert.LnRefIdeal Cert.LnRefIdeal.Gen Cert.LnSpec

variable (m : (ℓ : Loc nD τ sig) → Buf (Elt Ideal) ℓ)

/-- Every window holds its whole array at the one grid point. -/
theorem idx : ∀ t : Fin cfg0.N, win0_0.index t = ![0, 0, 0] ∧ win0_1.index t = ![0, 0, 0]
    ∧ win0_2.index t = ![0, 0, 0] ∧ win0_3.index t = ![0, 0, 0] ∧ win0_4.index t = ![0, 0, 0] :=
  (by decide +kernel : ∀ t : Fin grid0.N, _)

/-- A vector laid out along the last axis, read at an index. -/
theorem row_apply (v : FVec Ideal S12800 .f32) (j : Fin 12800) :
    broadcastInDim S1x1x12800 ![2] bcast_S12800_S1x1x12800_2 v (ix3 (0 : Fin 1) (0 : Fin 1) j) = v (ix1 j) := by
  pointwise

/-- The patches, one token per row. -/
def patches (x : FVec Ideal S13x32x32x3200 .bf16) : FVec Ideal S13x256x12800 .f32 :=
  extf (F := Ideal) .f32 (shapeCast S13x256x12800 (transpose S13x16x16x2x2x3200 [0, 3, 1, 2, 4, 5]
    (shapeCast S13x16x2x16x2x3200 x shapeCasts_S13x32x32x3200_S13x16x2x16x2x3200) transposes_S13x16x2x16x2x3200_S13x16x16x2x2x3200_0_3_1_2_4_5)
    shapeCasts_S13x16x16x2x2x3200_S13x256x12800) bitsLt_bf16_f32

/-- The patches, read at an index. -/
theorem patch_apply (x : FVec Ideal S13x32x32x3200 .bf16) (n : Fin 13) (r : Fin 256) (j : Fin 12800) :
    shapeCast S13x256x12800 (transpose S13x16x16x2x2x3200 [0, 3, 1, 2, 4, 5]
      (shapeCast S13x16x2x16x2x3200 x shapeCasts_S13x32x32x3200_S13x16x2x16x2x3200) transposes_S13x16x2x16x2x3200_S13x16x16x2x2x3200_0_3_1_2_4_5)
      shapeCasts_S13x16x16x2x2x3200_S13x256x12800 (ix3 n r j) = feat x n r j := by
  have hr := r.isLt
  have hj := j.isLt
  refine (shapeCast_apply _ _ _ (ix6 n (⟨r.val / 16, by omega⟩ : Fin 16) (⟨r.val % 16, by omega⟩ : Fin 16) (⟨j.val / 6400, by omega⟩ : Fin 2)
    (⟨j.val / 3200 % 2, by omega⟩ : Fin 2) (⟨j.val % 3200, by omega⟩ : Fin 3200)) ?_).trans ?_
  · rw [Shape.rowMajor_val_six, Shape.rowMajor_val_three]
    show ((((n.val * 16 + r.val / 16) * 16 + r.val % 16) * 2 + j.val / 6400) * 2 + j.val / 3200 % 2) * 3200 + j.val % 3200 = (n.val * 256 + r.val) * 12800 + j.val
    omega
  refine (transpose_apply _ _ _ _ (ix6 n (⟨r.val % 16, by omega⟩ : Fin 16) (⟨j.val / 6400, by omega⟩ : Fin 2) (⟨r.val / 16, by omega⟩ : Fin 16)
    (⟨j.val / 3200 % 2, by omega⟩ : Fin 2) (⟨j.val % 3200, by omega⟩ : Fin 3200)) ?_).trans ?_
  · intro b
    fin_cases b <;> rfl
  unfold feat
  refine shapeCast_apply _ _ _ _ ?_
  rw [Shape.rowMajor_val_four, Shape.rowMajor_val_six]
  show ((n.val * 32 + (2 * (r.val % 16) + j.val / 6400)) * 32 + (2 * (r.val / 16) + j.val / 3200 % 2)) * 3200 + j.val % 3200
    = ((((n.val * 16 + r.val % 16) * 2 + j.val / 6400) * 16 + r.val / 16) * 2 + j.val / 3200 % 2) * 3200 + j.val % 3200
  omega

theorem patches_apply (x : FVec Ideal S13x32x32x3200 .bf16) (n : Fin 13) (r : Fin 256) (j : Fin 12800) :
    (show EReal from patches x (ix3 n r j)) = feat x n r j := by
  refine Eq.trans ?_ (patch_apply x n r j)
  rfl

/-- The block of patches, read at an index. -/
theorem read0 (c : Dev nD) (t : Fin cfg0.N) (n : Fin 13) (r : Fin 256) (j : Fin 12800) :
    (show EReal from iblk m c 0 t (ix3 n r j)) = feat (m ((c : Thread nD τ).loc main_arg0)) n r j := by
  have h : V m c main_v3 = patches (m ((c : Thread nD τ).loc main_arg0)) := by
    entry_read; rfl
  have h2 : iblk m c 0 t (ix3 n r j) = V m c main_v3 (ix3 n r j) := by
    blk_ext [iblk, idx t]
  refine Eq.trans ?_ (patches_apply _ n r j)
  rw [h2, h]

/-- The weights, read at an index. -/
theorem read1 (c : Dev nD) (t : Fin cfg0.N) (j : Fin 12800) :
    iblk m c 1 t (ix3 (0 : Fin 1) (0 : Fin 1) j) = m ((c : Thread nD τ).loc main_arg1) (ix1 j) := by
  have h : V m c main_v4 = broadcastInDim S1x1x12800 ![2] bcast_S12800_S1x1x12800_2 (m ((c : Thread nD τ).loc main_arg1)) := by
    entry_read; rfl
  have h2 : iblk m c 1 t (ix3 (0 : Fin 1) (0 : Fin 1) j) = V m c main_v4 (ix3 (0 : Fin 1) (0 : Fin 1) j) := by
    blk_ext [iblk, idx t]
  rw [h2, h]
  exact row_apply _ _

/-- The biases, read at an index. -/
theorem read2 (c : Dev nD) (t : Fin cfg0.N) (j : Fin 12800) :
    iblk m c 2 t (ix3 (0 : Fin 1) (0 : Fin 1) j) = m ((c : Thread nD τ).loc main_arg2) (ix1 j) := by
  have h : V m c main_v5 = broadcastInDim S1x1x12800 ![2] bcast_S12800_S1x1x12800_2 (m ((c : Thread nD τ).loc main_arg2)) := by
    entry_read; rfl
  have h2 : iblk m c 2 t (ix3 (0 : Fin 1) (0 : Fin 1) j) = V m c main_v5 (ix3 (0 : Fin 1) (0 : Fin 1) j) := by
    blk_ext [iblk, idx t]
  rw [h2, h]
  exact row_apply _ _

/-- The number of features, as the float it is. -/
theorem count_eq : Ideal.ofBits .f32 0x46480000#32 = ((12800 : ℝ) : EReal) := by
  have hn : (0x46480000#32).extractLsb' 31 1 = 0#1 := by decide +kernel
  have he : ((0x46480000#32).extractLsb' 23 8).toNat = 140 := by decide +kernel
  have hf : ((0x46480000#32).extractLsb' 0 23).toNat = 4718592 := by decide +kernel
  show Ideal.ieee 8 23 0x46480000#32 = _
  unfold Ideal.ieee
  simp only [he, hf]
  rw [if_neg (by omega), if_neg (by omega)]
  simp only [Nat.reduceAdd, hn]
  congr 1
  norm_num

/-- A quotient by the number of features. -/
theorem div_count (x : EReal) : Ideal.div x (Ideal.ofBits .f32 0x46480000#32) = x * ((1 / 12800 : ℝ) : EReal) := by
  rw [count_eq]
  exact Ideal.div_coe (by norm_num) x

/-- The normalised values, over the whole arrays. -/
theorem pay4_apply (x0 : FVec Ideal S13x256x12800 .f32) (x1 x2 : FVec Ideal S1x1x12800 .f32) (n : Fin 13) (r : Fin 256) (j : Fin 12800) :
    (show EReal from k0_pay4 (F := Ideal) x0 x1 x2 (ix3 n r j))
      = nrm (fun j => x0 (ix3 n r j)) (fun j => x1 (ix3 (0 : Fin 1) (0 : Fin 1) j)) (fun j => x2 (ix3 (0 : Fin 1) (0 : Fin 1) j)) j := by
  unfold nrm sd mu
  simp only [← div_count]
  pointwise [k0_pay4]

/-- The maximum along the last axis, read at an index. -/
theorem rowmax {n0 n1 n2 : ℕ} (P : FVec Ideal (⟨3, ![n0, n1, n2]⟩ : Shape) .f32) (acc : BitVec 32)
    (h : (⟨3, ![n0, n1, n2]⟩ : Shape).Reduces [2] (⟨2, ![n0, n1]⟩ : Shape)) (hφ : FKind.Formats .f32)
    (hacc : acc = FKind.maximumf.neutral .f32 hφ) (n : Fin n0) (r : Fin n1) :
    multiReduction (F := Ideal) .maximumf [2] (⟨2, ![n0, n1]⟩ : Shape) P acc h hφ hacc (ix2 n r)
      = (Finset.univ : Finset (Fin n2)).fold max (Ideal.ofBits .f32 acc) (fun j => (show EReal from P (ix3 n r j))) := by
  rw [multiReduction_maximumf_eq_fold, Shape.Reduces.fold_fiber_r3_a2]
  rfl

/-- A matrix as a column, times the nearest float of 1/448. -/
theorem column_apply (w : FVec Ideal S13x256 .f32) (n : Fin 13) (r : Fin 256) :
    (show EReal from mulf (shapeCast S13x256x1 w shapeCasts_S13x256_S13x256x1) (broadcast S13x256x1 (Scalar.ofBits (F := Ideal) .f32 0x3B124925#32)) (ix3 n r (0 : Fin 1)))
      = (show EReal from w (ix2 n r)) * Ideal.ofBits .f32 0x3B124925#32 := by
  pointwise

/-- The largest magnitude of a token over 448. -/
theorem pay5_apply (x0 : FVec Ideal S13x256x12800 .f32) (x1 x2 : FVec Ideal S1x1x12800 .f32) (n : Fin 13) (r : Fin 256) :
    (show EReal from k0_pay5 (F := Ideal) x0 x1 x2 (ix3 n r (0 : Fin 1)))
      = (Finset.univ : Finset (Fin 12800)).fold max (Ideal.ofBits .f32 0xFF800000#32)
          (fun j => mag (k0_pay4 (F := Ideal) x0 x1 x2 (ix3 n r j))) * Ideal.ofBits .f32 0x3B124925#32 := by
  refine (column_apply _ n r).trans ?_
  exact congrArg (fun q : EReal => q * Ideal.ofBits .f32 0x3B124925#32) (rowmax (absf (k0_pay4 (F := Ideal) x0 x1 x2)) _ _ _ _ n r)

/-- The named constant is the logarithm of two. -/
theorem named_ln2 : (Named.named κ "ln2" 0x3F317218#32 : Ideal .f32) = ((Real.log 2 : ℝ) : EReal) := rfl

/-- The exponent of a token, from its quotient. -/
theorem level_of (P : FVec Ideal S13x256x1 .f32) (L : Ideal .f32) (hL : L = ((Real.log 2 : ℝ) : EReal)) (z : S13x256x1.Idx) :
    (show EReal from select (andi (cmpf .oge P (broadcast S13x256x1 (Scalar.ofBits (F := Ideal) .f32 0x00800000#32)))
        (cmpf .olt P (broadcast S13x256x1 (Scalar.ofBits (F := Ideal) .f32 0x7B800000#32))))
      (addf (floor (divf (log P) (broadcast S13x256x1 L))) (broadcast S13x256x1 (Scalar.ofBits (F := Ideal) .f32 0x3F800000#32)))
      (broadcast S13x256x1 (Scalar.ofBits (F := Ideal) .f32 0x00000000#32)) z) = Cert.Pow2.level (P z) := by
  subst hL
  unfold Cert.Pow2.level
  have h1 : (1 : EReal) = Ideal.ofBits .f32 0x3F800000#32 := Ideal.ofBits_one_f32.symm
  have h0 : (0 : EReal) = Ideal.ofBits .f32 0x00000000#32 := Ideal.ofBits_zero_f32.symm
  rw [h1, h0]
  rfl

/-- The exponent of a token. -/
theorem level_apply (x0 : FVec Ideal S13x256x12800 .f32) (x1 x2 : FVec Ideal S1x1x12800 .f32) (z : S13x256x1.Idx) :
    (show EReal from k0_pay1 (F := Ideal) (k0_pay5 (F := Ideal) x0 x1 x2) (k0_pay6 (F := Ideal) x0 x1 x2) (k0_pay7 (F := Ideal) x0 x1 x2) k0_pay8 z)
      = Cert.Pow2.level (k0_pay5 (F := Ideal) x0 x1 x2 z) := by
  unfold k0_pay1 k0_pay6 k0_pay7 k0_pay8
  exact level_of (k0_pay5 (F := Ideal) x0 x1 x2) _ named_ln2 z

/-- A code is the clipped product. -/
theorem pay2_apply (A : FVec Ideal S13x256x12800 .f32) (Q V : FVec Ideal S13x256x1 .f32) (B : IVec S13x256x1 1) (s : FVec Ideal S13x256x1 .f32) (n : Fin 13) (r : Fin 256) (j : Fin 12800) :
    (show EReal from k0_pay2 (F := Ideal) A Q V B s (ix3 n r j))
      = clip (A (ix3 n r j)) (Ideal.exp2 (0 - (show EReal from k0_pay1 (F := Ideal) Q V B s (ix3 n r (0 : Fin 1))))) := by
  unfold k0_pay2
  generalize k0_pay1 (F := Ideal) Q V B s = P
  pointwise [clip]
  rfl

/-- A scale is the power of two. -/
theorem pay3_apply (Q V : FVec Ideal S13x256x1 .f32) (B : IVec S13x256x1 1) (s : FVec Ideal S13x256x1 .f32) (n : Fin 13) (r : Fin 256) (l : Fin 128) :
    (show EReal from k0_pay3 (F := Ideal) Q V B s (ix3 n r l))
      = Ideal.exp2 (show EReal from k0_pay1 (F := Ideal) Q V B s (ix3 n r (0 : Fin 1))) := by
  unfold k0_pay3
  generalize k0_pay1 (F := Ideal) Q V B s = P
  pointwise
  rfl

/-- The normalised values, over the arrays that memory `m` holds. -/
theorem norm_eq (c : Dev nD) (t : Fin cfg0.N) (n : Fin 13) (r : Fin 256) (j : Fin 12800) :
    (show EReal from k0_pay4 (F := Ideal) (iblk m c 0 t) (iblk m c 1 t) (iblk m c 2 t) (ix3 n r j))
      = nrm (feat (m ((c : Thread nD τ).loc main_arg0)) n r) (fun j => m ((c : Thread nD τ).loc main_arg1) (ix1 j)) (fun j => m ((c : Thread nD τ).loc main_arg2) (ix1 j)) j := by
  refine (pay4_apply _ _ _ n r j).trans ?_
  rw [show (fun j => iblk m c 0 t (ix3 n r j)) = feat (m ((c : Thread nD τ).loc main_arg0)) n r from funext fun j => read0 m c t n r j,
    show (fun j => iblk m c 1 t (ix3 (0 : Fin 1) (0 : Fin 1) j)) = (fun j => m ((c : Thread nD τ).loc main_arg1) (ix1 j)) from funext fun j => read1 m c t j,
    show (fun j => iblk m c 2 t (ix3 (0 : Fin 1) (0 : Fin 1) j)) = (fun j => m ((c : Thread nD τ).loc main_arg2) (ix1 j)) from funext fun j => read2 m c t j]

/-- The quotient, over the arrays that memory `m` holds. -/
theorem quot_eq (c : Dev nD) (t : Fin cfg0.N) (n : Fin 13) (r : Fin 256) :
    (show EReal from k0_pay5 (F := Ideal) (iblk m c 0 t) (iblk m c 1 t) (iblk m c 2 t) (ix3 n r (0 : Fin 1)))
      = quot (feat (m ((c : Thread nD τ).loc main_arg0)) n r) (fun j => m ((c : Thread nD τ).loc main_arg1) (ix1 j)) (fun j => m ((c : Thread nD τ).loc main_arg2) (ix1 j)) := by
  refine (pay5_apply _ _ _ n r).trans ?_
  unfold quot
  exact congrArg (fun f : Fin 12800 → EReal => (Finset.univ : Finset (Fin 12800)).fold max (Ideal.ofBits .f32 0xFF800000#32) f * Ideal.ofBits .f32 0x3B124925#32)
    (funext fun j => congrArg mag (norm_eq m c t n r j))

/-- What the one point stores of the codes. -/
theorem point3 (c : Dev nD) (t : Fin cfg0.N) (y : S13x256x12800.Idx) :
    (show EReal from k0_pay2 (F := Ideal) (k0_pay4 (F := Ideal) (iblk m c 0 t) (iblk m c 1 t) (iblk m c 2 t)) (k0_pay5 (F := Ideal) (iblk m c 0 t) (iblk m c 1 t) (iblk m c 2 t))
      (k0_pay6 (F := Ideal) (iblk m c 0 t) (iblk m c 1 t) (iblk m c 2 t)) (k0_pay7 (F := Ideal) (iblk m c 0 t) (iblk m c 1 t) (iblk m c 2 t)) k0_pay8 y)
      = codes (m ((c : Thread nD τ).loc main_arg0)) (m ((c : Thread nD τ).loc main_arg1)) (m ((c : Thread nD τ).loc main_arg2)) y := by
  obtain ⟨n, r, j, rfl⟩ : ∃ n r j, y = ix3 n r j := ⟨y 0, y 1, y 2, eq_ix3 y⟩
  refine (pay2_apply _ _ _ _ _ n r j).trans ?_
  show _ = code _ _ _ j
  unfold code
  refine congrArg₂ clip (norm_eq m c t n r j) (congrArg (fun q : EReal => Ideal.exp2 (0 - q)) ?_)
  exact (level_apply _ _ _ _).trans (congrArg Cert.Pow2.level (quot_eq m c t n r))

/-- What the one point stores of the scales. -/
theorem point4 (c : Dev nD) (t : Fin cfg0.N) (y : S13x256x128.Idx) :
    (show EReal from k0_pay3 (F := Ideal) (k0_pay5 (F := Ideal) (iblk m c 0 t) (iblk m c 1 t) (iblk m c 2 t))
      (k0_pay6 (F := Ideal) (iblk m c 0 t) (iblk m c 1 t) (iblk m c 2 t)) (k0_pay7 (F := Ideal) (iblk m c 0 t) (iblk m c 1 t) (iblk m c 2 t)) k0_pay8 y)
      = scales (m ((c : Thread nD τ).loc main_arg0)) (m ((c : Thread nD τ).loc main_arg1)) (m ((c : Thread nD τ).loc main_arg2)) y := by
  obtain ⟨n, r, l, rfl⟩ : ∃ n r l, y = ix3 n r l := ⟨y 0, y 1, y 2, eq_ix3 y⟩
  refine (pay3_apply _ _ _ _ n r l).trans ?_
  show _ = scale _ _ _
  unfold scale
  exact congrArg Ideal.exp2 ((level_apply _ _ _ _).trans (congrArg Cert.Pow2.level (quot_eq m c t n r)))

end Cert.LnRefIdeal.Final

end
-- ==== Proof.LnReference.lean ====
/- The layer norm's reference after its run: its two result arrays are the codes and the scales that `Cert.LnSpec` states. -/
module

public import proofs.«01_k».proof.Proof.Gen.LnRefIdeal.Value
public import proofs.«01_k».proof.Proof.LnRefPoint

@[expose] public section

set_option maxRecDepth 16384

noncomputable section

open Idealize.ShloMosaic Idealize.ShloMosaic.TcCoe Idealize.SL.Sem
open Idealize.ShloMosaic.Pipeline (Dat)

namespace Cert.LnRefIdeal.Final

open Cert.LnRefIdeal Cert.LnRefIdeal.Gen

variable (m : (ℓ : Loc nD τ sig) → Buf (Elt Ideal) ℓ)

/-- The body's whole loads of its windows read the windows. -/
theorem pay9_eq (x0 : FVec Ideal S13x256x12800 .f32) (x1 x2 : FVec Ideal S1x1x12800 .f32) : k0_pay9 (F := Ideal) x0 x1 x2 = k0_pay5 (F := Ideal) x0 x1 x2 := by
  unfold k0_pay9 r0_0 r0_1
  simp (disch := decide) only [View.ld_unit_lit]

/-- The same for the next value the body keeps. -/
theorem pay10_eq (x0 : FVec Ideal S13x256x12800 .f32) (x1 x2 : FVec Ideal S1x1x12800 .f32) : k0_pay10 (F := Ideal) x0 x1 x2 = k0_pay6 (F := Ideal) x0 x1 x2 := by
  unfold k0_pay10 r0_0 r0_1
  simp (disch := decide) only [View.ld_unit_lit]

/-- And the next. -/
theorem pay11_eq (x0 : FVec Ideal S13x256x12800 .f32) (x1 x2 : FVec Ideal S1x1x12800 .f32) : k0_pay11 (F := Ideal) x0 x1 x2 = k0_pay7 (F := Ideal) x0 x1 x2 := by
  unfold k0_pay11 r0_0 r0_1
  simp (disch := decide) only [View.ld_unit_lit]

/-- The constant the body keeps. -/
theorem pay12_eq (x0 : FVec Ideal S13x256x12800 .f32) (x1 x2 : FVec Ideal S1x1x12800 .f32) : k0_pay12 (F := Ideal) x0 x1 x2 = k0_pay8 (F := Ideal) := by
  unfold k0_pay12
  rfl

/-- The codes after the run. -/
theorem final3 (c : Dev nD) : (dats m 0 c).arrAt 3 (cfgs 0).N
    = Cert.LnSpec.codes (m ((c : Thread nD τ).loc main_arg0)) (m ((c : Thread nD τ).loc main_arg1)) (m ((c : Thread nD τ).loc main_arg2)) := by
  refine (dats m 0 c).arrAt_eq_of_after_last 3 t0_0 (by decide +kernel) _ fun j => ?_
  blk_simp
  rw [after0_3]
  frame_out
  rw [pay9_eq, pay10_eq, pay11_eq, pay12_eq]
  exact point3 m c t0_0 j

/-- The scales after the run. -/
theorem final4 (c : Dev nD) : (dats m 0 c).arrAt 4 (cfgs 0).N
    = Cert.LnSpec.scales (m ((c : Thread nD τ).loc main_arg0)) (m ((c : Thread nD τ).loc main_arg1)) (m ((c : Thread nD τ).loc main_arg2)) := by
  refine (dats m 0 c).arrAt_eq_of_after_last 4 t0_0 (by decide +kernel) _ fun j => ?_
  blk_simp
  rw [after0_4]
  frame_out
  rw [pay9_eq, pay10_eq, pay11_eq, pay12_eq]
  exact point4 m c t0_0 j

end Cert.LnRefIdeal.Final

end
-- ==== Proof.LnAlgebraic.lean ====
/- The layer norm's kernel and its reference end with the same codes and scales, over the extended reals. -/
module

public import proofs.«01_k».proof.Defs
public import proofs.«01_k».proof.Proof.LnKernel
public import proofs.«01_k».proof.Proof.LnReference

@[expose] public section

noncomputable section

namespace Cert.Proof

open Idealize.ShloMosaic Idealize.SL.Sem

/-- Both runs end with the codes and the scales that `Cert.LnSpec` states, of the same arguments. -/
theorem ln_algebraic : Cert.algebraic_LnIdeal_LnRefIdeal (hLnIdeal := Cert.LnIdeal.Gen.facts)
    (hLnRefIdeal := Cert.LnRefIdeal.Gen.facts) := by
  intro m g m' g' _ hargs
  refine ⟨fun c => (Cert.LnIdeal.Body.dats m 0 c).arrAt 3 Cert.LnIdeal.cfg0.N,
    fun c => (Cert.LnIdeal.Body.dats m 0 c).arrAt 4 Cert.LnIdeal.cfg0.N, Cert.LnIdeal.Body.run_blocks m g, ?_⟩
  refine (θ_run Cert.LnRefIdeal.defs _ _).mono (fun r h c => ⟨(h c).1.trans ?_, (h c).2.1.trans ?_, (h c).2.2⟩)
    (Cert.LnRefIdeal.Value.run_blocks m' g')
  · obtain ⟨h0, h1, h2⟩ := hargs c
    refine (Cert.LnRefIdeal.Final.final3 m' c).trans (Eq.trans ?_ (Cert.LnIdeal.Final.final3 m c).symm)
    rw [h0, h1, h2]
  · obtain ⟨h0, h1, h2⟩ := hargs c
    refine (Cert.LnRefIdeal.Final.final4 m' c).trans (Eq.trans ?_ (Cert.LnIdeal.Final.final4 m c).symm)
    rw [h0, h1, h2]

end Cert.Proof

end
-- ==== Proof.lean ====
/- The proof of the claim: the frames of the kernel's programs and of their references, and the equality of each kernel's
   results with its reference's over the extended reals. -/
module

public import proofs.«01_k».proof.Defs
public import proofs.«01_k».proof.Proof.Gen.Ln
public import proofs.«01_k».proof.Proof.Gen.Ln.Skeleton
public import proofs.«01_k».proof.Proof.Gen.Ln.Launch
public import proofs.«01_k».proof.Proof.Gen.Ln.Points
public import proofs.«01_k».proof.Proof.Gen.Ln.Frame
public import proofs.«01_k».proof.Proof.Gen.Ln.Loops
public import proofs.«01_k».proof.Proof.Gen.LnIdeal
public import proofs.«01_k».proof.Proof.Gen.LnIdeal.Skeleton
public import proofs.«01_k».proof.Proof.Gen.LnIdeal.Launch
public import proofs.«01_k».proof.Proof.Gen.LnIdeal.Points
public import proofs.«01_k».proof.Proof.Gen.LnIdeal.Frame
public import proofs.«01_k».proof.Proof.Gen.LnIdeal.Loops
public import proofs.«01_k».proof.Proof.Gen.LnRefIdeal
public import proofs.«01_k».proof.Proof.Gen.LnRefIdeal.Skeleton
public import proofs.«01_k».proof.Proof.Gen.LnRefIdeal.Launch
public import proofs.«01_k».proof.Proof.Gen.LnRefIdeal.Points
public import proofs.«01_k».proof.Proof.Gen.LnRefIdeal.Frame
public import proofs.«01_k».proof.Proof.Gen.LnRefIdeal.Value
public import proofs.«01_k».proof.Proof.Gen.Fc1
public import proofs.«01_k».proof.Proof.Gen.Fc1.Skeleton
public import proofs.«01_k».proof.Proof.Gen.Fc1.Launch
public import proofs.«01_k».proof.Proof.Gen.Fc1.Points
public import proofs.«01_k».proof.Proof.Gen.Fc1.Frame
public import proofs.«01_k».proof.Proof.Gen.Fc1.Loops
public import proofs.«01_k».proof.Proof.Gen.Fc1Ideal
public import proofs.«01_k».proof.Proof.Gen.Fc1Ideal.Skeleton
public import proofs.«01_k».proof.Proof.Gen.Fc1Ideal.Launch
public import proofs.«01_k».proof.Proof.Gen.Fc1Ideal.Points
public import proofs.«01_k».proof.Proof.Gen.Fc1Ideal.Frame
public import proofs.«01_k».proof.Proof.Gen.Fc1Ideal.Loops
public import proofs.«01_k».proof.Proof.Gen.Fc1RefIdeal
public import proofs.«01_k».proof.Proof.Gen.Fc1RefIdeal.Skeleton
public import proofs.«01_k».proof.Proof.Gen.Fc1RefIdeal.Launch
public import proofs.«01_k».proof.Proof.Gen.Fc1RefIdeal.Points
public import proofs.«01_k».proof.Proof.Gen.Fc1RefIdeal.Frame
public import proofs.«01_k».proof.Proof.Gen.Fc1RefIdeal.Value
public import proofs.«01_k».proof.Proof.Gen.Fc2
public import proofs.«01_k».proof.Proof.Gen.Fc2.Skeleton
public import proofs.«01_k».proof.Proof.Gen.Fc2.Launch
public import proofs.«01_k».proof.Proof.Gen.Fc2.Points
public import proofs.«01_k».proof.Proof.Gen.Fc2.Frame
public import proofs.«01_k».proof.Proof.Gen.Fc2Ideal
public import proofs.«01_k».proof.Proof.Gen.Fc2Ideal.Skeleton
public import proofs.«01_k».proof.Proof.Gen.Fc2Ideal.Launch
public import proofs.«01_k».proof.Proof.Gen.Fc2Ideal.Points
public import proofs.«01_k».proof.Proof.Gen.Fc2Ideal.Frame
public import proofs.«01_k».proof.Proof.Gen.Fc2RefIdeal
public import proofs.«01_k».proof.Proof.Gen.Fc2RefIdeal.Skeleton
public import proofs.«01_k».proof.Proof.Gen.Fc2RefIdeal.Launch
public import proofs.«01_k».proof.Proof.Gen.Fc2RefIdeal.Points
public import proofs.«01_k».proof.Proof.Gen.Fc2RefIdeal.Frame
public import Idealize.ShloMosaic.Adequacy
public import Idealize.ShloMosaic.Init
public import proofs.«01_k».proof.Proof.Gen.Fc2Ideal.Value
public import proofs.«01_k».proof.Proof.Gen.Fc2RefIdeal.Value
public import proofs.«01_k».proof.Proof.Fc2Algebraic
public import proofs.«01_k».proof.Proof.Fc1Body
public import proofs.«01_k».proof.Proof.Fc1Algebraic
public import proofs.«01_k».proof.Proof.LnBody
public import proofs.«01_k».proof.Proof.LnPreserves
public import proofs.«01_k».proof.Proof.LnAlgebraic

@[expose] public section

noncomputable section

namespace Cert.Proof

open Idealize.ShloMosaic Idealize.SL.Sem

theorem claim : Cert.Claim := ⟨Cert.Ln.Gen.facts, Cert.LnIdeal.Gen.facts, Cert.LnRefIdeal.Gen.facts,
  Cert.Fc1.Gen.facts, Cert.Fc1Ideal.Gen.facts, Cert.Fc1RefIdeal.Gen.facts,
  Cert.Fc2.Gen.facts, Cert.Fc2Ideal.Gen.facts, Cert.Fc2RefIdeal.Gen.facts,
  fun m ρ _ => Cert.Ln.Body.frame m ρ, fun m ρ _ => Cert.LnIdeal.Body.frame m ρ, fun m ρ _ => Cert.LnRefIdeal.Gen.frame m ρ,
  fun m ρ _ => Cert.Fc1.Body.frame m ρ, fun m ρ _ => Cert.Fc1Ideal.Body.frame m ρ, fun m ρ _ => Cert.Fc1RefIdeal.Gen.frame m ρ,
  fun m ρ _ => Cert.Fc2.Gen.frame m ρ, fun m ρ _ => Cert.Fc2Ideal.Gen.frame m ρ, fun m ρ _ => Cert.Fc2RefIdeal.Gen.frame m ρ,
  ln_preserves, ln_algebraic, trivial, fc1_algebraic, trivial, fc2_algebraic⟩

end Cert.Proof

end
